-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PreP (m : (ℓ : Loc Cert.PreP.nD Cert.PreP.τ Cert.PreP.sig) → Buf (Elt Bits) ℓ) : Prop :=
  True

def Pre_PrePIdeal (m : (ℓ : Loc Cert.PrePIdeal.nD Cert.PrePIdeal.τ Cert.PrePIdeal.sig) → Buf (Elt Ideal) ℓ) : Prop :=
  True

def Pre_PrePRefIdeal (m : (ℓ : Loc Cert.PrePRefIdeal.nD Cert.PrePRefIdeal.τ Cert.PrePRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10))
      ∧ r.2.sem = fun _ => 0)

def quiescent_PreP [hPreP : Cert.PreP.Facts] : Prop :=
  ∀ (m : (ℓ : Loc Cert.PreP.nD Cert.PreP.τ Cert.PreP.sig) → Buf (Elt Bits) ℓ) (g : Dev Cert.PreP.nD → PrngReg), Pre_PreP m →
    θ_run (Cert.PreP.defs (F := Bits)) (onTc (τ := Cert.PreP.τ) (Cert.PreP.main (F := Bits))) ⟨m, fun _ => 0, g⟩ (fun r => (∀ c : Dev Cert.PreP.nD,
      r.2.mem ((c.tc : Thread Cert.PreP.nD Cert.PreP.τ).loc Cert.PreP.main_arg0) = m ((c.tc : Thread Cert.PreP.nD Cert.PreP.τ).loc Cert.PreP.main_arg0)
      ∧ r.2.mem ((c.tc : Thread Cert.PreP.nD Cert.PreP.τ).loc Cert.PreP.main_arg1) = m ((c.tc : Thread Cert.PreP.nD Cert.PreP.τ).loc Cert.PreP.main_arg1)
      ∧ r.2.mem ((c.tc : Thread Cert.PreP.nD Cert.PreP.τ).loc Cert.PreP.main_arg2) = m ((c.tc : Thread Cert.PreP.nD Cert.PreP.τ).loc Cert.PreP.main_arg2)
      ∧ r.2.mem ((c.tc : Thread Cert.PreP.nD Cert.PreP.τ).loc Cert.PreP.main_arg3) = m ((c.tc : Thread Cert.PreP.nD Cert.PreP.τ).loc Cert.PreP.main_arg3)
      ∧ r.2.mem ((c.tc : Thread Cert.PreP.nD Cert.PreP.τ).loc Cert.PreP.main_arg4) = m ((c.tc : Thread Cert.PreP.nD Cert.PreP.τ).loc Cert.PreP.main_arg4)
      ∧ r.2.mem ((c.tc : Thread Cert.PreP.nD Cert.PreP.τ).loc Cert.PreP.main_arg5) = m ((c.tc : Thread Cert.PreP.nD Cert.PreP.τ).loc Cert.PreP.main_arg5)
      ∧ r.2.mem ((c.tc : Thread Cert.PreP.nD Cert.PreP.τ).loc Cert.PreP.main_arg6) = m ((c.tc : Thread Cert.PreP.nD Cert.PreP.τ).loc Cert.PreP.main_arg6)
      ∧ r.2.mem ((c.tc : Thread Cert.PreP.nD Cert.PreP.τ).loc Cert.PreP.main_arg7) = m ((c.tc : Thread Cert.PreP.nD Cert.PreP.τ).loc Cert.PreP.main_arg7)
      ∧ r.2.mem ((c.tc : Thread Cert.PreP.nD Cert.PreP.τ).loc Cert.PreP.main_arg8) = m ((c.tc : Thread Cert.PreP.nD Cert.PreP.τ).loc Cert.PreP.main_arg8)
      ∧ r.2.mem ((c.tc : Thread Cert.PreP.nD Cert.PreP.τ).loc Cert.PreP.main_arg9) = m ((c.tc : Thread Cert.PreP.nD Cert.PreP.τ).loc Cert.PreP.main_arg9))
      ∧ r.2.sem = fun _ => 0)

def quiescent_PrePIdeal [hPrePIdeal : Cert.PrePIdeal.Facts] : Prop :=
  ∀ (m : (ℓ : Loc Cert.PrePIdeal.nD Cert.PrePIdeal.τ Cert.PrePIdeal.sig) → Buf (Elt Ideal) ℓ) (g : Dev Cert.PrePIdeal.nD → PrngReg), Pre_PrePIdeal m →
    θ_run (Cert.PrePIdeal.defs (F := Ideal)) (onTc (τ := Cert.PrePIdeal.τ) (Cert.PrePIdeal.main (F := Ideal))) ⟨m, fun _ => 0, g⟩ (fun r => (∀ c : Dev Cert.PrePIdeal.nD,
      r.2.mem ((c.tc : Thread Cert.PrePIdeal.nD Cert.PrePIdeal.τ).loc Cert.PrePIdeal.main_arg0) = m ((c.tc : Thread Cert.PrePIdeal.nD Cert.PrePIdeal.τ).loc Cert.PrePIdeal.main_arg0)
      ∧ r.2.mem ((c.tc : Thread Cert.PrePIdeal.nD Cert.PrePIdeal.τ).loc Cert.PrePIdeal.main_arg1) = m ((c.tc : Thread Cert.PrePIdeal.nD Cert.PrePIdeal.τ).loc Cert.PrePIdeal.main_arg1)
      ∧ r.2.mem ((c.tc : Thread Cert.PrePIdeal.nD Cert.PrePIdeal.τ).loc Cert.PrePIdeal.main_arg2) = m ((c.tc : Thread Cert.PrePIdeal.nD Cert.PrePIdeal.τ).loc Cert.PrePIdeal.main_arg2)
      ∧ r.2.mem ((c.tc : Thread Cert.PrePIdeal.nD Cert.PrePIdeal.τ).loc Cert.PrePIdeal.main_arg3) = m ((c.tc : Thread Cert.PrePIdeal.nD Cert.PrePIdeal.τ).loc Cert.PrePIdeal.main_arg3)
      ∧ r.2.mem ((c.tc : Thread Cert.PrePIdeal.nD Cert.PrePIdeal.τ).loc Cert.PrePIdeal.main_arg4) = m ((c.tc : Thread Cert.PrePIdeal.nD Cert.PrePIdeal.τ).loc Cert.PrePIdeal.main_arg4)
      ∧ r.2.mem ((c.tc : Thread Cert.PrePIdeal.nD Cert.PrePIdeal.τ).loc Cert.PrePIdeal.main_arg5) = m ((c.tc : Thread Cert.PrePIdeal.nD Cert.PrePIdeal.τ).loc Cert.PrePIdeal.main_arg5)
      ∧ r.2.mem ((c.tc : Thread Cert.PrePIdeal.nD Cert.PrePIdeal.τ).loc Cert.PrePIdeal.main_arg6) = m ((c.tc : Thread Cert.PrePIdeal.nD Cert.PrePIdeal.τ).loc Cert.PrePIdeal.main_arg6)
      ∧ r.2.mem ((c.tc : Thread Cert.PrePIdeal.nD Cert.PrePIdeal.τ).loc Cert.PrePIdeal.main_arg7) = m ((c.tc : Thread Cert.PrePIdeal.nD Cert.PrePIdeal.τ).loc Cert.PrePIdeal.main_arg7)
      ∧ r.2.mem ((c.tc : Thread Cert.PrePIdeal.nD Cert.PrePIdeal.τ).loc Cert.PrePIdeal.main_arg8) = m ((c.tc : Thread Cert.PrePIdeal.nD Cert.PrePIdeal.τ).loc Cert.PrePIdeal.main_arg8)
      ∧ r.2.mem ((c.tc : Thread Cert.PrePIdeal.nD Cert.PrePIdeal.τ).loc Cert.PrePIdeal.main_arg9) = m ((c.tc : Thread Cert.PrePIdeal.nD Cert.PrePIdeal.τ).loc Cert.PrePIdeal.main_arg9))
      ∧ r.2.sem = fun _ => 0)

def quiescent_PrePRefIdeal [hPrePRefIdeal : Cert.PrePRefIdeal.Facts] : Prop :=
  ∀ (m : (ℓ : Loc Cert.PrePRefIdeal.nD Cert.PrePRefIdeal.τ Cert.PrePRefIdeal.sig) → Buf (Elt Ideal) ℓ) (g : Dev Cert.PrePRefIdeal.nD → PrngReg), Pre_PrePRefIdeal m →
    θ_run (Cert.PrePRefIdeal.defs (F := Ideal)) (onTc (τ := Cert.PrePRefIdeal.τ) (Cert.PrePRefIdeal.main (F := Ideal))) ⟨m, fun _ => 0, g⟩ (fun r => (∀ c : Dev Cert.PrePRefIdeal.nD,
      r.2.mem ((c.tc : Thread Cert.PrePRefIdeal.nD Cert.PrePRefIdeal.τ).loc Cert.PrePRefIdeal.main_arg0) = m ((c.tc : Thread Cert.PrePRefIdeal.nD Cert.PrePRefIdeal.τ).loc Cert.PrePRefIdeal.main_arg0)
      ∧ r.2.mem ((c.tc : Thread Cert.PrePRefIdeal.nD Cert.PrePRefIdeal.τ).loc Cert.PrePRefIdeal.main_arg1) = m ((c.tc : Thread Cert.PrePRefIdeal.nD Cert.PrePRefIdeal.τ).loc Cert.PrePRefIdeal.main_arg1)
      ∧ r.2.mem ((c.tc : Thread Cert.PrePRefIdeal.nD Cert.PrePRefIdeal.τ).loc Cert.PrePRefIdeal.main_arg2) = m ((c.tc : Thread Cert.PrePRefIdeal.nD Cert.PrePRefIdeal.τ).loc Cert.PrePRefIdeal.main_arg2)
      ∧ r.2.mem ((c.tc : Thread Cert.PrePRefIdeal.nD Cert.PrePRefIdeal.τ).loc Cert.PrePRefIdeal.main_arg3) = m ((c.tc : Thread Cert.PrePRefIdeal.nD Cert.PrePRefIdeal.τ).loc Cert.PrePRefIdeal.main_arg3)
      ∧ r.2.mem ((c.tc : Thread Cert.PrePRefIdeal.nD Cert.PrePRefIdeal.τ).loc Cert.PrePRefIdeal.main_arg4) = m ((c.tc : Thread Cert.PrePRefIdeal.nD Cert.PrePRefIdeal.τ).loc Cert.PrePRefIdeal.main_arg4)
      ∧ r.2.mem ((c.tc : Thread Cert.PrePRefIdeal.nD Cert.PrePRefIdeal.τ).loc Cert.PrePRefIdeal.main_arg5) = m ((c.tc : Thread Cert.PrePRefIdeal.nD Cert.PrePRefIdeal.τ).loc Cert.PrePRefIdeal.main_arg5)
      ∧ r.2.mem ((c.tc : Thread Cert.PrePRefIdeal.nD Cert.PrePRefIdeal.τ).loc Cert.PrePRefIdeal.main_arg6) = m ((c.tc : Thread Cert.PrePRefIdeal.nD Cert.PrePRefIdeal.τ).loc Cert.PrePRefIdeal.main_arg6)
      ∧ r.2.mem ((c.tc : Thread Cert.PrePRefIdeal.nD Cert.PrePRefIdeal.τ).loc Cert.PrePRefIdeal.main_arg7) = m ((c.tc : Thread Cert.PrePRefIdeal.nD Cert.PrePRefIdeal.τ).loc Cert.PrePRefIdeal.main_arg7)
      ∧ r.2.mem ((c.tc : Thread Cert.PrePRefIdeal.nD Cert.PrePRefIdeal.τ).loc Cert.PrePRefIdeal.main_arg8) = m ((c.tc : Thread Cert.PrePRefIdeal.nD Cert.PrePRefIdeal.τ).loc Cert.PrePRefIdeal.main_arg8)
      ∧ r.2.mem ((c.tc : Thread Cert.PrePRefIdeal.nD Cert.PrePRefIdeal.τ).loc Cert.PrePRefIdeal.main_arg9) = m ((c.tc : Thread Cert.PrePRefIdeal.nD Cert.PrePRefIdeal.τ).loc Cert.PrePRefIdeal.main_arg9))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_ProjAb_ProjAbIdeal : Prop :=
  True

def algebraic_ProjAbIdeal_ProjAbRefIdeal [hProjAbIdeal : Cert.ProjAbIdeal.Facts] [hProjAbRefIdeal : Cert.ProjAbRefIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)) →
    ∃ (v0 : (c : Dev Cert.ProjAbIdeal.nD) → Buf (Elt Ideal) ((c.tc : Thread Cert.ProjAbIdeal.nD Cert.ProjAbIdeal.τ).loc Cert.ProjAbIdeal.main_v2)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v2) = v0 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          r.2.mem ((c.tc : Thread Cert.ProjAbRefIdeal.nD Cert.ProjAbRefIdeal.τ).loc Cert.ProjAbRefIdeal.main_v1) = v0 c
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v3)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v3) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v2) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v27) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v73_0)) (v1 : (c : Dev Cert.RopeIdeal.nD) → Buf (Elt Ideal) ((c.tc : Thread Cert.RopeIdeal.nD Cert.RopeIdeal.τ).loc Cert.RopeIdeal.main_v73_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v73_0) = v0 c
          ∧ r.2.mem ((c.tc : Thread Cert.RopeIdeal.nD Cert.RopeIdeal.τ).loc Cert.RopeIdeal.main_v73_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v79) = v0 c
          ∧ r.2.mem ((c.tc : Thread Cert.RopeRefIdeal.nD Cert.RopeRefIdeal.τ).loc Cert.RopeRefIdeal.main_v81) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)) →
    ∃ (v0 : (c : Dev Cert.PreIdeal.nD) → Buf (Elt Ideal) ((c.tc : Thread Cert.PreIdeal.nD Cert.PreIdeal.τ).loc Cert.PreIdeal.main_v22_0)) (v1 : (c : Dev Cert.PreIdeal.nD) → Buf (Elt Ideal) ((c.tc : Thread Cert.PreIdeal.nD Cert.PreIdeal.τ).loc Cert.PreIdeal.main_v22_1)) (v2 : (c : Dev Cert.PreIdeal.nD) → Buf (Elt Ideal) ((c.tc : Thread Cert.PreIdeal.nD Cert.PreIdeal.τ).loc Cert.PreIdeal.main_v22_2)) (v3 : (c : Dev Cert.PreIdeal.nD) → Buf (Elt Ideal) ((c.tc : Thread Cert.PreIdeal.nD Cert.PreIdeal.τ).loc Cert.PreIdeal.main_v22_3)) (v4 : (c : Dev Cert.PreIdeal.nD) → Buf (Elt Ideal) ((c.tc : Thread Cert.PreIdeal.nD Cert.PreIdeal.τ).loc Cert.PreIdeal.main_v22_6)) (v5 : (c : Dev Cert.PreIdeal.nD) → Buf (Elt Ideal) ((c.tc : Thread Cert.PreIdeal.nD Cert.PreIdeal.τ).loc Cert.PreIdeal.main_v22_8)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v22_0) = v0 c
          ∧ r.2.mem ((c.tc : Thread Cert.PreIdeal.nD Cert.PreIdeal.τ).loc Cert.PreIdeal.main_v22_1) = v1 c
          ∧ r.2.mem ((c.tc : Thread Cert.PreIdeal.nD Cert.PreIdeal.τ).loc Cert.PreIdeal.main_v22_2) = v2 c
          ∧ r.2.mem ((c.tc : Thread Cert.PreIdeal.nD Cert.PreIdeal.τ).loc Cert.PreIdeal.main_v22_3) = v3 c
          ∧ r.2.mem ((c.tc : Thread Cert.PreIdeal.nD Cert.PreIdeal.τ).loc Cert.PreIdeal.main_v22_6) = v4 c
          ∧ r.2.mem ((c.tc : Thread Cert.PreIdeal.nD Cert.PreIdeal.τ).loc Cert.PreIdeal.main_v22_8) = v5 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v53) = v0 c
          ∧ r.2.mem ((c.tc : Thread Cert.PreRefIdeal.nD Cert.PreRefIdeal.τ).loc Cert.PreRefIdeal.main_v54) = v1 c
          ∧ r.2.mem ((c.tc : Thread Cert.PreRefIdeal.nD Cert.PreRefIdeal.τ).loc Cert.PreRefIdeal.main_v55) = v2 c
          ∧ r.2.mem ((c.tc : Thread Cert.PreRefIdeal.nD Cert.PreRefIdeal.τ).loc Cert.PreRefIdeal.main_v56) = v3 c
          ∧ r.2.mem ((c.tc : Thread Cert.PreRefIdeal.nD Cert.PreRefIdeal.τ).loc Cert.PreRefIdeal.main_v57) = v4 c
          ∧ r.2.mem ((c.tc : Thread Cert.PreRefIdeal.nD Cert.PreRefIdeal.τ).loc Cert.PreRefIdeal.main_v58) = v5 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10))

def preserves_PreP_PrePIdeal : Prop :=
  True

def algebraic_PrePIdeal_PrePRefIdeal [hPrePIdeal : Cert.PrePIdeal.Facts] [hPrePRefIdeal : Cert.PrePRefIdeal.Facts] : Prop :=
  ∀ (m : (ℓ : Loc Cert.PrePIdeal.nD Cert.PrePIdeal.τ Cert.PrePIdeal.sig) → Buf (Elt Ideal) ℓ) (g : Dev Cert.PrePIdeal.nD → PrngReg)
    (m' : (ℓ : Loc Cert.PrePRefIdeal.nD Cert.PrePRefIdeal.τ Cert.PrePRefIdeal.sig) → Buf (Elt Ideal) ℓ) (g' : Dev Cert.PrePRefIdeal.nD → PrngReg), Pre_PrePIdeal m →
    (∀ c : Dev Cert.PrePIdeal.nD,
      m' ((c.tc : Thread Cert.PrePRefIdeal.nD Cert.PrePRefIdeal.τ).loc Cert.PrePRefIdeal.main_arg0) = m ((c.tc : Thread Cert.PrePIdeal.nD Cert.PrePIdeal.τ).loc Cert.PrePIdeal.main_arg0)
      ∧ m' ((c.tc : Thread Cert.PrePRefIdeal.nD Cert.PrePRefIdeal.τ).loc Cert.PrePRefIdeal.main_arg1) = m ((c.tc : Thread Cert.PrePIdeal.nD Cert.PrePIdeal.τ).loc Cert.PrePIdeal.main_arg1)
      ∧ m' ((c.tc : Thread Cert.PrePRefIdeal.nD Cert.PrePRefIdeal.τ).loc Cert.PrePRefIdeal.main_arg2) = m ((c.tc : Thread Cert.PrePIdeal.nD Cert.PrePIdeal.τ).loc Cert.PrePIdeal.main_arg2)
      ∧ m' ((c.tc : Thread Cert.PrePRefIdeal.nD Cert.PrePRefIdeal.τ).loc Cert.PrePRefIdeal.main_arg3) = m ((c.tc : Thread Cert.PrePIdeal.nD Cert.PrePIdeal.τ).loc Cert.PrePIdeal.main_arg3)
      ∧ m' ((c.tc : Thread Cert.PrePRefIdeal.nD Cert.PrePRefIdeal.τ).loc Cert.PrePRefIdeal.main_arg4) = m ((c.tc : Thread Cert.PrePIdeal.nD Cert.PrePIdeal.τ).loc Cert.PrePIdeal.main_arg4)
      ∧ m' ((c.tc : Thread Cert.PrePRefIdeal.nD Cert.PrePRefIdeal.τ).loc Cert.PrePRefIdeal.main_arg5) = m ((c.tc : Thread Cert.PrePIdeal.nD Cert.PrePIdeal.τ).loc Cert.PrePIdeal.main_arg5)
      ∧ m' ((c.tc : Thread Cert.PrePRefIdeal.nD Cert.PrePRefIdeal.τ).loc Cert.PrePRefIdeal.main_arg6) = m ((c.tc : Thread Cert.PrePIdeal.nD Cert.PrePIdeal.τ).loc Cert.PrePIdeal.main_arg6)
      ∧ m' ((c.tc : Thread Cert.PrePRefIdeal.nD Cert.PrePRefIdeal.τ).loc Cert.PrePRefIdeal.main_arg7) = m ((c.tc : Thread Cert.PrePIdeal.nD Cert.PrePIdeal.τ).loc Cert.PrePIdeal.main_arg7)
      ∧ m' ((c.tc : Thread Cert.PrePRefIdeal.nD Cert.PrePRefIdeal.τ).loc Cert.PrePRefIdeal.main_arg8) = m ((c.tc : Thread Cert.PrePIdeal.nD Cert.PrePIdeal.τ).loc Cert.PrePIdeal.main_arg8)
      ∧ m' ((c.tc : Thread Cert.PrePRefIdeal.nD Cert.PrePRefIdeal.τ).loc Cert.PrePRefIdeal.main_arg9) = m ((c.tc : Thread Cert.PrePIdeal.nD Cert.PrePIdeal.τ).loc Cert.PrePIdeal.main_arg9)) →
    ∃ (v0 : (c : Dev Cert.PrePIdeal.nD) → Buf (Elt Ideal) ((c.tc : Thread Cert.PrePIdeal.nD Cert.PrePIdeal.τ).loc Cert.PrePIdeal.main_v22_0)) (v1 : (c : Dev Cert.PrePIdeal.nD) → Buf (Elt Ideal) ((c.tc : Thread Cert.PrePIdeal.nD Cert.PrePIdeal.τ).loc Cert.PrePIdeal.main_v22_1)) (v2 : (c : Dev Cert.PrePIdeal.nD) → Buf (Elt Ideal) ((c.tc : Thread Cert.PrePIdeal.nD Cert.PrePIdeal.τ).loc Cert.PrePIdeal.main_v22_2)) (v3 : (c : Dev Cert.PrePIdeal.nD) → Buf (Elt Ideal) ((c.tc : Thread Cert.PrePIdeal.nD Cert.PrePIdeal.τ).loc Cert.PrePIdeal.main_v22_3)) (v4 : (c : Dev Cert.PrePIdeal.nD) → Buf (Elt Ideal) ((c.tc : Thread Cert.PrePIdeal.nD Cert.PrePIdeal.τ).loc Cert.PrePIdeal.main_v22_6)) (v5 : (c : Dev Cert.PrePIdeal.nD) → Buf (Elt Ideal) ((c.tc : Thread Cert.PrePIdeal.nD Cert.PrePIdeal.τ).loc Cert.PrePIdeal.main_v22_8)),
      θ_run (Cert.PrePIdeal.defs (F := Ideal)) (onTc (τ := Cert.PrePIdeal.τ) (Cert.PrePIdeal.main (F := Ideal))) ⟨m, fun _ => 0, g⟩ (fun r => ∀ c : Dev Cert.PrePIdeal.nD,
          r.2.mem ((c.tc : Thread Cert.PrePIdeal.nD Cert.PrePIdeal.τ).loc Cert.PrePIdeal.main_v22_0) = v0 c
          ∧ r.2.mem ((c.tc : Thread Cert.PrePIdeal.nD Cert.PrePIdeal.τ).loc Cert.PrePIdeal.main_v22_1) = v1 c
          ∧ r.2.mem ((c.tc : Thread Cert.PrePIdeal.nD Cert.PrePIdeal.τ).loc Cert.PrePIdeal.main_v22_2) = v2 c
          ∧ r.2.mem ((c.tc : Thread Cert.PrePIdeal.nD Cert.PrePIdeal.τ).loc Cert.PrePIdeal.main_v22_3) = v3 c
          ∧ r.2.mem ((c.tc : Thread Cert.PrePIdeal.nD Cert.PrePIdeal.τ).loc Cert.PrePIdeal.main_v22_6) = v4 c
          ∧ r.2.mem ((c.tc : Thread Cert.PrePIdeal.nD Cert.PrePIdeal.τ).loc Cert.PrePIdeal.main_v22_8) = v5 c
          ∧ r.2.mem ((c.tc : Thread Cert.PrePIdeal.nD Cert.PrePIdeal.τ).loc Cert.PrePIdeal.main_arg0) = m ((c.tc : Thread Cert.PrePIdeal.nD Cert.PrePIdeal.τ).loc Cert.PrePIdeal.main_arg0)
          ∧ r.2.mem ((c.tc : Thread Cert.PrePIdeal.nD Cert.PrePIdeal.τ).loc Cert.PrePIdeal.main_arg1) = m ((c.tc : Thread Cert.PrePIdeal.nD Cert.PrePIdeal.τ).loc Cert.PrePIdeal.main_arg1)
          ∧ r.2.mem ((c.tc : Thread Cert.PrePIdeal.nD Cert.PrePIdeal.τ).loc Cert.PrePIdeal.main_arg2) = m ((c.tc : Thread Cert.PrePIdeal.nD Cert.PrePIdeal.τ).loc Cert.PrePIdeal.main_arg2)
          ∧ r.2.mem ((c.tc : Thread Cert.PrePIdeal.nD Cert.PrePIdeal.τ).loc Cert.PrePIdeal.main_arg3) = m ((c.tc : Thread Cert.PrePIdeal.nD Cert.PrePIdeal.τ).loc Cert.PrePIdeal.main_arg3)
          ∧ r.2.mem ((c.tc : Thread Cert.PrePIdeal.nD Cert.PrePIdeal.τ).loc Cert.PrePIdeal.main_arg4) = m ((c.tc : Thread Cert.PrePIdeal.nD Cert.PrePIdeal.τ).loc Cert.PrePIdeal.main_arg4)
          ∧ r.2.mem ((c.tc : Thread Cert.PrePIdeal.nD Cert.PrePIdeal.τ).loc Cert.PrePIdeal.main_arg5) = m ((c.tc : Thread Cert.PrePIdeal.nD Cert.PrePIdeal.τ).loc Cert.PrePIdeal.main_arg5)
          ∧ r.2.mem ((c.tc : Thread Cert.PrePIdeal.nD Cert.PrePIdeal.τ).loc Cert.PrePIdeal.main_arg6) = m ((c.tc : Thread Cert.PrePIdeal.nD Cert.PrePIdeal.τ).loc Cert.PrePIdeal.main_arg6)
          ∧ r.2.mem ((c.tc : Thread Cert.PrePIdeal.nD Cert.PrePIdeal.τ).loc Cert.PrePIdeal.main_arg7) = m ((c.tc : Thread Cert.PrePIdeal.nD Cert.PrePIdeal.τ).loc Cert.PrePIdeal.main_arg7)
          ∧ r.2.mem ((c.tc : Thread Cert.PrePIdeal.nD Cert.PrePIdeal.τ).loc Cert.PrePIdeal.main_arg8) = m ((c.tc : Thread Cert.PrePIdeal.nD Cert.PrePIdeal.τ).loc Cert.PrePIdeal.main_arg8)
          ∧ r.2.mem ((c.tc : Thread Cert.PrePIdeal.nD Cert.PrePIdeal.τ).loc Cert.PrePIdeal.main_arg9) = m ((c.tc : Thread Cert.PrePIdeal.nD Cert.PrePIdeal.τ).loc Cert.PrePIdeal.main_arg9))
      ∧ θ_run (Cert.PrePRefIdeal.defs (F := Ideal)) (onTc (τ := Cert.PrePRefIdeal.τ) (Cert.PrePRefIdeal.main (F := Ideal))) ⟨m', fun _ => 0, g'⟩ (fun r => ∀ c : Dev Cert.PrePRefIdeal.nD,
          r.2.mem ((c.tc : Thread Cert.PrePRefIdeal.nD Cert.PrePRefIdeal.τ).loc Cert.PrePRefIdeal.main_v54) = v0 c
          ∧ r.2.mem ((c.tc : Thread Cert.PrePRefIdeal.nD Cert.PrePRefIdeal.τ).loc Cert.PrePRefIdeal.main_v55) = v1 c
          ∧ r.2.mem ((c.tc : Thread Cert.PrePRefIdeal.nD Cert.PrePRefIdeal.τ).loc Cert.PrePRefIdeal.main_v56) = v2 c
          ∧ r.2.mem ((c.tc : Thread Cert.PrePRefIdeal.nD Cert.PrePRefIdeal.τ).loc Cert.PrePRefIdeal.main_v57) = v3 c
          ∧ r.2.mem ((c.tc : Thread Cert.PrePRefIdeal.nD Cert.PrePRefIdeal.τ).loc Cert.PrePRefIdeal.main_v58) = v4 c
          ∧ r.2.mem ((c.tc : Thread Cert.PrePRefIdeal.nD Cert.PrePRefIdeal.τ).loc Cert.PrePRefIdeal.main_v59) = v5 c
          ∧ r.2.mem ((c.tc : Thread Cert.PrePRefIdeal.nD Cert.PrePRefIdeal.τ).loc Cert.PrePRefIdeal.main_arg0) = m' ((c.tc : Thread Cert.PrePRefIdeal.nD Cert.PrePRefIdeal.τ).loc Cert.PrePRefIdeal.main_arg0)
          ∧ r.2.mem ((c.tc : Thread Cert.PrePRefIdeal.nD Cert.PrePRefIdeal.τ).loc Cert.PrePRefIdeal.main_arg1) = m' ((c.tc : Thread Cert.PrePRefIdeal.nD Cert.PrePRefIdeal.τ).loc Cert.PrePRefIdeal.main_arg1)
          ∧ r.2.mem ((c.tc : Thread Cert.PrePRefIdeal.nD Cert.PrePRefIdeal.τ).loc Cert.PrePRefIdeal.main_arg2) = m' ((c.tc : Thread Cert.PrePRefIdeal.nD Cert.PrePRefIdeal.τ).loc Cert.PrePRefIdeal.main_arg2)
          ∧ r.2.mem ((c.tc : Thread Cert.PrePRefIdeal.nD Cert.PrePRefIdeal.τ).loc Cert.PrePRefIdeal.main_arg3) = m' ((c.tc : Thread Cert.PrePRefIdeal.nD Cert.PrePRefIdeal.τ).loc Cert.PrePRefIdeal.main_arg3)
          ∧ r.2.mem ((c.tc : Thread Cert.PrePRefIdeal.nD Cert.PrePRefIdeal.τ).loc Cert.PrePRefIdeal.main_arg4) = m' ((c.tc : Thread Cert.PrePRefIdeal.nD Cert.PrePRefIdeal.τ).loc Cert.PrePRefIdeal.main_arg4)
          ∧ r.2.mem ((c.tc : Thread Cert.PrePRefIdeal.nD Cert.PrePRefIdeal.τ).loc Cert.PrePRefIdeal.main_arg5) = m' ((c.tc : Thread Cert.PrePRefIdeal.nD Cert.PrePRefIdeal.τ).loc Cert.PrePRefIdeal.main_arg5)
          ∧ r.2.mem ((c.tc : Thread Cert.PrePRefIdeal.nD Cert.PrePRefIdeal.τ).loc Cert.PrePRefIdeal.main_arg6) = m' ((c.tc : Thread Cert.PrePRefIdeal.nD Cert.PrePRefIdeal.τ).loc Cert.PrePRefIdeal.main_arg6)
          ∧ r.2.mem ((c.tc : Thread Cert.PrePRefIdeal.nD Cert.PrePRefIdeal.τ).loc Cert.PrePRefIdeal.main_arg7) = m' ((c.tc : Thread Cert.PrePRefIdeal.nD Cert.PrePRefIdeal.τ).loc Cert.PrePRefIdeal.main_arg7)
          ∧ r.2.mem ((c.tc : Thread Cert.PrePRefIdeal.nD Cert.PrePRefIdeal.τ).loc Cert.PrePRefIdeal.main_arg8) = m' ((c.tc : Thread Cert.PrePRefIdeal.nD Cert.PrePRefIdeal.τ).loc Cert.PrePRefIdeal.main_arg8)
          ∧ r.2.mem ((c.tc : Thread Cert.PrePRefIdeal.nD Cert.PrePRefIdeal.τ).loc Cert.PrePRefIdeal.main_arg9) = m' ((c.tc : Thread Cert.PrePRefIdeal.nD Cert.PrePRefIdeal.τ).loc Cert.PrePRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProjAb : Cert.ProjAb.Facts) (hProjAbIdeal : Cert.ProjAbIdeal.Facts) (hProjAbRefIdeal : Cert.ProjAbRefIdeal.Facts) (hProjC : Cert.ProjC.Facts) (hProjCIdeal : Cert.ProjCIdeal.Facts) (hProjCRefIdeal : Cert.ProjCRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hRope : Cert.Rope.Facts) (hRopeIdeal : Cert.RopeIdeal.Facts) (hRopeRefIdeal : Cert.RopeRefIdeal.Facts) (hPre : Cert.Pre.Facts) (hPreIdeal : Cert.PreIdeal.Facts) (hPreRefIdeal : Cert.PreRefIdeal.Facts) (hPreP : Cert.PreP.Facts) (hPrePIdeal : Cert.PrePIdeal.Facts) (hPrePRefIdeal : Cert.PrePRefIdeal.Facts) (hPre_finite_inputs : Cert.Pre_finite_inputs.Facts),
    quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Rope (hRope := hRope)
    ∧ quiescent_RopeIdeal (hRopeIdeal := hRopeIdeal)
    ∧ quiescent_RopeRefIdeal (hRopeRefIdeal := hRopeRefIdeal)
    ∧ quiescent_Pre (hPre := hPre)
    ∧ quiescent_PreIdeal (hPreIdeal := hPreIdeal)
    ∧ quiescent_PreRefIdeal (hPreRefIdeal := hPreRefIdeal)
    ∧ quiescent_PreP (hPreP := hPreP)
    ∧ quiescent_PrePIdeal (hPrePIdeal := hPrePIdeal)
    ∧ quiescent_PrePRefIdeal (hPrePRefIdeal := hPrePRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_ProjAb_ProjAbIdeal
    ∧ algebraic_ProjAbIdeal_ProjAbRefIdeal (hProjAbIdeal := hProjAbIdeal) (hProjAbRefIdeal := hProjAbRefIdeal)
    ∧ preserves_ProjC_ProjCIdeal
    ∧ algebraic_ProjCIdeal_ProjCRefIdeal (hProjCIdeal := hProjCIdeal) (hProjCRefIdeal := hProjCRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_Rope_RopeIdeal
    ∧ algebraic_RopeIdeal_RopeRefIdeal (hRopeIdeal := hRopeIdeal) (hRopeRefIdeal := hRopeRefIdeal)
    ∧ preserves_Pre_PreIdeal
    ∧ algebraic_PreIdeal_PreRefIdeal (hPreIdeal := hPreIdeal) (hPreRefIdeal := hPreRefIdeal)
    ∧ preserves_PreP_PrePIdeal
    ∧ algebraic_PrePIdeal_PrePRefIdeal (hPrePIdeal := hPrePIdeal) (hPrePRefIdeal := hPrePRefIdeal)
-- ==== Pre_finite_inputs.lean ====
abbrev S17408x2048 : Shape := ⟨2, ![17408, 2048]⟩
abbrev S17408x6144 : Shape := ⟨2, ![17408, 6144]⟩
abbrev S4x64 : Shape := ⟨2, ![4, 64]⟩
abbrev S128 : Shape := ⟨1, ![128]⟩
abbrev S_ : Shape := ⟨0, ![]⟩

class Facts : Prop where
  bcast_S_S17408x2048 : S_.BroadcastsInDim S17408x2048 (![] : Fin 0 → Fin S17408x2048.rank)
  bcast_S_S17408x6144 : S_.BroadcastsInDim S17408x6144 (![] : Fin 0 → Fin S17408x6144.rank)
  bcast_S_S4x64 : S_.BroadcastsInDim S4x64 (![] : Fin 0 → Fin S4x64.rank)

variable [Facts]

def fn {F : FTy → Type} [FloatOps F] (main_arg0 : FVec F S17408x2048 .f32) (main_arg1 : FVec F S17408x6144 .f32) (main_arg2 : FVec F S4x64 .f32) (main_arg3 : FVec F S128 .f32) : IVec S17408x2048 1 × IVec S17408x6144 1 × IVec S4x64 1 :=
  let main_v0 : FVec F S17408x2048 .f32 := Host.absf main_arg0
  let main_cst : FVec F S_ .f32 := constant S_ .f32 0x7F800000#32
  let main_v1 : FVec F S17408x2048 .f32 := broadcastInDim S17408x2048 ![] bcast_S_S17408x2048 main_cst
  let main_v2 : IVec S17408x2048 1 := cmpf .olt main_v0 main_v1
  let main_v3 : FVec F S17408x6144 .f32 := Host.absf main_arg1
  let main_cst_0 : FVec F S_ .f32 := constant S_ .f32 0x7F800000#32
  let main_v4 : FVec F S17408x6144 .f32 := broadcastInDim S17408x6144 ![] bcast_S_S17408x6144 main_cst_0
  let main_v5 : IVec S17408x6144 1 := cmpf .olt main_v3 main_v4
  let main_v6 : FVec F S4x64 .f32 := Host.absf main_arg2
  let main_cst_1 : FVec F S_ .f32 := constant S_ .f32 0x7F800000#32
  let main_v7 : FVec F S4x64 .f32 := broadcastInDim S4x64 ![] bcast_S_S4x64 main_cst_1
  let main_v8 : IVec S4x64 1 := cmpf .olt main_v6 main_v7
  (main_v2, main_v5, main_v8)
-- ==== Attn.lean ====
abbrev S17408x2048 : Shape := ⟨2, ![17408, 2048]⟩
abbrev S17408x6144 : Shape := ⟨2, ![17408, 6144]⟩
abbrev S4x64 : Shape := ⟨2, ![4, 64]⟩
abbrev S128 : Shape := ⟨1, ![128]⟩
abbrev S1x128 : Shape := ⟨2, ![1, 128]⟩
abbrev S16384x1024 : Shape := ⟨2, ![16384, 1024]⟩
abbrev S256x128 : Shape := ⟨2, ![256, 128]⟩
abbrev S8192x128 : Shape := ⟨2, ![8192, 128]⟩
abbrev S1x64 : Shape := ⟨2, ![1, 64]⟩
abbrev S1 : Shape := ⟨1, ![1]⟩
abbrev S1x1 : Shape := ⟨2, ![1, 1]⟩
abbrev S256x1 : Shape := ⟨2, ![256, 1]⟩
abbrev S256x256 : Shape := ⟨2, ![256, 256]⟩
abbrev S256 : Shape := ⟨1, ![256]⟩

abbrev nBuf : Space → Nat
  | .hbm => 6
  | .vmem => 12
  | .smem => 0
  | _ => 0

abbrev bufTy : (tb : Table) → Fin (tcTables nBuf tb) → BufTy
  | .hbm, ⟨0, _⟩ => ⟨S17408x2048, .f32⟩
  | .hbm, ⟨1, _⟩ => ⟨S17408x6144, .f32⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S16384x1024, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S4x64, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S8192x128, .bf16⟩
  | .local _ .vmem, ⟨11, _⟩ => ⟨S8192x128, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32_13 : BitVec 32 := 0#32
  let arg2 : BitVec 32 := BitVec.ofNat 32 (i 2).val
  let v36 : BitVec 32 := Scalar.subi arg2 c0_i32_13
  let c1_i32 : BitVec 32 := 1#32
  let v38 : BitVec 32 := Scalar.divsi v36 c1_i32
  let v39 : BitVec 32 := Scalar.muli v38 c1_i32
  let v40 : BitVec 32 := Scalar.addi c0_i32_13 v39
  let c1_i32_14 : BitVec 32 := 1#32
  ⟨c0_i32_13, v40, c1_i32_14⟩
def k0_mult1 (i : grid0.Coords) (k0_t1 : Fin (k0_t1_loop i).trips) : BitVec 32 :=
  let c0_i32_13 : BitVec 32 := 0#32
  let c1_i32_14 : BitVec 32 := 1#32
  let arg11 : BitVec 32 := Scf.iv c0_i32_13 c1_i32_14 k0_t1
  let c256_i32_50 : BitVec 32 := 256#32
  let v164 : BitVec 32 := Scalar.muli arg11 c256_i32_50
  v164
def k0_off1 (i : grid0.Coords) (k0_t1 : Fin (k0_t1_loop i).trips) : Fin 2 → Nat :=
  let c0_i32_13 : BitVec 32 := 0#32
  let c1_i32_14 : BitVec 32 := 1#32
  let arg11 : BitVec 32 := Scf.iv c0_i32_13 c1_i32_14 k0_t1
  let c256_i32_50 : BitVec 32 := 256#32
  let v164 : BitVec 32 := Scalar.muli arg11 c256_i32_50
  let v165 : BitVec 32 := v164
  let v166 : Index := Scalar.indexCast v165
  let c0_51 : Index := 0#32
  ![v166.toNat, 0]
@[reducible] def k0_t2_loop (i : grid0.Coords) : Scf.Loop 32 :=
  let c0_i32_13 : BitVec 32 := 0#32
  let arg2 : BitVec 32 := BitVec.ofNat 32 (i 2).val
  let v36 : BitVec 32 := Scalar.subi arg2 c0_i32_13
  let c1_i32 : BitVec 32 := 1#32
  let v38 : BitVec 32 := Scalar.divsi v36 c1_i32
  let v39 : BitVec 32 := Scalar.muli v38 c1_i32
  let v40 : BitVec 32 := Scalar.addi c0_i32_13 v39
  let v37 : BitVec 32 := Scalar.addi c0_i32_13 v36
  let c1_i32_15 : BitVec 32 := 1#32
  ⟨v40, v37, c1_i32_15⟩
def k0_mult2 (i : grid0.Coords) (k0_t2 : Fin (k0_t2_loop i).trips) : BitVec 32 :=
  let c0_i32_13 : BitVec 32 := 0#32
  let arg2 : BitVec 32 := BitVec.ofNat 32 (i 2).val
  let v36 : BitVec 32 := Scalar.subi arg2 c0_i32_13
  let c1_i32 : BitVec 32 := 1#32
  let v38 : BitVec 32 := Scalar.divsi v36 c1_i32
  let v39 : BitVec 32 := Scalar.muli v38 c1_i32
  let v40 : BitVec 32 := Scalar.addi c0_i32_13 v39
  let c1_i32_15 : BitVec 32 := 1#32
  let arg11 : BitVec 32 := Scf.iv v40 c1_i32_15 k0_t2
  let c256_i32_50 : BitVec 32 := 256#32
  let v164 : BitVec 32 := Scalar.muli arg11 c256_i32_50
  v164
def k0_off2 (i : grid0.Coords) (k0_t2 : Fin (k0_t2_loop i).trips) : Fin 2 → Nat :=
  let c0_i32_13 : BitVec 32 := 0#32
  let arg2 : BitVec 32 := BitVec.ofNat 32 (i 2).val
  let v36 : BitVec 32 := Scalar.subi arg2 c0_i32_13
  let c1_i32 : BitVec 32 := 1#32
  let v38 : BitVec 32 := Scalar.divsi v36 c1_i32
  let v39 : BitVec 32 := Scalar.muli v38 c1_i32
  let v40 : BitVec 32 := Scalar.addi c0_i32_13 v39
  let c1_i32_15 : BitVec 32 := 1#32
  let arg11 : BitVec 32 := Scf.iv v40 c1_i32_15 k0_t2
  let c256_i32_50 : BitVec 32 := 256#32
  let v164 : BitVec 32 := Scalar.muli arg11 c256_i32_50
  let v165 : BitVec 32 := v164
  let v166 : Index := Scalar.indexCast v165
  let c0_51 : Index := 0#32
  ![v166.toNat, 0]
def k0_mult3 (i : grid0.Coords) : BitVec 32 :=
  let arg2 : BitVec 32 := BitVec.ofNat 32 (i 2).val
  let c256_i32 : BitVec 32 := 256#32
  let v94 : BitVec 32 := Scalar.muli arg2 c256_i32
  v94
def k0_off3 (i : grid0.Coords) : Fin 2 → Nat :=
  let arg2 : BitVec 32 := BitVec.ofNat 32 (i 2).val
  let c256_i32 : BitVec 32 := 256#32
  let v94 : BitVec 32 := Scalar.muli arg2 c256_i32
  let v95 : BitVec 32 := v94
  let v96 : Index := Scalar.indexCast v95
  let c0_30 : Index := 0#32
  ![v96.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S17408x2048 : Shape := ⟨2, ![17408, 2048]⟩
abbrev S17408x6144 : Shape := ⟨2, ![17408, 6144]⟩
abbrev S4x64 : Shape := ⟨2, ![4, 64]⟩
abbrev S128 : Shape := ⟨1, ![128]⟩
abbrev S16384x1024 : Shape := ⟨2, ![16384, 1024]⟩
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x2x8x8192x8192 : Shape := ⟨5, ![2, 2, 8, 8192, 8192]⟩
abbrev S2x2x8x8192 : Shape := ⟨4, ![2, 2, 8, 8192]⟩
abbrev S2x2x8x8192x1 : Shape := ⟨5, ![2, 2, 8, 8192, 1]⟩
abbrev S2x1x8x8192x8192 : Shape := ⟨5, ![2, 1, 8, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x6144, .f32⟩
  | .hbm, ⟨2, _⟩ => ⟨S4x64, .f32⟩
  | .hbm, ⟨3, _⟩ => ⟨S128, .f32⟩
  | .hbm, ⟨4, _⟩ => ⟨S16384x1024, .f32⟩
  | .hbm, ⟨5, _⟩ => ⟨S2x8192x8x2x64, .f32⟩
  | .hbm, ⟨6, _⟩ => ⟨S16384x1024, .f32⟩
  | .hbm, ⟨7, _⟩ => ⟨S2x8192x8x2x64, .f32⟩
  | .hbm, ⟨8, _⟩ => ⟨S16384x1024, .f32⟩
  | .hbm, ⟨9, _⟩ => ⟨S2x8192x8x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .i32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S1x8192, .i32⟩
  | .hbm, ⟨49, _⟩ => ⟨S8192x1, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S2x2x8x8192x8192, .f32⟩
  | .hbm, ⟨54, _⟩ => ⟨S_, .f32⟩
  | .hbm, ⟨55, _⟩ => ⟨S2x2x8x8192x8192, .f32⟩
  | .hbm, ⟨56, _⟩ => ⟨S2x2x8x8192x8192, .f32⟩
  | .hbm, ⟨57, _⟩ => ⟨S_, .f32⟩
  | .hbm, ⟨58, _⟩ => ⟨S_, .f32⟩
  | .hbm, ⟨59, _⟩ => ⟨S2x2x8x8192x8192, .i1⟩
  | .hbm, ⟨60, _⟩ => ⟨S2x2x8x8192x8192, .f32⟩
  | .hbm, ⟨61, _⟩ => ⟨S2x2x8x8192x8192, .f32⟩
  | .hbm, ⟨62, _⟩ => ⟨S_, .f32⟩
  | .hbm, ⟨63, _⟩ => ⟨S2x2x8x8192, .f32⟩
  | .hbm, ⟨64, _⟩ => ⟨S_, .f32⟩
  | .hbm, ⟨65, _⟩ => ⟨S2x2x8x8192, .f32⟩
  | .hbm, ⟨66, _⟩ => ⟨S2x2x8x8192, .f32⟩
  | .hbm, ⟨67, _⟩ => ⟨S2x2x8x8192x1, .f32⟩
  | .hbm, ⟨68, _⟩ => ⟨S2x2x8x8192x8192, .f32⟩
  | .hbm, ⟨69, _⟩ => ⟨S2x2x8x8192x8192, .f32⟩
  | .hbm, ⟨70, _⟩ => ⟨S2x2x8x8192x8192, .f32⟩
  | .hbm, ⟨71, _⟩ => ⟨S_, .f32⟩
  | .hbm, ⟨72, _⟩ => ⟨S2x2x8x8192, .f32⟩
  | .hbm, ⟨73, _⟩ => ⟨S2x2x8x8192x1, .f32⟩
  | .hbm, ⟨74, _⟩ => ⟨S2x2x8x8192x8192, .f32⟩
  | .hbm, ⟨75, _⟩ => ⟨S2x2x8x8192x8192, .f32⟩
  | .hbm, ⟨76, _⟩ => ⟨S2x1x8x8192x8192, .f32⟩
  | .hbm, ⟨77, _⟩ => ⟨S2x8x8192x8192, .f32⟩
  | .hbm, ⟨78, _⟩ => ⟨S2x1x8x8192x8192, .f32⟩
  | .hbm, ⟨79, _⟩ => ⟨S2x8x8192x8192, .f32⟩
  | .hbm, ⟨80, _⟩ => ⟨S2x8x8192x8192, .f32⟩
  | .hbm, ⟨81, _⟩ => ⟨S2x8x8192x8192, .f32⟩
  | .hbm, ⟨82, _⟩ => ⟨S2x8x8192x8192, .f32⟩
  | .hbm, ⟨83, _⟩ => ⟨S2x8x128x8192, .f32⟩
  | .hbm, ⟨84, _⟩ => ⟨S2x8192x8x128, .f32⟩
  | .hbm, ⟨85, _⟩ => ⟨S2x8192x8x128, .f32⟩
  | .hbm, ⟨86, _⟩ => ⟨S_, .f32⟩
  | .hbm, ⟨87, _⟩ => ⟨S2x8192x8, .f32⟩
  | .hbm, ⟨88, _⟩ => ⟨S2x8192x8x1, .f32⟩
  | .hbm, ⟨89, _⟩ => ⟨S_, .f32⟩
  | .hbm, ⟨90, _⟩ => ⟨S2x8192x8x1, .f32⟩
  | .hbm, ⟨91, _⟩ => ⟨S2x8192x8x1, .f32⟩
  | .hbm, ⟨92, _⟩ => ⟨S_, .f32⟩
  | .hbm, ⟨93, _⟩ => ⟨S2x8192x8x1, .f32⟩
  | .hbm, ⟨94, _⟩ => ⟨S2x8192x8x1, .f32⟩
  | .hbm, ⟨95, _⟩ => ⟨S2x8192x8x1, .f32⟩
  | .hbm, ⟨96, _⟩ => ⟨S2x8192x8x128, .f32⟩
  | .hbm, ⟨97, _⟩ => ⟨S2x8192x8x128, .f32⟩
  | .hbm, ⟨98, _⟩ => ⟨S1x1x1x128, .f32⟩
  | .hbm, ⟨99, _⟩ => ⟨S2x8192x8x128, .f32⟩
  | .hbm, ⟨100, _⟩ => ⟨S2x8192x8x128, .f32⟩
  | .hbm, ⟨101, _⟩ => ⟨S_, .f32⟩
  | .hbm, ⟨102, _⟩ => ⟨S2x8192x8x128, .f32⟩
  | .hbm, ⟨103, _⟩ => ⟨S2x8192x8x128, .f32⟩
  | .hbm, ⟨104, _⟩ => ⟨S16384x1024, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_cst_4 : Ref sig .tc := ⟨.hbm, 62, rfl⟩
abbrev main_v33 : Ref sig .tc := ⟨.hbm, 63, rfl⟩
abbrev main_cst_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_10 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩

abbrev nD : Nat := 1
abbrev τ : Topo := Topo.v7x

variable {F : FTy → Type} [FloatOps F]
-- ==== Ffn.lean ====
abbrev S17408x2048 : Shape := ⟨2, ![17408, 2048]⟩
abbrev S2048x11008 : Shape := ⟨2, ![2048, 11008]⟩
abbrev S5504x2048 : Shape := ⟨2, ![5504, 2048]⟩
abbrev S2048 : Shape := ⟨1, ![2048]⟩
abbrev S2048x5504 : Shape := ⟨2, ![2048, 5504]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 22
  | .vmem => 14
  | .smem => 0
  | _ => 0

abbrev bufTy : (tb : Table) → Fin (tcTables nBuf tb) → BufTy
  | .hbm, ⟨0, _⟩ => ⟨S17408x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S2048x5504, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S2048x5504, .f32⟩
  | .hbm, ⟨11, _⟩ => ⟨S2048x5504, .bf16⟩
  | .hbm, ⟨12, _⟩ => ⟨S_, .i32⟩
  | .hbm, ⟨13, _⟩ => ⟨S_, .bf16⟩
  | .hbm, ⟨14, _⟩ => ⟨S2048x5632, .bf16⟩
  | .hbm, ⟨15, _⟩ => ⟨S5504x2048, .bf16⟩
  | .hbm, ⟨16, _⟩ => ⟨S_, .i32⟩
  | .hbm, ⟨17, _⟩ => ⟨S_, .bf16⟩
  | .hbm, ⟨18, _⟩ => ⟨S5632x2048, .bf16⟩
  | .hbm, ⟨19, _⟩ => ⟨S1x2048, .f32⟩
  | .hbm, ⟨20, _⟩ => ⟨S1x2048, .f32⟩
  | .hbm, ⟨21, _⟩ => ⟨S17408x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![34, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S17408x2048 : Shape := ⟨2, ![17408, 2048]⟩
abbrev S2048x11008 : Shape := ⟨2, ![2048, 11008]⟩
abbrev S5504x2048 : Shape := ⟨2, ![5504, 2048]⟩
abbrev S2048 : Shape := ⟨1, ![2048]⟩
abbrev S_ : Shape := ⟨0, ![]⟩
abbrev S17408x11008 : Shape := ⟨2, ![17408, 11008]⟩
abbrev S17408x5504 : Shape := ⟨2, ![17408, 5504]⟩
abbrev S17408 : Shape := ⟨1, ![17408]⟩
abbrev S17408x1 : Shape := ⟨2, ![17408, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x11008, .f32⟩
  | .hbm, ⟨2, _⟩ => ⟨S5504x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S17408x2048, .f32⟩
  | .hbm, ⟨7, _⟩ => ⟨S17408x2048, .f32⟩
  | .hbm, ⟨8, _⟩ => ⟨S17408x11008, .f32⟩
  | .hbm, ⟨9, _⟩ => ⟨S17408x5504, .f32⟩
  | .hbm, ⟨10, _⟩ => ⟨S17408x5504, .f32⟩
  | .hbm, ⟨11, _⟩ => ⟨S17408x5504, .f32⟩
  | .hbm, ⟨12, _⟩ => ⟨S17408x5504, .f32⟩
  | .hbm, ⟨13, _⟩ => ⟨S_, .f32⟩
  | .hbm, ⟨14, _⟩ => ⟨S17408x5504, .f32⟩
  | .hbm, ⟨15, _⟩ => ⟨S17408x5504, .f32⟩
  | .hbm, ⟨16, _⟩ => ⟨S_, .f32⟩
  | .hbm, ⟨17, _⟩ => ⟨S17408x5504, .f32⟩
  | .hbm, ⟨18, _⟩ => ⟨S17408x5504, .f32⟩
  | .hbm, ⟨19, _⟩ => ⟨S17408x5504, .f32⟩
  | .hbm, ⟨20, _⟩ => ⟨S17408x5504, .f32⟩
  | .hbm, ⟨21, _⟩ => ⟨S17408x2048, .f32⟩
  | .hbm, ⟨22, _⟩ => ⟨S_, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S_, .f32⟩
  | .hbm, ⟨27, _⟩ => ⟨S17408, .f32⟩
  | .hbm, ⟨28, _⟩ => ⟨S17408x1, .f32⟩
  | .hbm, ⟨29, _⟩ => ⟨S_, .f32⟩
  | .hbm, ⟨30, _⟩ => ⟨S17408x1, .f32⟩
  | .hbm, ⟨31, _⟩ => ⟨S17408x1, .f32⟩
  | .hbm, ⟨32, _⟩ => ⟨S17408x2048, .f32⟩
  | .hbm, ⟨33, _⟩ => ⟨S17408x2048, .f32⟩
  | .hbm, ⟨34, _⟩ => ⟨S17408x2048, .f32⟩
  | .hbm, ⟨35, _⟩ => ⟨S_, .f32⟩
  | .hbm, ⟨36, _⟩ => ⟨S17408, .f32⟩
  | .hbm, ⟨37, _⟩ => ⟨S17408x1, .f32⟩
  | .hbm, ⟨38, _⟩ => ⟨S_, .f32⟩
  | .hbm, ⟨39, _⟩ => ⟨S17408x1, .f32⟩
  | .hbm, ⟨40, _⟩ => ⟨S17408x1, .f32⟩
  | .hbm, ⟨41, _⟩ => ⟨S17408x2048, .f32⟩
  | .hbm, ⟨42, _⟩ => ⟨S17408x2048, .f32⟩
  | .hbm, ⟨43, _⟩ => ⟨S_, .f32⟩
  | .hbm, ⟨44, _⟩ => ⟨S17408x1, .f32⟩
  | .hbm, ⟨45, _⟩ => ⟨S17408x1, .f32⟩
  | .hbm, ⟨46, _⟩ => ⟨S17408x1, .f32⟩
  | .hbm, ⟨47, _⟩ => ⟨S17408x2048, .f32⟩
  | .hbm, ⟨48, _⟩ => ⟨S17408x2048, .f32⟩
  | .hbm, ⟨49, _⟩ => ⟨S1x2048, .f32⟩
  | .hbm, ⟨50, _⟩ => ⟨S17408x2048, .f32⟩
  | .hbm, ⟨51, _⟩ => ⟨S17408x2048, .f32⟩
  | .hbm, ⟨52, _⟩ => ⟨S1x2048, .f32⟩
  | .hbm, ⟨53, _⟩ => ⟨S17408x2048, .f32⟩
  | .hbm, ⟨54, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== ProjAb.lean ====
abbrev S17408x2048 : Shape := ⟨2, ![17408, 2048]⟩
abbrev S2048x9504 : Shape := ⟨2, ![2048, 9504]⟩
abbrev S2048x6144 : Shape := ⟨2, ![2048, 6144]⟩
abbrev S17408x6144 : Shape := ⟨2, ![17408, 6144]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S17408x2048, .f32⟩
  | .hbm, ⟨1, _⟩ => ⟨S2048x9504, .f32⟩
  | .hbm, ⟨2, _⟩ => ⟨S2048x6144, .f32⟩
  | .hbm, ⟨3, _⟩ => ⟨S2048x6144, .bf16⟩
  | .hbm, ⟨4, _⟩ => ⟨S17408x6144, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjAbRefIdeal.lean ====
abbrev S17408x2048 : Shape := ⟨2, ![17408, 2048]⟩
abbrev S2048x9504 : Shape := ⟨2, ![2048, 9504]⟩
abbrev S2048x6144 : Shape := ⟨2, ![2048, 6144]⟩
abbrev S17408x6144 : Shape := ⟨2, ![17408, 6144]⟩

abbrev nBuf : Space → Nat
  | .hbm => 4
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x9504, .f32⟩
  | .hbm, ⟨2, _⟩ => ⟨S2048x6144, .f32⟩
  | .hbm, ⟨3, _⟩ => ⟨S17408x6144, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjC.lean ====
abbrev S17408x2048 : Shape := ⟨2, ![17408, 2048]⟩
abbrev S2048x9504 : Shape := ⟨2, ![2048, 9504]⟩
abbrev S2048x3360 : Shape := ⟨2, ![2048, 3360]⟩
abbrev S_ : Shape := ⟨0, ![]⟩
abbrev S2048x3456 : Shape := ⟨2, ![2048, 3456]⟩
abbrev S17408x3456 : Shape := ⟨2, ![17408, 3456]⟩
abbrev S512x2048 : Shape := ⟨2, ![512, 2048]⟩
abbrev S2048x384 : Shape := ⟨2, ![2048, 384]⟩
abbrev S512x384 : Shape := ⟨2, ![512, 384]⟩

abbrev nBuf : Space → Nat
  | .hbm => 8
  | .vmem => 6
  | .smem => 0
  | _ => 0

abbrev bufTy : (tb : Table) → Fin (tcTables nBuf tb) → BufTy
  | .hbm, ⟨0, _⟩ => ⟨S17408x2048, .f32⟩
  | .hbm, ⟨1, _⟩ => ⟨S2048x9504, .f32⟩
  | .hbm, ⟨2, _⟩ => ⟨S2048x3360, .f32⟩
  | .hbm, ⟨3, _⟩ => ⟨S2048x3360, .bf16⟩
  | .hbm, ⟨4, _⟩ => ⟨S_, .i32⟩
  | .hbm, ⟨5, _⟩ => ⟨S_, .bf16⟩
  | .hbm, ⟨6, _⟩ => ⟨S2048x3456, .bf16⟩
  | .hbm, ⟨7, _⟩ => ⟨S17408x3456, .f32⟩
  | .local _ .vmem, ⟨0, _⟩ => ⟨S512x2048, .f32⟩
  | .local _ .vmem, ⟨1, _⟩ => ⟨S512x2048, .f32⟩
  | .local _ .vmem, ⟨2, _⟩ => ⟨S2048x384, .bf16⟩
  | .local _ .vmem, ⟨3, _⟩ => ⟨S2048x384, .bf16⟩
  | .local _ .vmem, ⟨4, _⟩ => ⟨S512x384, .f32⟩
  | .local _ .vmem, ⟨5, _⟩ => ⟨S512x384, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjCRefIdeal.lean ====
abbrev S17408x2048 : Shape := ⟨2, ![17408, 2048]⟩
abbrev S2048x9504 : Shape := ⟨2, ![2048, 9504]⟩
abbrev S2048x3360 : Shape := ⟨2, ![2048, 3360]⟩
abbrev S17408x3360 : Shape := ⟨2, ![17408, 3360]⟩
abbrev S_ : Shape := ⟨0, ![]⟩
abbrev S17408x3456 : Shape := ⟨2, ![17408, 3456]⟩

abbrev nBuf : Space → Nat
  | .hbm => 7
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x9504, .f32⟩
  | .hbm, ⟨2, _⟩ => ⟨S2048x3360, .f32⟩
  | .hbm, ⟨3, _⟩ => ⟨S17408x3360, .f32⟩
  | .hbm, ⟨4, _⟩ => ⟨S_, .i32⟩
  | .hbm, ⟨5, _⟩ => ⟨S_, .f32⟩
  | .hbm, ⟨6, _⟩ => ⟨S17408x3456, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Gate.lean ====
abbrev S17408x2048 : Shape := ⟨2, ![17408, 2048]⟩
abbrev S2048x6144 : Shape := ⟨2, ![2048, 6144]⟩
abbrev S17408x6144 : Shape := ⟨2, ![17408, 6144]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S17408x2048, .f32⟩
  | .hbm, ⟨1, _⟩ => ⟨S2048x6144, .f32⟩
  | .hbm, ⟨2, _⟩ => ⟨S2048x6144, .bf16⟩
  | .hbm, ⟨3, _⟩ => ⟨S17408x6144, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![34, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S17408x2048 : Shape := ⟨2, ![17408, 2048]⟩
abbrev S2048x6144 : Shape := ⟨2, ![2048, 6144]⟩
abbrev S17408x6144 : Shape := ⟨2, ![17408, 6144]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048x6144, .f32⟩
  | .hbm, ⟨2, _⟩ => ⟨S17408x6144, .f32⟩
  | .hbm, ⟨3, _⟩ => ⟨S17408x6144, .f32⟩
  | .hbm, ⟨4, _⟩ => ⟨S17408x6144, .f32⟩
  | .hbm, ⟨5, _⟩ => ⟨S_, .f32⟩
  | .hbm, ⟨6, _⟩ => ⟨S17408x6144, .f32⟩
  | .hbm, ⟨7, _⟩ => ⟨S17408x6144, .f32⟩
  | .hbm, ⟨8, _⟩ => ⟨S_, .f32⟩
  | .hbm, ⟨9, _⟩ => ⟨S17408x6144, .f32⟩
  | .hbm, ⟨10, _⟩ => ⟨S17408x6144, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S17408x1024 : Shape := ⟨2, ![17408, 1024]⟩
abbrev S17408x6144 : Shape := ⟨2, ![17408, 6144]⟩
abbrev S3x1024x2048 : Shape := ⟨3, ![3, 1024, 2048]⟩
abbrev S17408x2048 : Shape := ⟨2, ![17408, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 7
  | .vmem => 20
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x1024, .f32⟩
  | .hbm, ⟨3, _⟩ => ⟨S17408x6144, .f32⟩
  | .hbm, ⟨4, _⟩ => ⟨S3x1024x2048, .f32⟩
  | .hbm, ⟨5, _⟩ => ⟨S3x1024x2048, .bf16⟩
  | .hbm, ⟨6, _⟩ => ⟨S17408x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S512x512, .f32⟩
  | .local _ .vmem, ⟨19, _⟩ => ⟨S512x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![34, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S17408x1024 : Shape := ⟨2, ![17408, 1024]⟩
abbrev S17408x6144 : Shape := ⟨2, ![17408, 6144]⟩
abbrev S3x1024x2048 : Shape := ⟨3, ![3, 1024, 2048]⟩
abbrev S17408x3x2048 : Shape := ⟨3, ![17408, 3, 2048]⟩
abbrev S17408x1x2048 : Shape := ⟨3, ![17408, 1, 2048]⟩
abbrev S17408x2048 : Shape := ⟨2, ![17408, 2048]⟩
abbrev S1x1024x2048 : Shape := ⟨3, ![1, 1024, 2048]⟩
abbrev S1024x2048 : Shape := ⟨2, ![1024, 2048]⟩

abbrev nBuf : Space → Nat
  | .hbm => 26
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x1024, .f32⟩
  | .hbm, ⟨2, _⟩ => ⟨S17408x1024, .f32⟩
  | .hbm, ⟨3, _⟩ => ⟨S17408x6144, .f32⟩
  | .hbm, ⟨4, _⟩ => ⟨S3x1024x2048, .f32⟩
  | .hbm, ⟨5, _⟩ => ⟨S17408x3x2048, .f32⟩
  | .hbm, ⟨6, _⟩ => ⟨S17408x1x2048, .f32⟩
  | .hbm, ⟨7, _⟩ => ⟨S17408x2048, .f32⟩
  | .hbm, ⟨8, _⟩ => ⟨S1x1024x2048, .f32⟩
  | .hbm, ⟨9, _⟩ => ⟨S1024x2048, .f32⟩
  | .hbm, ⟨10, _⟩ => ⟨S17408x2048, .f32⟩
  | .hbm, ⟨11, _⟩ => ⟨S17408x2048, .f32⟩
  | .hbm, ⟨12, _⟩ => ⟨S17408x1x2048, .f32⟩
  | .hbm, ⟨13, _⟩ => ⟨S17408x2048, .f32⟩
  | .hbm, ⟨14, _⟩ => ⟨S1x1024x2048, .f32⟩
  | .hbm, ⟨15, _⟩ => ⟨S1024x2048, .f32⟩
  | .hbm, ⟨16, _⟩ => ⟨S17408x2048, .f32⟩
  | .hbm, ⟨17, _⟩ => ⟨S17408x2048, .f32⟩
  | .hbm, ⟨18, _⟩ => ⟨S17408x2048, .f32⟩
  | .hbm, ⟨19, _⟩ => ⟨S17408x1x2048, .f32⟩
  | .hbm, ⟨20, _⟩ => ⟨S17408x2048, .f32⟩
  | .hbm, ⟨21, _⟩ => ⟨S1x1024x2048, .f32⟩
  | .hbm, ⟨22, _⟩ => ⟨S1024x2048, .f32⟩
  | .hbm, ⟨23, _⟩ => ⟨S17408x2048, .f32⟩
  | .hbm, ⟨24, _⟩ => ⟨S17408x2048, .f32⟩
  | .hbm, ⟨25, _⟩ => ⟨S17408x2048, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== OutProj.lean ====
abbrev S17408x2048 : Shape := ⟨2, ![17408, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S17408x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S17408x2048 : Shape := ⟨2, ![17408, 2048]⟩
abbrev S2048x2048 : Shape := ⟨2, ![2048, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S17408x2048, .f32⟩
  | .hbm, ⟨17, _⟩ => ⟨S17408x2048, .f32⟩
  | .hbm, ⟨18, _⟩ => ⟨S17408x2048, .f32⟩
  | .hbm, ⟨19, _⟩ => ⟨S_, .f32⟩
  | .hbm, ⟨20, _⟩ => ⟨S17408, .f32⟩
  | .hbm, ⟨21, _⟩ => ⟨S17408x1, .f32⟩
  | .hbm, ⟨22, _⟩ => ⟨S_, .f32⟩
  | .hbm, ⟨23, _⟩ => ⟨S17408x1, .f32⟩
  | .hbm, ⟨24, _⟩ => ⟨S17408x1, .f32⟩
  | .hbm, ⟨25, _⟩ => ⟨S17408x2048, .f32⟩
  | .hbm, ⟨26, _⟩ => ⟨S17408x2048, .f32⟩
  | .hbm, ⟨27, _⟩ => ⟨S_, .f32⟩
  | .hbm, ⟨28, _⟩ => ⟨S17408x1, .f32⟩
  | .hbm, ⟨29, _⟩ => ⟨S17408x1, .f32⟩
  | .hbm, ⟨30, _⟩ => ⟨S17408x1, .f32⟩
  | .hbm, ⟨31, _⟩ => ⟨S17408x2048, .f32⟩
  | .hbm, ⟨32, _⟩ => ⟨S17408x2048, .f32⟩
  | .hbm, ⟨33, _⟩ => ⟨S1x2048, .f32⟩
  | .hbm, ⟨34, _⟩ => ⟨S17408x2048, .f32⟩
  | .hbm, ⟨35, _⟩ => ⟨S17408x2048, .f32⟩
  | .hbm, ⟨36, _⟩ => ⟨S1x2048, .f32⟩
  | .hbm, ⟨37, _⟩ => ⟨S17408x2048, .f32⟩
  | .hbm, ⟨38, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Rope.lean ====
abbrev S17408x6144 : Shape := ⟨2, ![17408, 6144]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S17408 : Shape := ⟨1, ![17408]⟩
abbrev S8 : Shape := ⟨1, ![8]⟩
abbrev S17408x1 : Shape := ⟨2, ![17408, 1]⟩
abbrev S1x8 : Shape := ⟨2, ![1, 8]⟩
abbrev S17408x8 : Shape := ⟨2, ![17408, 8]⟩
abbrev S17408x48 : Shape := ⟨2, ![17408, 48]⟩
abbrev S17408x64 : Shape := ⟨2, ![17408, 64]⟩
abbrev S17408x56 : Shape := ⟨2, ![17408, 56]⟩
abbrev S1x17408x1x64 : Shape := ⟨4, ![1, 17408, 1, 64]⟩
abbrev S1x17408x2x64 : Shape := ⟨4, ![1, 17408, 2, 64]⟩
abbrev S17408x128 : Shape := ⟨2, ![17408, 128]⟩
abbrev S17408x32 : Shape := ⟨2, ![17408, 32]⟩
abbrev S17408x0 : Shape := ⟨2, ![17408, 0]⟩
abbrev S17408x2048 : Shape := ⟨2, ![17408, 2048]⟩
abbrev S17408x1024 : Shape := ⟨2, ![17408, 1024]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 89
  | .vmem => 20
  | .smem => 0
  | _ => 0

abbrev bufTy : (tb : Table) → Fin (tcTables nBuf tb) → BufTy
  | .hbm, ⟨0, _⟩ => ⟨S17408x6144, .f32⟩
  | .hbm, ⟨1, _⟩ => ⟨S8192, .i32⟩
  | .hbm, ⟨2, _⟩ => ⟨S1x8192, .i32⟩
  | .hbm, ⟨3, _⟩ => ⟨S2x8192, .i32⟩
  | .hbm, ⟨4, _⟩ => ⟨S16384, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S1x32, .i32⟩
  | .hbm, ⟨10, _⟩ => ⟨S32x32, .i32⟩
  | .hbm, ⟨11, _⟩ => ⟨S1024, .i32⟩
  | .hbm, ⟨12, _⟩ => ⟨S17408, .i32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S17408, .f32⟩
  | .hbm, ⟨22, _⟩ => ⟨S17408x1, .f32⟩
  | .hbm, ⟨23, _⟩ => ⟨S1x8, .f32⟩
  | .hbm, ⟨24, _⟩ => ⟨S17408x8, .f32⟩
  | .hbm, ⟨25, _⟩ => ⟨S17408x8, .f32⟩
  | .hbm, ⟨26, _⟩ => ⟨S17408x8, .f32⟩
  | .hbm, ⟨27, _⟩ => ⟨S17408x8, .f32⟩
  | .hbm, ⟨28, _⟩ => ⟨S17408x8, .f32⟩
  | .hbm, ⟨29, _⟩ => ⟨S_, .f32⟩
  | .hbm, ⟨30, _⟩ => ⟨S17408x48, .f32⟩
  | .hbm, ⟨31, _⟩ => ⟨S17408x64, .f32⟩
  | .hbm, ⟨32, _⟩ => ⟨S17408x8, .f32⟩
  | .hbm, ⟨33, _⟩ => ⟨S_, .f32⟩
  | .hbm, ⟨34, _⟩ => ⟨S17408x56, .f32⟩
  | .hbm, ⟨35, _⟩ => ⟨S17408x64, .f32⟩
  | .hbm, ⟨36, _⟩ => ⟨S_, .f32⟩
  | .hbm, ⟨37, _⟩ => ⟨S17408x8, .f32⟩
  | .hbm, ⟨38, _⟩ => ⟨S_, .f32⟩
  | .hbm, ⟨39, _⟩ => ⟨S17408x48, .f32⟩
  | .hbm, ⟨40, _⟩ => ⟨S17408x64, .f32⟩
  | .hbm, ⟨41, _⟩ => ⟨S1x17408x1x64, .f32⟩
  | .hbm, ⟨42, _⟩ => ⟨S1x17408x2x64, .f32⟩
  | .hbm, ⟨43, _⟩ => ⟨S17408x128, .f32⟩
  | .hbm, ⟨44, _⟩ => ⟨S1x17408x1x64, .f32⟩
  | .hbm, ⟨45, _⟩ => ⟨S1x17408x2x64, .f32⟩
  | .hbm, ⟨46, _⟩ => ⟨S17408x128, .f32⟩
  | .hbm, ⟨47, _⟩ => ⟨S1x17408x1x64, .f32⟩
  | .hbm, ⟨48, _⟩ => ⟨S1x17408x2x64, .f32⟩
  | .hbm, ⟨49, _⟩ => ⟨S17408x128, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S17408, .f32⟩
  | .hbm, ⟨59, _⟩ => ⟨S17408x1, .f32⟩
  | .hbm, ⟨60, _⟩ => ⟨S1x32, .f32⟩
  | .hbm, ⟨61, _⟩ => ⟨S17408x32, .f32⟩
  | .hbm, ⟨62, _⟩ => ⟨S17408x32, .f32⟩
  | .hbm, ⟨63, _⟩ => ⟨S17408x32, .f32⟩
  | .hbm, ⟨64, _⟩ => ⟨S17408x32, .f32⟩
  | .hbm, ⟨65, _⟩ => ⟨S17408x32, .f32⟩
  | .hbm, ⟨66, _⟩ => ⟨S_, .f32⟩
  | .hbm, ⟨67, _⟩ => ⟨S17408x0, .f32⟩
  | .hbm, ⟨68, _⟩ => ⟨S17408x64, .f32⟩
  | .hbm, ⟨69, _⟩ => ⟨S17408x32, .f32⟩
  | .hbm, ⟨70, _⟩ => ⟨S_, .f32⟩
  | .hbm, ⟨71, _⟩ => ⟨S17408x32, .f32⟩
  | .hbm, ⟨72, _⟩ => ⟨S17408x64, .f32⟩
  | .hbm, ⟨73, _⟩ => ⟨S_, .f32⟩
  | .hbm, ⟨74, _⟩ => ⟨S17408x32, .f32⟩
  | .hbm, ⟨75, _⟩ => ⟨S_, .f32⟩
  | .hbm, ⟨76, _⟩ => ⟨S17408x0, .f32⟩
  | .hbm, ⟨77, _⟩ => ⟨S17408x64, .f32⟩
  | .hbm, ⟨78, _⟩ => ⟨S1x17408x1x64, .f32⟩
  | .hbm, ⟨79, _⟩ => ⟨S1x17408x2x64, .f32⟩
  | .hbm, ⟨80, _⟩ => ⟨S17408x128, .f32⟩
  | .hbm, ⟨81, _⟩ => ⟨S1x17408x1x64, .f32⟩
  | .hbm, ⟨82, _⟩ => ⟨S1x17408x2x64, .f32⟩
  | .hbm, ⟨83, _⟩ => ⟨S17408x128, .f32⟩
  | .hbm, ⟨84, _⟩ => ⟨S1x17408x1x64, .f32⟩
  | .hbm, ⟨85, _⟩ => ⟨S1x17408x2x64, .f32⟩
  | .hbm, ⟨86, _⟩ => ⟨S17408x128, .f32⟩
  | .hbm, ⟨87, _⟩ => ⟨S17408x2048, .f32⟩
  | .hbm, ⟨88, _⟩ => ⟨S17408x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x2048, .f32⟩
  | .local _ .vmem, ⟨17, _⟩ => ⟨S256x2048, .f32⟩
  | .local _ .vmem, ⟨18, _⟩ => ⟨S256x1024, .f32⟩
  | .local _ .vmem, ⟨19, _⟩ => ⟨S256x1024, .f32⟩
  | _, _ => ⟨S17408x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_5 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_7 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_8 : Ref sig .tc := ⟨.hbm, 70, rfl⟩
abbrev main_v59 : Ref sig .tc := ⟨.hbm, 71, rfl⟩
abbrev main_v60 : Ref sig .tc := ⟨.hbm, 72, rfl⟩
abbrev main_cst_9 : Ref sig .tc := ⟨.hbm, 73, rfl⟩
abbrev main_v61 : Ref sig .tc := ⟨.hbm, 74, rfl⟩
abbrev main_cst_10 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73_0 : Ref sig .tc := ⟨.hbm, 87, rfl⟩
abbrev main_v73_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeRefIdeal.lean ====
abbrev S17408x6144 : Shape := ⟨2, ![17408, 6144]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S17408 : Shape := ⟨1, ![17408]⟩
abbrev S17408x2048 : Shape := ⟨2, ![17408, 2048]⟩
abbrev S17408x32x64 : Shape := ⟨3, ![17408, 32, 64]⟩
abbrev S8 : Shape := ⟨1, ![8]⟩
abbrev S17408x1 : Shape := ⟨2, ![17408, 1]⟩
abbrev S1x8 : Shape := ⟨2, ![1, 8]⟩
abbrev S17408x8 : Shape := ⟨2, ![17408, 8]⟩
abbrev S17408x1x8 : Shape := ⟨3, ![17408, 1, 8]⟩
abbrev S17408x32x8 : Shape := ⟨3, ![17408, 32, 8]⟩
abbrev S17408x32x48 : Shape := ⟨3, ![17408, 32, 48]⟩
abbrev S17408x1024 : Shape := ⟨2, ![17408, 1024]⟩
abbrev S17408x16x64 : Shape := ⟨3, ![17408, 16, 64]⟩
abbrev S17408x32 : Shape := ⟨2, ![17408, 32]⟩
abbrev S17408x1x32 : Shape := ⟨3, ![17408, 1, 32]⟩
abbrev S17408x16x32 : Shape := ⟨3, ![17408, 16, 32]⟩
abbrev S17408x16x0 : Shape := ⟨3, ![17408, 16, 0]⟩
abbrev S17408x8x64 : Shape := ⟨3, ![17408, 8, 64]⟩

abbrev nBuf : Space → Nat
  | .hbm => 89
  | .vmem => 0
  | .smem => 0
  | _ => 0

abbrev bufTy : (tb : Table) → Fin (tcTables nBuf tb) → BufTy
  | .hbm, ⟨0, _⟩ => ⟨S17408x6144, .f32⟩
  | .hbm, ⟨1, _⟩ => ⟨S8192, .i32⟩
  | .hbm, ⟨2, _⟩ => ⟨S1x8192, .i32⟩
  | .hbm, ⟨3, _⟩ => ⟨S2x8192, .i32⟩
  | .hbm, ⟨4, _⟩ => ⟨S16384, .i32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S1x32, .i32⟩
  | .hbm, ⟨10, _⟩ => ⟨S32x32, .i32⟩
  | .hbm, ⟨11, _⟩ => ⟨S1024, .i32⟩
  | .hbm, ⟨12, _⟩ => ⟨S17408, .i32⟩
  | .hbm, ⟨13, _⟩ => ⟨S17408x2048, .f32⟩
  | .hbm, ⟨14, _⟩ => ⟨S17408x32x64, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S17408, .f32⟩
  | .hbm, ⟨24, _⟩ => ⟨S17408x1, .f32⟩
  | .hbm, ⟨25, _⟩ => ⟨S1x8, .f32⟩
  | .hbm, ⟨26, _⟩ => ⟨S17408x8, .f32⟩
  | .hbm, ⟨27, _⟩ => ⟨S17408x8, .f32⟩
  | .hbm, ⟨28, _⟩ => ⟨S17408x8, .f32⟩
  | .hbm, ⟨29, _⟩ => ⟨S17408x8, .f32⟩
  | .hbm, ⟨30, _⟩ => ⟨S17408x1x8, .f32⟩
  | .hbm, ⟨31, _⟩ => ⟨S17408x8, .f32⟩
  | .hbm, ⟨32, _⟩ => ⟨S17408x1x8, .f32⟩
  | .hbm, ⟨33, _⟩ => ⟨S17408x32x8, .f32⟩
  | .hbm, ⟨34, _⟩ => ⟨S17408x32x8, .f32⟩
  | .hbm, ⟨35, _⟩ => ⟨S17408x32x8, .f32⟩
  | .hbm, ⟨36, _⟩ => ⟨S17408x32x8, .f32⟩
  | .hbm, ⟨37, _⟩ => ⟨S17408x32x8, .f32⟩
  | .hbm, ⟨38, _⟩ => ⟨S17408x32x8, .f32⟩
  | .hbm, ⟨39, _⟩ => ⟨S17408x32x8, .f32⟩
  | .hbm, ⟨40, _⟩ => ⟨S17408x32x8, .f32⟩
  | .hbm, ⟨41, _⟩ => ⟨S17408x32x8, .f32⟩
  | .hbm, ⟨42, _⟩ => ⟨S17408x32x8, .f32⟩
  | .hbm, ⟨43, _⟩ => ⟨S17408x32x8, .f32⟩
  | .hbm, ⟨44, _⟩ => ⟨S17408x32x8, .f32⟩
  | .hbm, ⟨45, _⟩ => ⟨S17408x32x48, .f32⟩
  | .hbm, ⟨46, _⟩ => ⟨S17408x32x64, .f32⟩
  | .hbm, ⟨47, _⟩ => ⟨S17408x1024, .f32⟩
  | .hbm, ⟨48, _⟩ => ⟨S17408x16x64, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S17408, .f32⟩
  | .hbm, ⟨58, _⟩ => ⟨S17408x1, .f32⟩
  | .hbm, ⟨59, _⟩ => ⟨S1x32, .f32⟩
  | .hbm, ⟨60, _⟩ => ⟨S17408x32, .f32⟩
  | .hbm, ⟨61, _⟩ => ⟨S17408x32, .f32⟩
  | .hbm, ⟨62, _⟩ => ⟨S17408x32, .f32⟩
  | .hbm, ⟨63, _⟩ => ⟨S17408x32, .f32⟩
  | .hbm, ⟨64, _⟩ => ⟨S17408x1x32, .f32⟩
  | .hbm, ⟨65, _⟩ => ⟨S17408x32, .f32⟩
  | .hbm, ⟨66, _⟩ => ⟨S17408x1x32, .f32⟩
  | .hbm, ⟨67, _⟩ => ⟨S17408x16x32, .f32⟩
  | .hbm, ⟨68, _⟩ => ⟨S17408x16x32, .f32⟩
  | .hbm, ⟨69, _⟩ => ⟨S17408x16x32, .f32⟩
  | .hbm, ⟨70, _⟩ => ⟨S17408x16x32, .f32⟩
  | .hbm, ⟨71, _⟩ => ⟨S17408x16x32, .f32⟩
  | .hbm, ⟨72, _⟩ => ⟨S17408x16x32, .f32⟩
  | .hbm, ⟨73, _⟩ => ⟨S17408x16x32, .f32⟩
  | .hbm, ⟨74, _⟩ => ⟨S17408x16x32, .f32⟩
  | .hbm, ⟨75, _⟩ => ⟨S17408x16x32, .f32⟩
  | .hbm, ⟨76, _⟩ => ⟨S17408x16x32, .f32⟩
  | .hbm, ⟨77, _⟩ => ⟨S17408x16x32, .f32⟩
  | .hbm, ⟨78, _⟩ => ⟨S17408x16x32, .f32⟩
  | .hbm, ⟨79, _⟩ => ⟨S17408x16x0, .f32⟩
  | .hbm, ⟨80, _⟩ => ⟨S17408x16x64, .f32⟩
  | .hbm, ⟨81, _⟩ => ⟨S17408x8x64, .f32⟩
  | .hbm, ⟨82, _⟩ => ⟨S17408x8x64, .f32⟩
  | .hbm, ⟨83, _⟩ => ⟨S_, .f32⟩
  | .hbm, ⟨84, _⟩ => ⟨S17408x8x64, .f32⟩
  | .hbm, ⟨85, _⟩ => ⟨S17408x8x64, .f32⟩
  | .hbm, ⟨86, _⟩ => ⟨S17408x2048, .f32⟩
  | .hbm, ⟨87, _⟩ => ⟨S17408x16x64, .f32⟩
  | .hbm, ⟨88, _⟩ => ⟨S17408x1024, .f32⟩
  | _, _ => ⟨S17408x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_cst_2 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_cst_3 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩

abbrev nD : Nat := 1
abbrev τ : Topo := Topo.v7x

variable {F : FTy → Type} [FloatOps F]
-- ==== Pre.lean ====
abbrev S17408x3456 : Shape := ⟨2, ![17408, 3456]⟩
abbrev S32x1x3360 : Shape := ⟨3, ![32, 1, 3360]⟩
abbrev S3360 : Shape := ⟨1, ![3360]⟩
abbrev S1024 : Shape := ⟨1, ![1024]⟩
abbrev S16x64 : Shape := ⟨2, ![16, 64]⟩
abbrev S64x1024 : Shape := ⟨2, ![64, 1024]⟩
abbrev S160x1024 : Shape := ⟨2, ![160, 1024]⟩
abbrev S_ : Shape := ⟨0, ![]⟩
abbrev S3456 : Shape := ⟨1, ![3456]⟩
abbrev S1x3456 : Shape := ⟨2, ![1, 3456]⟩
abbrev S1x1024 : Shape := ⟨2, ![1, 1024]⟩
abbrev S384x1024 : Shape := ⟨2, ![384, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32x1x3456 : Shape := ⟨3, ![32, 1, 3456]⟩
abbrev S1024x1024 : Shape := ⟨2, ![1024, 1024]⟩
abbrev S32x3456 : Shape := ⟨2, ![32, 3456]⟩
abbrev S1x1x3456 : Shape := ⟨3, ![1, 1, 3456]⟩
abbrev S32x1024 : Shape := ⟨2, ![32, 1024]⟩
abbrev S32x384 : Shape := ⟨2, ![32, 384]⟩
abbrev S32x128 : Shape := ⟨2, ![32, 128]⟩

abbrev nBuf : Space → Nat
  | .hbm => 69
  | .vmem => 33
  | .smem => 0
  | _ => 0

abbrev bufTy : (tb : Table) → Fin (tcTables nBuf tb) → BufTy
  | .hbm, ⟨0, _⟩ => ⟨S17408x3456, .f32⟩
  | .hbm, ⟨1, _⟩ => ⟨S32x1x3360, .f32⟩
  | .hbm, ⟨2, _⟩ => ⟨S3360, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16x64, .f32⟩
  | .hbm, ⟨8, _⟩ => ⟨S64x1024, .f32⟩
  | .hbm, ⟨9, _⟩ => ⟨S64x1024, .f32⟩
  | .hbm, ⟨10, _⟩ => ⟨S160x1024, .f32⟩
  | .hbm, ⟨11, _⟩ => ⟨S_, .i32⟩
  | .hbm, ⟨12, _⟩ => ⟨S_, .f32⟩
  | .hbm, ⟨13, _⟩ => ⟨S3456, .f32⟩
  | .hbm, ⟨14, _⟩ => ⟨S1x3456, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S64x1024, .bf16⟩
  | .hbm, ⟨21, _⟩ => ⟨S_, .i32⟩
  | .hbm, ⟨22, _⟩ => ⟨S_, .bf16⟩
  | .hbm, ⟨23, _⟩ => ⟨S384x1024, .bf16⟩
  | .hbm, ⟨24, _⟩ => ⟨S64x1024, .bf16⟩
  | .hbm, ⟨25, _⟩ => ⟨S_, .i32⟩
  | .hbm, ⟨26, _⟩ => ⟨S_, .bf16⟩
  | .hbm, ⟨27, _⟩ => ⟨S384x1024, .bf16⟩
  | .hbm, ⟨28, _⟩ => ⟨S160x1024, .bf16⟩
  | .hbm, ⟨29, _⟩ => ⟨S_, .i32⟩
  | .hbm, ⟨30, _⟩ => ⟨S_, .bf16⟩
  | .hbm, ⟨31, _⟩ => ⟨S384x1024, .bf16⟩
  | .hbm, ⟨32, _⟩ => ⟨S128, .i32⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i1⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S128x1, .i32⟩
  | .hbm, ⟨52, _⟩ => ⟨S1x128, .i32⟩
  | .hbm, ⟨53, _⟩ => ⟨S128x128, .i32⟩
  | .hbm, ⟨54, _⟩ => ⟨S128x128, .i32⟩
  | .hbm, ⟨55, _⟩ => ⟨S128x128, .i1⟩
  | .hbm, ⟨56, _⟩ => ⟨S128x128, .bf16⟩
  | .hbm, ⟨57, _⟩ => ⟨S_, .i32⟩
  | .hbm, ⟨58, _⟩ => ⟨S_, .f32⟩
  | .hbm, ⟨59, _⟩ => ⟨S32x1x3456, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S1024x1024, .f32⟩
  | .hbm, ⟨68, _⟩ => ⟨S32x1x3456, .f32⟩
  | .local _ .vmem, ⟨0, _⟩ => ⟨S32x3456, .f32⟩
  | .local _ .vmem, ⟨1, _⟩ => ⟨S32x3456, .f32⟩
  | .local _ .vmem, ⟨2, _⟩ => ⟨S1x1x3456, .f32⟩
  | .local _ .vmem, ⟨3, _⟩ => ⟨S1x1x3456, .f32⟩
  | .local _ .vmem, ⟨4, _⟩ => ⟨S1x3456, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S128x128, .bf16⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S1x1x3456, .f32⟩
  | .local _ .vmem, ⟨31, _⟩ => ⟨S1x1x3456, .f32⟩
  | .local _ .vmem, ⟨32, _⟩ => ⟨S1x3456, .f32⟩
  | _, _ => ⟨S17408x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_call4_v0 : Ref sig .tc := ⟨.hbm, 34, rfl⟩
abbrev main_call4_v1 : Ref sig .tc := ⟨.hbm, 35, rfl⟩
abbrev main_call4_v2 : Ref sig .tc := ⟨.hbm, 36, rfl⟩
abbrev main_call4_v3 : Ref sig .tc := ⟨.hbm, 37, rfl⟩
abbrev main_call4_v4 : Ref sig .tc := ⟨.hbm, 38, rfl⟩
abbrev main_call4_v5 : Ref sig .tc := ⟨.hbm, 39, rfl⟩
abbrev main_call4_v6 : Ref sig .tc := ⟨.hbm, 40, rfl⟩
abbrev main_call4_v7 : Ref sig .tc := ⟨.hbm, 41, rfl⟩
abbrev main_call4_v8 : Ref sig .tc := ⟨.hbm, 42, rfl⟩
abbrev main_call4_c : Ref sig .tc := ⟨.hbm, 43, rfl⟩
abbrev main_call4_v9 : Ref sig .tc := ⟨.hbm, 44, rfl⟩
abbrev main_call4_v10 : Ref sig .tc := ⟨.hbm, 45, rfl⟩
abbrev main_call4_v11 : Ref sig .tc := ⟨.hbm, 46, rfl⟩
abbrev main_call4_c_0 : Ref sig .tc := ⟨.hbm, 47, rfl⟩
abbrev main_call4_v12 : Ref sig .tc := ⟨.hbm, 48, rfl⟩
abbrev main_call4_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_call5_v0 : Ref sig .tc := ⟨.hbm, 58, rfl⟩
abbrev main_v21 : Ref sig .tc := ⟨.hbm, 59, rfl⟩
abbrev main_v22_0 : Ref sig .tc := ⟨.hbm, 60, rfl⟩
abbrev main_v22_1 : Ref sig .tc := ⟨.hbm, 61, rfl⟩
abbrev main_v22_2 : Ref sig .tc := ⟨.hbm, 62, rfl⟩
abbrev main_v22_3 : Ref sig .tc := ⟨.hbm, 63, rfl⟩
abbrev main_v22_4 : Ref sig .tc := ⟨.hbm, 64, rfl⟩
abbrev main_v22_5 : Ref sig .tc := ⟨.hbm, 65, rfl⟩
abbrev main_v22_6 : Ref sig .tc := ⟨.hbm, 66, rfl⟩
abbrev main_v22_7 : Ref sig .tc := ⟨.hbm, 67, rfl⟩
abbrev main_v22_8 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3456 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x3456 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== PreRefIdeal.lean ====
abbrev S17408x3456 : Shape := ⟨2, ![17408, 3456]⟩
abbrev S32x1x3360 : Shape := ⟨3, ![32, 1, 3360]⟩
abbrev S3360 : Shape := ⟨1, ![3360]⟩
abbrev S1024 : Shape := ⟨1, ![1024]⟩
abbrev S16x64 : Shape := ⟨2, ![16, 64]⟩
abbrev S64x1024 : Shape := ⟨2, ![64, 1024]⟩
abbrev S160x1024 : Shape := ⟨2, ![160, 1024]⟩
abbrev S1024x3456 : Shape := ⟨2, ![1024, 3456]⟩
abbrev S32x32x3456 : Shape := ⟨3, ![32, 32, 3456]⟩
abbrev S32x32x3360 : Shape := ⟨3, ![32, 32, 3360]⟩
abbrev S32x31x3360 : Shape := ⟨3, ![32, 31, 3360]⟩
abbrev S1x1x3360 : Shape := ⟨3, ![1, 1, 3360]⟩
abbrev S32x32x1024 : Shape := ⟨3, ![32, 32, 1024]⟩
abbrev S32x32x64 : Shape := ⟨3, ![32, 32, 64]⟩
abbrev S32x32x160 : Shape := ⟨3, ![32, 32, 160]⟩
abbrev S1x1x1024 : Shape := ⟨3, ![1, 1, 1024]⟩
abbrev S_ : Shape := ⟨0, ![]⟩
abbrev S1024x1024 : Shape := ⟨2, ![1024, 1024]⟩
abbrev S32x1x3456 : Shape := ⟨3, ![32, 1, 3456]⟩

abbrev nBuf : Space → Nat
  | .hbm => 90
  | .vmem => 0
  | .smem => 0
  | _ => 0

abbrev bufTy : (tb : Table) → Fin (tcTables nBuf tb) → BufTy
  | .hbm, ⟨0, _⟩ => ⟨S17408x3456, .f32⟩
  | .hbm, ⟨1, _⟩ => ⟨S32x1x3360, .f32⟩
  | .hbm, ⟨2, _⟩ => ⟨S3360, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S16x64, .f32⟩
  | .hbm, ⟨8, _⟩ => ⟨S64x1024, .f32⟩
  | .hbm, ⟨9, _⟩ => ⟨S64x1024, .f32⟩
  | .hbm, ⟨10, _⟩ => ⟨S160x1024, .f32⟩
  | .hbm, ⟨11, _⟩ => ⟨S1024x3456, .f32⟩
  | .hbm, ⟨12, _⟩ => ⟨S32x32x3456, .f32⟩
  | .hbm, ⟨13, _⟩ => ⟨S32x32x3360, .f32⟩
  | .hbm, ⟨14, _⟩ => ⟨S32x31x3360, .f32⟩
  | .hbm, ⟨15, _⟩ => ⟨S32x32x3360, .f32⟩
  | .hbm, ⟨16, _⟩ => ⟨S32x32x3360, .f32⟩
  | .hbm, ⟨17, _⟩ => ⟨S1x1x3360, .f32⟩
  | .hbm, ⟨18, _⟩ => ⟨S32x32x3360, .f32⟩
  | .hbm, ⟨19, _⟩ => ⟨S32x32x3360, .f32⟩
  | .hbm, ⟨20, _⟩ => ⟨S32x32x3360, .f32⟩
  | .hbm, ⟨21, _⟩ => ⟨S32x32x1024, .f32⟩
  | .hbm, ⟨22, _⟩ => ⟨S32x32x1024, .f32⟩
  | .hbm, ⟨23, _⟩ => ⟨S32x32x1024, .f32⟩
  | .hbm, ⟨24, _⟩ => ⟨S32x32x64, .f32⟩
  | .hbm, ⟨25, _⟩ => ⟨S32x32x64, .f32⟩
  | .hbm, ⟨26, _⟩ => ⟨S32x32x160, .f32⟩
  | .hbm, ⟨27, _⟩ => ⟨S32x32x64, .f32⟩
  | .hbm, ⟨28, _⟩ => ⟨S32x32x1024, .f32⟩
  | .hbm, ⟨29, _⟩ => ⟨S1x1x1024, .f32⟩
  | .hbm, ⟨30, _⟩ => ⟨S32x32x1024, .f32⟩
  | .hbm, ⟨31, _⟩ => ⟨S32x32x1024, .f32⟩
  | .hbm, ⟨32, _⟩ => ⟨S32x32x1024, .f32⟩
  | .hbm, ⟨33, _⟩ => ⟨S_, .f32⟩
  | .hbm, ⟨34, _⟩ => ⟨S32x32x1024, .f32⟩
  | .hbm, ⟨35, _⟩ => ⟨S32x32x1024, .f32⟩
  | .hbm, ⟨36, _⟩ => ⟨S32x32x1024, .f32⟩
  | .hbm, ⟨37, _⟩ => ⟨S32x32x1024, .f32⟩
  | .hbm, ⟨38, _⟩ => ⟨S32x32x1024, .i1⟩
  | .hbm, ⟨39, _⟩ => ⟨S32x32x1024, .f32⟩
  | .hbm, ⟨40, _⟩ => ⟨S32x32x1024, .f32⟩
  | .hbm, ⟨41, _⟩ => ⟨S32x32x1024, .f32⟩
  | .hbm, ⟨42, _⟩ => ⟨S32x32x1024, .f32⟩
  | .hbm, ⟨43, _⟩ => ⟨S32x32x1024, .f32⟩
  | .hbm, ⟨44, _⟩ => ⟨S32x32x1024, .f32⟩
  | .hbm, ⟨45, _⟩ => ⟨S32x32x1024, .f32⟩
  | .hbm, ⟨46, _⟩ => ⟨S32x32x1024, .f32⟩
  | .hbm, ⟨47, _⟩ => ⟨S32x32x1024, .f32⟩
  | .hbm, ⟨48, _⟩ => ⟨S_, .f32⟩
  | .hbm, ⟨49, _⟩ => ⟨S32x32x1024, .f32⟩
  | .hbm, ⟨50, _⟩ => ⟨S32x32x1024, .f32⟩
  | .hbm, ⟨51, _⟩ => ⟨S32x32x1024, .f32⟩
  | .hbm, ⟨52, _⟩ => ⟨S32x32x1024, .f32⟩
  | .hbm, ⟨53, _⟩ => ⟨S32x32x1024, .f32⟩
  | .hbm, ⟨54, _⟩ => ⟨S1x1x1024, .f32⟩
  | .hbm, ⟨55, _⟩ => ⟨S32x32x1024, .f32⟩
  | .hbm, ⟨56, _⟩ => ⟨S32x32x1024, .f32⟩
  | .hbm, ⟨57, _⟩ => ⟨S32x32x1024, .f32⟩
  | .hbm, ⟨58, _⟩ => ⟨S32x32x1024, .f32⟩
  | .hbm, ⟨59, _⟩ => ⟨S_, .f32⟩
  | .hbm, ⟨60, _⟩ => ⟨S32x32x1024, .f32⟩
  | .hbm, ⟨61, _⟩ => ⟨S32x32x1024, .f32⟩
  | .hbm, ⟨62, _⟩ => ⟨S_, .f32⟩
  | .hbm, ⟨63, _⟩ => ⟨S32x32x1024, .f32⟩
  | .hbm, ⟨64, _⟩ => ⟨S32x32x1024, .f32⟩
  | .hbm, ⟨65, _⟩ => ⟨S32x32x160, .f32⟩
  | .hbm, ⟨66, _⟩ => ⟨S32x32x160, .f32⟩
  | .hbm, ⟨67, _⟩ => ⟨S_, .f32⟩
  | .hbm, ⟨68, _⟩ => ⟨S32x32x160, .f32⟩
  | .hbm, ⟨69, _⟩ => ⟨S32x32x160, .f32⟩
  | .hbm, ⟨70, _⟩ => ⟨S_, .f32⟩
  | .hbm, ⟨71, _⟩ => ⟨S32x32x160, .f32⟩
  | .hbm, ⟨72, _⟩ => ⟨S32x32x160, .f32⟩
  | .hbm, ⟨73, _⟩ => ⟨S32x32x1024, .f32⟩
  | .hbm, ⟨74, _⟩ => ⟨S_, .f32⟩
  | .hbm, ⟨75, _⟩ => ⟨S32x32x1024, .f32⟩
  | .hbm, ⟨76, _⟩ => ⟨S32x32x1024, .f32⟩
  | .hbm, ⟨77, _⟩ => ⟨S1x1x1024, .f32⟩
  | .hbm, ⟨78, _⟩ => ⟨S32x32x1024, .f32⟩
  | .hbm, ⟨79, _⟩ => ⟨S32x32x1024, .f32⟩
  | .hbm, ⟨80, _⟩ => ⟨S_, .f32⟩
  | .hbm, ⟨81, _⟩ => ⟨S32x32x1024, .f32⟩
  | .hbm, ⟨82, _⟩ => ⟨S32x32x1024, .f32⟩
  | .hbm, ⟨83, _⟩ => ⟨S32x32x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S32x1x3456, .f32⟩
  | _, _ => ⟨S17408x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_0 : Ref sig .tc := ⟨.hbm, 59, rfl⟩
abbrev main_v34 : Ref sig .tc := ⟨.hbm, 60, rfl⟩
abbrev main_v35 : Ref sig .tc := ⟨.hbm, 61, rfl⟩
abbrev main_cst_1 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_2 : Ref sig .tc := ⟨.hbm, 67, rfl⟩
abbrev main_v40 : Ref sig .tc := ⟨.hbm, 68, rfl⟩
abbrev main_v41 : Ref sig .tc := ⟨.hbm, 69, rfl⟩
abbrev main_cst_3 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_4 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== PreP.lean ====
abbrev S17408x3456 : Shape := ⟨2, ![17408, 3456]⟩
abbrev S3360 : Shape := ⟨1, ![3360]⟩
abbrev S1024 : Shape := ⟨1, ![1024]⟩
abbrev S16x64 : Shape := ⟨2, ![16, 64]⟩
abbrev S64x1024 : Shape := ⟨2, ![64, 1024]⟩
abbrev S160x1024 : Shape := ⟨2, ![160, 1024]⟩
abbrev S_ : Shape := ⟨0, ![]⟩
abbrev S3456 : Shape := ⟨1, ![3456]⟩
abbrev S1x3456 : Shape := ⟨2, ![1, 3456]⟩
abbrev S1x1024 : Shape := ⟨2, ![1, 1024]⟩
abbrev S384x1024 : Shape := ⟨2, ![384, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x1x3456 : Shape := ⟨3, ![2, 1, 3456]⟩
abbrev S16384x1024 : Shape := ⟨2, ![16384, 1024]⟩
abbrev S256x3456 : Shape := ⟨2, ![256, 3456]⟩
abbrev S1x1x3456 : Shape := ⟨3, ![1, 1, 3456]⟩
abbrev S256x1024 : Shape := ⟨2, ![256, 1024]⟩
abbrev S256x384 : Shape := ⟨2, ![256, 384]⟩
abbrev S256x128 : Shape := ⟨2, ![256, 128]⟩

abbrev nBuf : Space → Nat
  | .hbm => 67
  | .vmem => 33
  | .smem => 0
  | _ => 0

abbrev bufTy : (tb : Table) → Fin (tcTables nBuf tb) → BufTy
  | .hbm, ⟨0, _⟩ => ⟨S17408x3456, .f32⟩
  | .hbm, ⟨1, _⟩ => ⟨S3360, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16x64, .f32⟩
  | .hbm, ⟨7, _⟩ => ⟨S64x1024, .f32⟩
  | .hbm, ⟨8, _⟩ => ⟨S64x1024, .f32⟩
  | .hbm, ⟨9, _⟩ => ⟨S160x1024, .f32⟩
  | .hbm, ⟨10, _⟩ => ⟨S_, .i32⟩
  | .hbm, ⟨11, _⟩ => ⟨S_, .f32⟩
  | .hbm, ⟨12, _⟩ => ⟨S3456, .f32⟩
  | .hbm, ⟨13, _⟩ => ⟨S1x3456, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S64x1024, .bf16⟩
  | .hbm, ⟨20, _⟩ => ⟨S_, .i32⟩
  | .hbm, ⟨21, _⟩ => ⟨S_, .bf16⟩
  | .hbm, ⟨22, _⟩ => ⟨S384x1024, .bf16⟩
  | .hbm, ⟨23, _⟩ => ⟨S64x1024, .bf16⟩
  | .hbm, ⟨24, _⟩ => ⟨S_, .i32⟩
  | .hbm, ⟨25, _⟩ => ⟨S_, .bf16⟩
  | .hbm, ⟨26, _⟩ => ⟨S384x1024, .bf16⟩
  | .hbm, ⟨27, _⟩ => ⟨S160x1024, .bf16⟩
  | .hbm, ⟨28, _⟩ => ⟨S_, .i32⟩
  | .hbm, ⟨29, _⟩ => ⟨S_, .bf16⟩
  | .hbm, ⟨30, _⟩ => ⟨S384x1024, .bf16⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S1x128, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S128x128, .bf16⟩
  | .hbm, ⟨56, _⟩ => ⟨S_, .f32⟩
  | .hbm, ⟨57, _⟩ => ⟨S2x1x3456, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S2x1x3456, .f32⟩
  | .local _ .vmem, ⟨0, _⟩ => ⟨S256x3456, .f32⟩
  | .local _ .vmem, ⟨1, _⟩ => ⟨S256x3456, .f32⟩
  | .local _ .vmem, ⟨2, _⟩ => ⟨S1x1x3456, .f32⟩
  | .local _ .vmem, ⟨3, _⟩ => ⟨S1x1x3456, .f32⟩
  | .local _ .vmem, ⟨4, _⟩ => ⟨S1x3456, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S128x128, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1x3456, .f32⟩
  | .local _ .vmem, ⟨31, _⟩ => ⟨S1x1x3456, .f32⟩
  | .local _ .vmem, ⟨32, _⟩ => ⟨S1x3456, .f32⟩
  | _, _ => ⟨S17408x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_call2_v0 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_call3_v0 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_call4_v5 : Ref sig .tc := ⟨.hbm, 38, rfl⟩
abbrev main_call4_v6 : Ref sig .tc := ⟨.hbm, 39, rfl⟩
abbrev main_call4_v7 : Ref sig .tc := ⟨.hbm, 40, rfl⟩
abbrev main_call4_v8 : Ref sig .tc := ⟨.hbm, 41, rfl⟩
abbrev main_call4_c : Ref sig .tc := ⟨.hbm, 42, rfl⟩
abbrev main_call4_v9 : Ref sig .tc := ⟨.hbm, 43, rfl⟩
abbrev main_call4_v10 : Ref sig .tc := ⟨.hbm, 44, rfl⟩
abbrev main_call4_v11 : Ref sig .tc := ⟨.hbm, 45, rfl⟩
abbrev main_call4_c_0 : Ref sig .tc := ⟨.hbm, 46, rfl⟩
abbrev main_call4_v12 : Ref sig .tc := ⟨.hbm, 47, rfl⟩
abbrev main_call4_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst : Ref sig .tc := ⟨.hbm, 56, rfl⟩
abbrev main_v21 : Ref sig .tc := ⟨.hbm, 57, rfl⟩
abbrev main_v22_0 : Ref sig .tc := ⟨.hbm, 58, rfl⟩
abbrev main_v22_1 : Ref sig .tc := ⟨.hbm, 59, rfl⟩
abbrev main_v22_2 : Ref sig .tc := ⟨.hbm, 60, rfl⟩
abbrev main_v22_3 : Ref sig .tc := ⟨.hbm, 61, rfl⟩
abbrev main_v22_4 : Ref sig .tc := ⟨.hbm, 62, rfl⟩
abbrev main_v22_5 : Ref sig .tc := ⟨.hbm, 63, rfl⟩
abbrev main_v22_6 : Ref sig .tc := ⟨.hbm, 64, rfl⟩
abbrev main_v22_7 : Ref sig .tc := ⟨.hbm, 65, rfl⟩
abbrev main_v22_8 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3456 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x3456 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== PrePRefIdeal.lean ====
abbrev S17408x3456 : Shape := ⟨2, ![17408, 3456]⟩
abbrev S3360 : Shape := ⟨1, ![3360]⟩
abbrev S1024 : Shape := ⟨1, ![1024]⟩
abbrev S16x64 : Shape := ⟨2, ![16, 64]⟩
abbrev S64x1024 : Shape := ⟨2, ![64, 1024]⟩
abbrev S160x1024 : Shape := ⟨2, ![160, 1024]⟩
abbrev S16384x3456 : Shape := ⟨2, ![16384, 3456]⟩
abbrev S2x8192x3456 : Shape := ⟨3, ![2, 8192, 3456]⟩
abbrev S2x8192x3360 : Shape := ⟨3, ![2, 8192, 3360]⟩
abbrev S_ : Shape := ⟨0, ![]⟩
abbrev S2x1x3360 : Shape := ⟨3, ![2, 1, 3360]⟩
abbrev S2x8191x3360 : Shape := ⟨3, ![2, 8191, 3360]⟩
abbrev S1x1x3360 : Shape := ⟨3, ![1, 1, 3360]⟩
abbrev S2x8192x1024 : Shape := ⟨3, ![2, 8192, 1024]⟩
abbrev S2x8192x64 : Shape := ⟨3, ![2, 8192, 64]⟩
abbrev S2x8192x160 : Shape := ⟨3, ![2, 8192, 160]⟩
abbrev S1x1x1024 : Shape := ⟨3, ![1, 1, 1024]⟩
abbrev S16384x1024 : Shape := ⟨2, ![16384, 1024]⟩
abbrev S2x1x3456 : Shape := ⟨3, ![2, 1, 3456]⟩

abbrev nBuf : Space → Nat
  | .hbm => 91
  | .vmem => 0
  | .smem => 0
  | _ => 0

abbrev bufTy : (tb : Table) → Fin (tcTables nBuf tb) → BufTy
  | .hbm, ⟨0, _⟩ => ⟨S17408x3456, .f32⟩
  | .hbm, ⟨1, _⟩ => ⟨S3360, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16x64, .f32⟩
  | .hbm, ⟨7, _⟩ => ⟨S64x1024, .f32⟩
  | .hbm, ⟨8, _⟩ => ⟨S64x1024, .f32⟩
  | .hbm, ⟨9, _⟩ => ⟨S160x1024, .f32⟩
  | .hbm, ⟨10, _⟩ => ⟨S16384x3456, .f32⟩
  | .hbm, ⟨11, _⟩ => ⟨S2x8192x3456, .f32⟩
  | .hbm, ⟨12, _⟩ => ⟨S2x8192x3360, .f32⟩
  | .hbm, ⟨13, _⟩ => ⟨S_, .f32⟩
  | .hbm, ⟨14, _⟩ => ⟨S2x1x3360, .f32⟩
  | .hbm, ⟨15, _⟩ => ⟨S2x8191x3360, .f32⟩
  | .hbm, ⟨16, _⟩ => ⟨S2x8192x3360, .f32⟩
  | .hbm, ⟨17, _⟩ => ⟨S2x8192x3360, .f32⟩
  | .hbm, ⟨18, _⟩ => ⟨S1x1x3360, .f32⟩
  | .hbm, ⟨19, _⟩ => ⟨S2x8192x3360, .f32⟩
  | .hbm, ⟨20, _⟩ => ⟨S2x8192x3360, .f32⟩
  | .hbm, ⟨21, _⟩ => ⟨S2x8192x3360, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S2x8192x64, .f32⟩
  | .hbm, ⟨26, _⟩ => ⟨S2x8192x64, .f32⟩
  | .hbm, ⟨27, _⟩ => ⟨S2x8192x160, .f32⟩
  | .hbm, ⟨28, _⟩ => ⟨S2x8192x64, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .i1⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S1x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192x1024, .f32⟩
  | .hbm, ⟨62, _⟩ => ⟨S2x8192x1024, .f32⟩
  | .hbm, ⟨63, _⟩ => ⟨S_, .f32⟩
  | .hbm, ⟨64, _⟩ => ⟨S2x8192x1024, .f32⟩
  | .hbm, ⟨65, _⟩ => ⟨S2x8192x1024, .f32⟩
  | .hbm, ⟨66, _⟩ => ⟨S2x8192x160, .f32⟩
  | .hbm, ⟨67, _⟩ => ⟨S2x8192x160, .f32⟩
  | .hbm, ⟨68, _⟩ => ⟨S_, .f32⟩
  | .hbm, ⟨69, _⟩ => ⟨S2x8192x160, .f32⟩
  | .hbm, ⟨70, _⟩ => ⟨S2x8192x160, .f32⟩
  | .hbm, ⟨71, _⟩ => ⟨S_, .f32⟩
  | .hbm, ⟨72, _⟩ => ⟨S2x8192x160, .f32⟩
  | .hbm, ⟨73, _⟩ => ⟨S2x8192x160, .f32⟩
  | .hbm, ⟨74, _⟩ => ⟨S2x8192x1024, .f32⟩
  | .hbm, ⟨75, _⟩ => ⟨S_, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S_, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S2x1x3456, .f32⟩
  | _, _ => ⟨S17408x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_v23 : Ref sig .tc := ⟨.hbm, 47, rfl⟩
abbrev main_v24 : Ref sig .tc := ⟨.hbm, 48, rfl⟩
abbrev main_cst_0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_1 : Ref sig .tc := ⟨.hbm, 60, rfl⟩
abbrev main_v35 : Ref sig .tc := ⟨.hbm, 61, rfl⟩
abbrev main_v36 : Ref sig .tc := ⟨.hbm, 62, rfl⟩
abbrev main_cst_2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_cst_4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_6 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.AttnOut.lean ====
module

public import proofs.«01_k».proof.Proof.Gen.AttnIdeal.Value
public import Idealize.ShloMosaic.Lib.Pipeline.ValueKit
public import Idealize.ShloMosaic.Lib.Pointwise
public import Idealize.ShloMosaic.Lib.WholeRead
public import Idealize.ShloMosaic.Lib.LoopRemainder
public import Idealize.ShloMosaic.Lib.VecWindow

@[expose] public section

/-! What one run of the attention body leaves in its output block, as a plain recursion over the
    blocks of keys before the diagonal, whichever of its two cases runs. -/

set_option maxRecDepth 16384

noncomputable section

namespace Cert.AttnValue

open Cert.AttnIdeal Cert.AttnIdeal.Gen Idealize.ShloMosaic Idealize.ShloMosaic.TcCoe Idealize.SL.Sem
open Idealize.ShloMosaic.Pipeline (Dat)

/-- What a query block carries from one block of keys to the next: for each of the two maps the running
    maximum, the running sum and the running weighted sum. -/
abbrev St := FVec Ideal S256x1 .f32 × FVec Ideal S256x1 .f32 × FVec Ideal S256x128 .f32 × FVec Ideal S256x1 .f32 × FVec Ideal S256x1 .f32 × FVec Ideal S256x128 .f32

/-- Rows `256 j` to `256 j + 255` of a head's 8192 rows. -/
def rowsOf (X : Vec Ideal S8192x128 .bf16) (j : ℕ) : Vec Ideal S256x128 .bf16 := fun y =>
  if h : 256 * j + (y 0).val < 8192 then
    X (Fin.cons ⟨256 * j + (y 0).val, h⟩ (Fin.cons (y 1) finZeroElim) : S8192x128.Idx)
  else 0

/-- One block of keys and values taken in. -/
def turn (q1 q2 : FVec Ideal S256x128 .bf16) (K V : Vec Ideal S256x128 .bf16) (s : St) : St :=
  (k0_pay12 q1 s.1 K, k0_pay15 q1 s.1 s.2.1 K, k0_pay16 q1 s.1 s.2.2.1 K V,
   k0_pay18 q2 s.2.2.2.1 K, k0_pay21 q2 s.2.2.2.1 s.2.2.2.2.1 K, k0_pay22 q2 s.2.2.2.1 s.2.2.2.2.2 K V)

/-- Nothing taken in yet. -/
def start : St := (k0_pay8, k0_pay9, k0_pay10, k0_pay8, k0_pay9, k0_pay10)

/-- What is carried after the first `j` blocks. -/
def carried (q1 q2 : FVec Ideal S256x128 .bf16) (X9 X10 : Vec Ideal S8192x128 .bf16) : ℕ → St
  | 0 => start
  | j + 1 => turn q1 q2 (rowsOf X9 j) (rowsOf X10 j) (carried q1 q2 X9 X10 j)

/-- The block's result from what is carried up to the diagonal and the diagonal block of keys and values. -/
def close (lam : FVec Ideal S1x1 .f32) (q1 q2 : FVec Ideal S256x128 .bf16) (K V : Vec Ideal S256x128 .bf16) (s : St)
    (g : Vec Ideal S1x128 .f32) : FVec Ideal S256x128 .f32 :=
  k0_pay1 lam s.2.2.2.2.1 s.2.2.2.2.2 V
    (k0_pay43 q1 s.1 s.2.1 k0_pay35 (iota .tc S256x256 32 [1] iota_S256x256_d1_w32) 64#32 k0_pay36 k0_pay37 1#32 K)
    (k0_pay44 q1 s.1 s.2.2.1 k0_pay35 (iota .tc S256x256 32 [1] iota_S256x256_d1_w32) 64#32 k0_pay36 k0_pay37 1#32 K V)
    (k0_pay47 q2 s.2.2.2.1 k0_pay35 (iota .tc S256x256 32 [1] iota_S256x256_d1_w32) 64#32 k0_pay36 k0_pay37 1#32 K)
    (k0_pay48 q2 s.2.2.2.1 k0_pay35 (iota .tc S256x256 32 [1] iota_S256x256_d1_w32) 64#32 k0_pay36 k0_pay37 1#32 K)
    g

/-- The output block of query block `q`, from the queries, the head's keys and values, the lambda vectors and the gain. -/
def blockOut (q : ℕ) (x0 : Vec Ideal S256x128 .f32) (x3 : Vec Ideal S4x64 .f32) (x4 : Vec Ideal S1x128 .f32)
    (X9 X10 : Vec Ideal S8192x128 .bf16) : FVec Ideal S256x128 .f32 :=
  close (k0_pay4 x3) (k0_pay6 x0) (k0_pay7 x0) (rowsOf X9 q) (rowsOf X10 q)
    (carried (k0_pay6 x0) (k0_pay7 x0) X9 X10 q) x4

/-- The first loop meets as many blocks as there are before the diagonal. -/
theorem trips1 (i : grid0.Coords) : (k0_t1_loop i).trips = (i 2).val :=
  (by decide +kernel : ∀ n : Fin 32, Scf.trips 0#32 (Scalar.addi 0#32 (Scalar.muli (Scalar.divsi (Scalar.subi (BitVec.ofNat 32 n.val) 0#32) 1#32) 1#32)) 1#32 = n.val) ⟨(i 2).val, (i 2).isLt⟩

/-- The second loop meets none. -/
theorem trips2 (i : grid0.Coords) : (k0_t2_loop i).trips = 0 := Scf.rem_trips _ _

/-- Where the first loop's trip `k` reads. -/
theorem off1 (i : grid0.Coords) (k : Fin (k0_t1_loop i).trips) : k0_off1 i k = ![256 * k.val, 0] := by
  have hk : k.val < 32 := lt_trans (lt_of_lt_of_eq k.isLt (trips1 i)) (i 2).isLt
  have h : ∀ n : Fin 32, (Scalar.indexCast (Scalar.muli (Scf.iv 0#32 1#32 n.val) 256#32) : Index).toNat = 256 * n.val := by
    decide +kernel
  unfold k0_off1
  exact congrArg (fun z => ![z, 0]) (h ⟨k.val, hk⟩)

/-- Where the diagonal block is read. -/
theorem off3 (i : grid0.Coords) : k0_off3 i = ![256 * (i 2).val, 0] := by
  have h : ∀ n : Fin 32, (Scalar.indexCast (Scalar.muli (BitVec.ofNat 32 n.val) 256#32) : Index).toNat = 256 * n.val := by
    decide +kernel
  unfold k0_off3
  exact congrArg (fun z => ![z, 0]) (h ⟨(i 2).val, (i 2).isLt⟩)

/-- The rows a rectangle at row `256 j` names. -/
theorem rows_rect (X : Vec Ideal S8192x128 .bf16) (off : Fin 2 → ℕ) (j : ℕ) (hj : off = ![256 * j, 0])
    (hin : ∀ a, off a + (![256, 128] : Fin 2 → ℕ) a ≤ S8192x128.size a) (y : S256x128.Idx) :
    X ((Rect.unit (s := S8192x128) off ![256, 128] hin).toLoadRect.idx y) = rowsOf X j y := by
  subst hj
  have h : 256 * j + (y 0).val < 8192 := by
    have h1 : 256 * j + 256 ≤ 8192 := hin 0
    have h2 : (y 0).val < 256 := (y 0).isLt
    omega
  unfold rowsOf
  rw [dif_pos h]
  congr 1
  funext a
  match a with
  | ⟨0, _⟩ => exact Fin.ext (by show 256 * j + 1 * (y 0).val = 256 * j + (y 0).val; omega)
  | ⟨1, _⟩ => exact Fin.ext (by show 0 + 1 * (y 1).val = (y 1).val; omega)

/-- One trip of the first loop takes in one block. -/
theorem trip_eq (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole) (q1 q2 : FVec Ideal S256x128 .bf16) (X9 X10 : Vec Ideal S8192x128 .bf16) (v33 v34 : FVec Ideal S256x1 .f32) (v35 : FVec Ideal S256x128 .f32) (z w : BitVec 32)
    (k : Fin (k0_t1_loop i).trips) (s : St) :
    tripR_k0_t1 (F := Ideal) Variants.none c none i arg3 harg3 arg4 harg4 arg5 harg5 arg6 harg6 arg7 harg7 arg8 harg8 arg9 harg9 arg10 harg10 q1 q2 v33 v34 v35 z w (harg9.unread X9) (harg10.unread X10) k s
      = turn q1 q2 (rowsOf X9 k.val) (rowsOf X10 k.val) s := by
  have h9 : View.readAt (Elt Ideal) arg9.view (Rect.unit (s := S8192x128) (k0_off1 i k) ![256, 128] (k0_off1_inb i k)).toLoadRect (harg9.unread X9)
      = rowsOf X9 k.val := funext fun y => (harg9.readAt_unread X9 _ y).trans (rows_rect X9 _ _ (off1 i k) _ y)
  have h10 : View.readAt (Elt Ideal) arg10.view (Rect.unit (s := S8192x128) (k0_off1 i k) ![256, 128] (k0_off1_inb i k)).toLoadRect (harg10.unread X10)
      = rowsOf X10 k.val := funext fun y => (harg10.readAt_unread X10 _ y).trans (rows_rect X10 _ _ (off1 i k) _ y)
  obtain ⟨m1, l1, a1, m2, l2, a2⟩ := s
  unfold tripR_k0_t1 trip_k0_t1
  dsimp only
  rw [h9, h10]
  rfl

/-- The first loop's state is the recursion over blocks. -/
theorem loop1 (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole) (q1 q2 : FVec Ideal S256x128 .bf16) (X9 X10 : Vec Ideal S8192x128 .bf16) (v33 v34 : FVec Ideal S256x1 .f32) (v35 : FVec Ideal S256x128 .f32) (z w : BitVec 32)
    (n : ℕ) (hn : n ≤ (k0_t1_loop i).trips) :
    st_k0_t1 (F := Ideal) Variants.none c none i arg3 harg3 arg4 harg4 arg5 harg5 arg6 harg6 arg7 harg7 arg8 harg8 arg9 harg9 arg10 harg10 q1 q2 v33 v34 v35 z w (harg9.unread X9) (harg10.unread X10) start n
      = carried q1 q2 X9 X10 n := by
  induction n with
  | zero => rfl
  | succ n ih =>
    rw [st_k0_t1_succ Variants.none c none i arg3 harg3 arg4 harg4 arg5 harg5 arg6 harg6 arg7 harg7 arg8 harg8 arg9 harg9 arg10 harg10 q1 q2 v33 v34 v35 z w (harg9.unread X9) (harg10.unread X10) start ⟨n, hn⟩,
      ih (Nat.le_of_succ_le hn), trip_eq]
    rfl

/-- The same, at any way of writing its operands. -/
theorem loop1_at (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole) (q1 q2 : FVec Ideal S256x128 .bf16) (X9 X10 : Vec Ideal S8192x128 .bf16) (v33 v34 : FVec Ideal S256x1 .f32) (v35 : FVec Ideal S256x128 .f32) (z w : BitVec 32)
    (Y9 : BufTy.Contents (Elt Ideal) arg9.view.ty) (Y10 : BufTy.Contents (Elt Ideal) arg10.view.ty)
    (h9 : Y9 = harg9.unread X9) (h10 : Y10 = harg10.unread X10) (n : ℕ) (hn : n = (k0_t1_loop i).trips) :
    st_k0_t1 (F := Ideal) Variants.none c none i arg3 harg3 arg4 harg4 arg5 harg5 arg6 harg6 arg7 harg7 arg8 harg8 arg9 harg9 arg10 harg10 q1 q2 v33 v34 v35 z w Y9 Y10 (k0_pay8, k0_pay9, k0_pay10, k0_pay8, k0_pay9, k0_pay10) n
      = carried q1 q2 X9 X10 (i 2).val := by
  rw [h9, h10, hn, ← trips1 i]
  exact loop1 c i arg3 harg3 arg4 harg4 arg5 harg5 arg6 harg6 arg7 harg7 arg8 harg8 arg9 harg9 arg10 harg10 q1 q2 X9 X10 v33 v34 v35 z w _ le_rfl

/-- The second loop leaves what it was given. -/
theorem loop2_at (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole) (q1 q2 : FVec Ideal S256x128 .bf16) (v33 v34 : FVec Ideal S256x1 .f32) (v35 : FVec Ideal S256x128 .f32) (z w : BitVec 32)
    (Y9 : BufTy.Contents (Elt Ideal) arg9.view.ty) (Y10 : BufTy.Contents (Elt Ideal) arg10.view.ty) (s : St) (n : ℕ) (hn : n = (k0_t2_loop i).trips) :
    st_k0_t2 (F := Ideal) Variants.none c none i arg3 harg3 arg4 harg4 arg5 harg5 arg6 harg6 arg7 harg7 arg8 harg8 arg9 harg9 arg10 harg10 q1 q2 v33 v34 v35 z w Y9 Y10 s n = s := by
  rw [hn, trips2]
  rfl

/-- The diagonal block as it is read. -/
theorem ld_rows (i : grid0.Coords) (X : Vec Ideal S8192x128 .bf16)
    (hin : ∀ a, k0_off3 i a + (![256, 128] : Fin 2 → ℕ) a ≤ S8192x128.size a) :
    View.ld X (Rect.unit (s := S8192x128) (k0_off3 i) ![256, 128] hin) = rowsOf X (i 2).val :=
  funext fun y => rows_rect X _ _ (off3 i) hin y

/-- A memref written whole holds what was written. -/
theorem written (arg9 : Memref sig .tc .vmem S8192x128 .bf16) (harg9 : arg9.IsWhole) (X : Vec Ideal S8192x128 .bf16) :
    arg9.view.writes (Elt Ideal) arg9.view.junk [⟨Rect.unit (s := S8192x128) ![0, 0] ![8192, 128] inb_S8192x128_S8192x128_0_0, X⟩] = harg9.unread X :=
  harg9.eq_unread (View.read_writes_full arg9.view _ inb_S8192x128_S8192x128_0_0 X [])

/-- The output where the carried copies of the keys and values are read. -/
theorem out_B (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole)
   (hc0 : ¬cond0_0 i) (x0 : Vec Ideal S256x128 .f32) (x1 x2 : Vec Ideal S8192x128 .f32) (x3 : Vec Ideal S4x64 .f32) (x4 : Vec Ideal S1x128 .f32) (X9 X10 : Vec Ideal S8192x128 .bf16) :
   out0_B_5 c i arg3 harg3 arg4 harg4 arg5 harg5 arg6 harg6 arg7 harg7 arg8 harg8 arg9 harg9 arg10 harg10 hc0 x0 x1 x2 x3 x4 X9 X10 = blockOut (i 2).val x0 x3 x4 X9 X10 := by
  unfold out0_B_5
  frame_out
  rw [loop1_at c i arg3 harg3 arg4 harg4 arg5 harg5 arg6 harg6 arg7 harg7 arg8 harg8 arg9 harg9 arg10 harg10 (k0_pay6 x0) (k0_pay7 x0) X9 X10 _ _ _ _ _ _ _ rfl rfl _ rfl, loop2_at c i arg3 harg3 arg4 harg4 arg5 harg5 arg6 harg6 arg7 harg7 arg8 harg8 arg9 harg9 arg10 harg10 _ _ _ _ _ _ _ _ _ _ _ rfl,
    ld_rows, ld_rows]
  rfl

/-- The output where they are first stored. -/
theorem out_A (c : Dev nD) (i : grid0.Coords) (arg3 : Memref sig .tc .vmem S256x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S256x128 .f32) (harg8 : arg8.IsWhole) (arg9 : Memref sig .tc .vmem S8192x128 .bf16) (harg9 : arg9.IsWhole) (arg10 : Memref sig .tc .vmem S8192x128 .bf16) (harg10 : arg10.IsWhole)
   (hc0 : cond0_0 i) (x0 : Vec Ideal S256x128 .f32) (x1 x2 : Vec Ideal S8192x128 .f32) (x3 : Vec Ideal S4x64 .f32) (x4 : Vec Ideal S1x128 .f32) :
   out0_A_5 c i arg3 harg3 arg4 harg4 arg5 harg5 arg6 harg6 arg7 harg7 arg8 harg8 arg9 harg9 arg10 harg10 hc0 x0 x1 x2 x3 x4 = blockOut (i 2).val x0 x3 x4 (k0_pay2 x1) (k0_pay3 x2) := by
  unfold out0_A_5
  frame_out
  rw [loop1_at c i arg3 harg3 arg4 harg4 arg5 harg5 arg6 harg6 arg7 harg7 arg8 harg8 arg9 harg9 arg10 harg10 (k0_pay6 x0) (k0_pay7 x0) (k0_pay2 x1) (k0_pay3 x2) _ _ _ _ _ _ _ (written arg9 harg9 _) (written arg10 harg10 _) _ rfl,
    loop2_at c i arg3 harg3 arg4 harg4 arg5 harg5 arg6 harg6 arg7 harg7 arg8 harg8 arg9 harg9 arg10 harg10 _ _ _ _ _ _ _ _ _ _ _ rfl, ld_rows, ld_rows]
  rfl

end Cert.AttnValue

end
-- ==== Proof.AttnMath.lean ====
module

public import Idealize.ShloMosaic.PureOps.Ideal
public import Mathlib.Algebra.BigOperators.Fin
public import Mathlib.Data.EReal.Inv

@[expose] public section

/-! The arithmetic of a row of attention whose keys are met block by block. A row carries a running
    maximum `m`, a running sum `l` and a running weighted sum `a`; what they stand for are the plain
    sums `L = ∑ exp(x k)` and `A d = ∑ exp(x k) · v k d` over the keys met so far. -/

noncomputable section

namespace Cert.AttnMath

open Idealize.ShloMosaic

/-- A row's carried values stand for the plain sums `L` and `A`: either no key has been met, or the
    carried values are the plain ones scaled by `exp(-M)` for the real maximum `M`. -/
def Good (m l : EReal) (a : Fin 128 → EReal) (L : ℝ) (A : Fin 128 → ℝ) : Prop :=
  (m = ⊥ ∧ l = 0 ∧ (∀ d, a d = 0) ∧ L = 0 ∧ ∀ d, A d = 0) ∨
    ∃ M : ℝ, m = (M : EReal) ∧ l = ((L * Real.exp (-M) : ℝ) : EReal) ∧ ∀ d, a d = ((A d * Real.exp (-M) : ℝ) : EReal)

/-- A finite sum of reals is real. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The maximum of values below `⊤`, one of them above `⊥`, is real. -/
theorem fold_max_real {ι : Type*} (s : Finset ι) (f : ι → EReal) (hf : ∀ k, f k ≠ ⊤) {k0 : ι} (hk : k0 ∈ s) (h0 : f k0 ≠ ⊥) :
    ∃ M : ℝ, s.fold max ⊥ f = (M : EReal) := by
  have h1 : s.fold max ⊥ f < ⊤ := (Finset.fold_max_lt ⊤).2 ⟨bot_lt_top, fun k _ => lt_top_iff_ne_top.2 (hf k)⟩
  have h2 : ⊥ < s.fold max ⊥ f := (Finset.lt_fold_max ⊥).2 (Or.inr ⟨k0, hk, bot_lt_iff_ne_bot.2 h0⟩)
  exact ⟨_, (EReal.coe_toReal h1.ne h2.ne').symm⟩

/-- The weight of a score against a real maximum: zero where the key is not allowed. -/
theorem exp_score {p : Prop} [Decidable p] (x M : ℝ) :
    Ideal.exp ((if p then (x : EReal) else ⊥) - (M : EReal)) = (((if p then Real.exp x else 0) * Real.exp (-M) : ℝ) : EReal) := by
  split
  · rw [← EReal.coe_sub, Ideal.exp_coe, ← Real.exp_add, sub_eq_add_neg]
  · rw [EReal.bot_sub, Ideal.exp_bot, zero_mul, EReal.coe_zero]

/-- One block of keys taken in: the carried values stand for the plain sums with the block's added. -/
theorem step {m l : EReal} {a : Fin 128 → EReal} {L : ℝ} {A : Fin 128 → ℝ} (hG : Good m l a L A)
    {p : Fin 256 → Prop} [DecidablePred p] (s : Fin 256 → EReal) (x : Fin 256 → ℝ)
    (hs : ∀ r, s r = if p r then (x r : EReal) else ⊥) (hp : ∃ r, p r)
    (v : Fin 256 → Fin 128 → EReal) (w : Fin 256 → Fin 128 → ℝ) (hv : ∀ r d, v r d = (w r d : EReal))
    {m' : EReal} (hm : m' = max m (Finset.univ.fold max ⊥ s)) {l' : EReal} {a' : Fin 128 → EReal}
    (hl : l' = Ideal.exp (m - m') * l + ∑ r, Ideal.exp (s r - m'))
    (ha : ∀ d, a' d = Ideal.exp (m - m') * a d + ∑ r, Ideal.exp (s r - m') * v r d) :
    Good m' l' a' (L + ∑ r, if p r then Real.exp (x r) else 0)
      (fun d => A d + ∑ r, (if p r then Real.exp (x r) else 0) * w r d) := by
  obtain ⟨r0, h0⟩ := hp
  obtain ⟨B, hB⟩ := fold_max_real Finset.univ s (fun k => by rw [hs]; split <;> simp) (Finset.mem_univ r0)
    (by rw [hs, if_pos h0]; simp)
  have key : ∃ M : ℝ, m' = (M : EReal) ∧ Ideal.exp (m - m') * l = ((L * Real.exp (-M) : ℝ) : EReal)
      ∧ ∀ d, Ideal.exp (m - m') * a d = ((A d * Real.exp (-M) : ℝ) : EReal) := by
    rcases hG with ⟨h1, h2, h3, h4, h5⟩ | ⟨M, h1, h2, h3⟩
    · refine ⟨B, ?_, ?_, fun d => ?_⟩
      · rw [hm, hB, h1]; simp
      · rw [h2, h4]; simp
      · rw [h3, h5]; simp
    · have hM : m' = ((max M B : ℝ) : EReal) := by rw [hm, hB, h1]; exact (EReal.coe_strictMono.monotone.map_max).symm
      refine ⟨max M B, hM, ?_, fun d => ?_⟩
      · rw [hM, h1, h2, ← EReal.coe_sub, Ideal.exp_coe, ← EReal.coe_mul, mul_left_comm, ← Real.exp_add]
        congr 3; ring
      · rw [hM, h1, h3, ← EReal.coe_sub, Ideal.exp_coe, ← EReal.coe_mul, mul_left_comm, ← Real.exp_add]
        congr 3; ring
  obtain ⟨M, h1, h2, h3⟩ := key
  refine Or.inr ⟨M, h1, ?_, fun d => ?_⟩
  · rw [hl, h2, h1]
    simp only [hs, exp_score]
    rw [coe_sum, ← EReal.coe_add, ← Finset.sum_mul, add_mul]
  · rw [ha, h3, h1]
    simp only [hs, exp_score, hv, ← EReal.coe_mul]
    rw [coe_sum, ← EReal.coe_add, add_mul, Finset.sum_mul]
    congr 2
    exact Finset.sum_congr rfl fun r _ => by ring

/-- The quotient of the carried values is the quotient of the plain sums. -/
theorem quot {m l : EReal} {a : Fin 128 → EReal} {L : ℝ} {A : Fin 128 → ℝ} (hG : Good m l a L A) (hL : L ≠ 0) (d : Fin 128) :
    Ideal.div (a d) l = ((A d / L : ℝ) : EReal) := by
  rcases hG with ⟨h1, h2, h3, h4, h5⟩ | ⟨M, h1, h2, h3⟩
  · exact absurd h4 hL
  · rw [h2, h3, Ideal.div_coe (mul_ne_zero hL (Real.exp_ne_zero _)), ← EReal.coe_mul]
    congr 1
    have := Real.exp_ne_zero (-M)
    field_simp

/-- One key's share of a row, taken against any real maximum. -/
theorem share {L M : ℝ} (hL : L ≠ 0) {p : Prop} [Decidable p] (x : ℝ) :
    Ideal.div (Ideal.exp ((if p then (x : EReal) else ⊥) - (M : EReal))) ((L * Real.exp (-M) : ℝ) : EReal)
      = (((if p then Real.exp x else 0) / L : ℝ) : EReal) := by
  rw [exp_score, Ideal.div_coe (mul_ne_zero hL (Real.exp_ne_zero _)), ← EReal.coe_mul]
  congr 1
  have := Real.exp_ne_zero (-M)
  field_simp

/-- A sum over the 8192 keys, none beyond block `q` counting: the blocks before `q`, then block `q`. -/
theorem sum_keys (f : ℕ → ℝ) (q : ℕ) (hq : q < 32) (hz : ∀ i r, q < i → f (256 * i + r) = 0) :
    ∑ k : Fin 8192, f k.val
      = (∑ i ∈ Finset.range q, ∑ r : Fin 256, f (256 * i + r.val)) + ∑ r : Fin 256, f (256 * q + r.val) := by
  have e : ∑ k : Fin 8192, f k.val = ∑ i : Fin 32, ∑ r : Fin 256, f (256 * i.val + r.val) := by
    rw [← Fintype.sum_prod_type', ← (finProdFinEquiv (m := 32) (n := 256)).sum_comp]
    exact Finset.sum_congr rfl fun x _ => by
      show f (x.2.val + 256 * x.1.val) = _
      rw [add_comm]
  rw [e, Fin.sum_univ_eq_sum_range (fun i => ∑ r : Fin 256, f (256 * i + r.val)) 32,
    ← Finset.sum_range_succ (fun i => ∑ r : Fin 256, f (256 * i + r.val)) q]
  symm
  refine Finset.sum_subset (by intro i; simp only [Finset.mem_range]; omega) fun i hi hn => ?_
  refine Finset.sum_eq_zero fun r _ => hz i r ?_
  simp only [Finset.mem_range] at hi hn
  omega

end Cert.AttnMath

end
-- ==== Proof.AttnRows.lean ====
module

public import proofs.«01_k».proof.Proof.AttnOut
public import proofs.«01_k».proof.Proof.AttnMath
public import Idealize.ShloMosaic.Lib.IdealHost

@[expose] public section

/-! The attention body one row at a time: what a row carries stands for the plain sums of its keys. -/

set_option maxRecDepth 16384

noncomputable section

namespace Cert.AttnValue

open Cert.AttnIdeal Cert.AttnIdeal.Gen Idealize.ShloMosaic Idealize.ShloMosaic.TcCoe Idealize.SL.Sem
open Cert.AttnMath

/-- Row `r`'s carried values stand for the plain sums `L` and `A`. -/
def RowGood (mm l : FVec Ideal S256x1 .f32) (a : FVec Ideal S256x128 .f32) (r : Fin 256) (L : ℝ) (A : Fin 128 → ℝ) : Prop :=
  Good (mm (ix2 r 0)) (l (ix2 r 0)) (fun d => a (ix2 r d)) L A

/-- The float word of minus infinity. -/
theorem negInf : Ideal.ofBits .f32 4286578688#32 = ⊥ := by simp [Ideal.ofBits, Ideal.ieee]

/-- A query row's score against a key row. -/
def score (q K : FVec Ideal S256x128 .bf16) (r k : Fin 256) : EReal := ∑ j : Fin 128, q (ix2 r j) * K (ix2 k j)

/-- Before any key. -/
theorem row_start (r : Fin 256) : RowGood (k0_pay8 (F := Ideal)) k0_pay9 k0_pay10 r 0 (fun _ => 0) := by
  refine Or.inl ⟨rfl, ?_, fun d => ?_, rfl, fun _ => rfl⟩
  · pointwise [k0_pay9]
  · pointwise [k0_pay10]

/-- A whole block of keys taken in. -/
theorem row_turn (q K V : FVec Ideal S256x128 .bf16) (mm l : FVec Ideal S256x1 .f32) (a : FVec Ideal S256x128 .f32) (r : Fin 256)
    {L : ℝ} {A : Fin 128 → ℝ} (hG : RowGood mm l a r L A) (x : Fin 256 → ℝ) (hx : ∀ k, score q K r k = (x k : EReal))
    (w : Fin 256 → Fin 128 → ℝ) (hw : ∀ k d, V (ix2 k d) = (w k d : EReal)) :
    RowGood (k0_pay12 q mm K) (k0_pay15 q mm l K) (k0_pay16 q mm a K V) r
      (L + ∑ k, Real.exp (x k)) (fun d => A d + ∑ k, Real.exp (x k) * w k d) := by
  have h := step hG (p := fun _ => True) (score q K r) x (fun k => by rw [hx k, if_pos trivial]) ⟨0, trivial⟩
    (fun k d => V (ix2 k d)) w hw (m' := k0_pay12 q mm K (ix2 r 0))
    (by pointwise [k0_pay12, k0_pay11]; rw [negInf]; rfl)
    (l' := k0_pay15 q mm l K (ix2 r 0)) (a' := fun d => k0_pay16 q mm a K V (ix2 r d))
    (by pointwise [k0_pay15, k0_pay14, k0_pay13, k0_pay12, k0_pay11]; rfl)
    (fun d => by pointwise [k0_pay16, k0_pay14, k0_pay13, k0_pay12, k0_pay11]; rfl)
  simp only [if_true] at h
  exact h

/-- The mask of the diagonal block: a key is allowed where its group of 64 does not come after the query's. -/
theorem mask (r k : Fin 256) :
    k0_pay38 k0_pay35 (iota .tc S256x256 32 [1] iota_S256x256_d1_w32) 64#32 k0_pay36 k0_pay37 1#32 (ix2 r k)
      = if k.val / 64 ≤ r.val / 64 then 1#1 else 0#1 := by
  have h1 : k0_pay35 (ix2 r k) = BitVec.ofNat 32 (r.val / 64) := by
    pointwise [k0_pay35]
    revert r; decide +kernel
  pointwise [k0_pay38, k0_pay37, k0_pay36]
  rw [h1]
  obtain ⟨g, hg⟩ : ∃ g : Fin 4, g.val = r.val / 64 := ⟨⟨r.val / 64, by have := r.isLt; omega⟩, rfl⟩
  rw [← hg]
  clear h1 hg
  revert g k
  clear r
  decide +kernel

/-- The diagonal block of keys taken in by the first map. -/
theorem row_diag (q K V : FVec Ideal S256x128 .bf16) (mm l : FVec Ideal S256x1 .f32) (a : FVec Ideal S256x128 .f32) (r : Fin 256)
    {L : ℝ} {A : Fin 128 → ℝ} (hG : RowGood mm l a r L A) (x : Fin 256 → ℝ) (hx : ∀ k, score q K r k = (x k : EReal))
    (w : Fin 256 → Fin 128 → ℝ) (hw : ∀ k d, V (ix2 k d) = (w k d : EReal)) :
    RowGood (k0_pay40 q mm k0_pay35 (iota .tc S256x256 32 [1] iota_S256x256_d1_w32) 64#32 k0_pay36 k0_pay37 1#32 K)
      (k0_pay43 q mm l k0_pay35 (iota .tc S256x256 32 [1] iota_S256x256_d1_w32) 64#32 k0_pay36 k0_pay37 1#32 K)
      (k0_pay44 q mm a k0_pay35 (iota .tc S256x256 32 [1] iota_S256x256_d1_w32) 64#32 k0_pay36 k0_pay37 1#32 K V) r
      (L + ∑ k : Fin 256, if k.val / 64 ≤ r.val / 64 then Real.exp (x k) else 0)
      (fun d => A d + ∑ k : Fin 256, (if k.val / 64 ≤ r.val / 64 then Real.exp (x k) else 0) * w k d) := by
  have hs : ∀ k, Scalar.select (k0_pay38 k0_pay35 (iota .tc S256x256 32 [1] iota_S256x256_d1_w32) 64#32 k0_pay36 k0_pay37 1#32 (ix2 r k))
      (score q K r k) (Named.named (F := Ideal) (φ := .f32) κ "mask" 0xF149F2CA#32) = if k.val / 64 ≤ r.val / 64 then (x k : EReal) else ⊥ := by
    intro k
    rw [mask, hx]
    split
    · rfl
    · rfl
  exact step hG (p := fun k : Fin 256 => k.val / 64 ≤ r.val / 64) _ x hs ⟨r, le_rfl⟩
    (fun k d => V (ix2 k d)) w hw
    (by pointwise [k0_pay40, k0_pay39]; rw [negInf]; rfl)
    (by pointwise [k0_pay43, k0_pay42, k0_pay41, k0_pay40, k0_pay39]; rfl)
    (fun d => by pointwise [k0_pay44, k0_pay42, k0_pay41, k0_pay40, k0_pay39]; rfl)

end Cert.AttnValue

end
-- ==== Proof.AttnBlock.lean ====
module

public import proofs.«01_k».proof.Proof.AttnRows

@[expose] public section

/-! A row of a query block's output is the difference of two softmax-weighted sums of the values over
    the allowed keys, normalised. -/

set_option maxRecDepth 16384

noncomputable section

namespace Cert.AttnValue

open Cert.AttnIdeal Cert.AttnIdeal.Gen Idealize.ShloMosaic Idealize.ShloMosaic.TcCoe Idealize.SL.Sem
open Cert.AttnMath

/-- The unnormalised weight of key `n` for the query at position `p`. -/
def wt (x : ℕ → ℝ) (p n : ℕ) : ℝ := if n / 64 ≤ p / 64 then Real.exp (x n) else 0

/-- The sum of a query's weights. -/
def Wsum (x : ℕ → ℝ) (p : ℕ) : ℝ := ∑ n : Fin 8192, wt x p n.val

/-- A query's weighted sum of the values. -/
def Vsum (x : ℕ → ℝ) (w : ℕ → Fin 128 → ℝ) (p : ℕ) (d : Fin 128) : ℝ := ∑ n : Fin 8192, wt x p n.val * w n.val d

/-- The difference of the two maps' averages. -/
def diff (x1 x2 : ℕ → ℝ) (w : ℕ → Fin 128 → ℝ) (lam : ℝ) (p : ℕ) (d : Fin 128) : ℝ :=
  Vsum x1 w p d / Wsum x1 p - lam * (Vsum x2 w p d / Wsum x2 p)

/-- The normalisation of a row `H`, with the gain `g` of its column. -/
def normed (H : Fin 128 → ℝ) (g : EReal) (d : Fin 128) : EReal :=
  (H d : EReal) * Ideal.rsqrt (Ideal.div (∑ e, (H e : EReal) * (H e : EReal)) (Ideal.ofBits .f32 1124073472#32) + Ideal.ofBits .f32 925353388#32)
    * g * Ideal.ofBits .f32 1061997773#32

theorem Wsum_ne (x : ℕ → ℝ) (p : ℕ) (hp : p < 8192) : Wsum x p ≠ 0 := by
  refine ne_of_gt (Finset.sum_pos' (fun n _ => ?_) ⟨⟨p, hp⟩, Finset.mem_univ _, ?_⟩)
  · unfold wt; split
    · exact (Real.exp_pos _).le
    · exact le_rfl
  · unfold wt; rw [if_pos le_rfl]; exact Real.exp_pos _

/-- The weights over all keys are those of the blocks before the query's and those of its own block. -/
theorem split_keys (x : ℕ → ℝ) (u : ℕ → ℝ) (q : ℕ) (hq : q < 32) (r : Fin 256) :
    ∑ n : Fin 8192, wt x (256 * q + r.val) n.val * u n.val
      = (∑ i ∈ Finset.range q, ∑ k : Fin 256, Real.exp (x (256 * i + k.val)) * u (256 * i + k.val))
        + ∑ k : Fin 256, (if k.val / 64 ≤ r.val / 64 then Real.exp (x (256 * q + k.val)) else 0) * u (256 * q + k.val) := by
  have hr := r.isLt
  rw [sum_keys (fun n => wt x (256 * q + r.val) n * u n) q hq]
  · congr 1
    · refine Finset.sum_congr rfl fun i hi => Finset.sum_congr rfl fun k _ => ?_
      have hk := k.isLt
      rw [Finset.mem_range] at hi
      unfold wt
      rw [if_pos (by omega)]
    · refine Finset.sum_congr rfl fun k _ => ?_
      have hk := k.isLt
      have e : ((256 * q + k.val) / 64 ≤ (256 * q + r.val) / 64) ↔ (k.val / 64 ≤ r.val / 64) := by omega
      unfold wt
      simp only [e]
  · intro i k hi
    unfold wt
    rw [if_neg (by omega), zero_mul]

theorem split_keys_one (x : ℕ → ℝ) (q : ℕ) (hq : q < 32) (r : Fin 256) :
    Wsum x (256 * q + r.val)
      = (∑ i ∈ Finset.range q, ∑ k : Fin 256, Real.exp (x (256 * i + k.val)))
        + ∑ k : Fin 256, (if k.val / 64 ≤ r.val / 64 then Real.exp (x (256 * q + k.val)) else 0) := by
  have h := split_keys x (fun _ => 1) q hq r
  simp only [mul_one] at h
  exact h

/-- The second map's payloads of a whole block are the first's. -/
theorem map2_turn (q K V : FVec Ideal S256x128 .bf16) (mm l : FVec Ideal S256x1 .f32) (a : FVec Ideal S256x128 .f32) :
    k0_pay18 q mm K = k0_pay12 q mm K ∧ k0_pay21 q mm l K = k0_pay15 q mm l K ∧ k0_pay22 q mm a K V = k0_pay16 q mm a K V :=
  ⟨rfl, rfl, rfl⟩

/-- What a row carries after `n` blocks, in both maps. -/
theorem row_carried (q1 q2 : FVec Ideal S256x128 .bf16) (X9 X10 : Vec Ideal S8192x128 .bf16) (r : Fin 256) (x1 x2 : ℕ → ℝ) (w : ℕ → Fin 128 → ℝ)
    (hx1 : ∀ j < 32, ∀ k : Fin 256, score q1 (rowsOf X9 j) r k = (x1 (256 * j + k.val) : EReal))
    (hx2 : ∀ j < 32, ∀ k : Fin 256, score q2 (rowsOf X9 j) r k = (x2 (256 * j + k.val) : EReal))
    (hw : ∀ j < 32, ∀ (k : Fin 256) (d : Fin 128), rowsOf X10 j (ix2 k d) = (w (256 * j + k.val) d : EReal)) (n : ℕ) (hn : n ≤ 32) :
    RowGood (carried q1 q2 X9 X10 n).1 (carried q1 q2 X9 X10 n).2.1 (carried q1 q2 X9 X10 n).2.2.1 r
        (∑ i ∈ Finset.range n, ∑ k : Fin 256, Real.exp (x1 (256 * i + k.val)))
        (fun d => ∑ i ∈ Finset.range n, ∑ k : Fin 256, Real.exp (x1 (256 * i + k.val)) * w (256 * i + k.val) d)
      ∧ RowGood (carried q1 q2 X9 X10 n).2.2.2.1 (carried q1 q2 X9 X10 n).2.2.2.2.1 (carried q1 q2 X9 X10 n).2.2.2.2.2 r
        (∑ i ∈ Finset.range n, ∑ k : Fin 256, Real.exp (x2 (256 * i + k.val)))
        (fun d => ∑ i ∈ Finset.range n, ∑ k : Fin 256, Real.exp (x2 (256 * i + k.val)) * w (256 * i + k.val) d) := by
  induction n with
  | zero => exact ⟨row_start r, row_start r⟩
  | succ n ih =>
    obtain ⟨g1, g2⟩ := ih (Nat.le_of_succ_le hn)
    have t1 := row_turn q1 (rowsOf X9 n) (rowsOf X10 n) _ _ _ r g1 _ (hx1 n hn) _ (hw n hn)
    have t2 := row_turn q2 (rowsOf X9 n) (rowsOf X10 n) _ _ _ r g2 _ (hx2 n hn) _ (hw n hn)
    simp only [Finset.sum_range_succ]
    exact ⟨t1, t2⟩

/-- The second map's diagonal block is taken in as the first's. -/
theorem diag2_l (q K : FVec Ideal S256x128 .bf16) (mm l : FVec Ideal S256x1 .f32) (r : Fin 256) :
    (k0_pay47 (F := Ideal) q mm k0_pay35 (iota .tc S256x256 32 [1] iota_S256x256_d1_w32) 64#32 k0_pay36 k0_pay37 1#32 K (ix2 r 0) : EReal) * (l (ix2 r 0) : EReal)
        + ∑ k : Fin 256, (Ideal.exp (k0_pay48 (F := Ideal) q mm k0_pay35 (iota .tc S256x256 32 [1] iota_S256x256_d1_w32) 64#32 k0_pay36 k0_pay37 1#32 K (ix2 r k)) : EReal)
      = (k0_pay43 (F := Ideal) q mm l k0_pay35 (iota .tc S256x256 32 [1] iota_S256x256_d1_w32) 64#32 k0_pay36 k0_pay37 1#32 K (ix2 r 0) : EReal) := by
  pointwise [k0_pay47, k0_pay48, k0_pay46, k0_pay45, k0_pay43, k0_pay42, k0_pay41, k0_pay40, k0_pay39]

theorem diag2_a (q K V : FVec Ideal S256x128 .bf16) (mm : FVec Ideal S256x1 .f32) (a : FVec Ideal S256x128 .f32) (r : Fin 256) (d : Fin 128) :
    (k0_pay47 (F := Ideal) q mm k0_pay35 (iota .tc S256x256 32 [1] iota_S256x256_d1_w32) 64#32 k0_pay36 k0_pay37 1#32 K (ix2 r 0) : EReal) * (a (ix2 r d) : EReal)
        + ∑ k : Fin 256, (Ideal.exp (k0_pay48 (F := Ideal) q mm k0_pay35 (iota .tc S256x256 32 [1] iota_S256x256_d1_w32) 64#32 k0_pay36 k0_pay37 1#32 K (ix2 r k)) : EReal) * (V (ix2 k d) : EReal)
      = (k0_pay44 (F := Ideal) q mm a k0_pay35 (iota .tc S256x256 32 [1] iota_S256x256_d1_w32) 64#32 k0_pay36 k0_pay37 1#32 K V (ix2 r d) : EReal) := by
  pointwise [k0_pay47, k0_pay48, k0_pay46, k0_pay45, k0_pay44, k0_pay42, k0_pay41, k0_pay40, k0_pay39]

/-- A row of the closing step, when both maps' averages are real. -/
theorem close_row (lam : FVec Ideal S1x1 .f32) (l2 : FVec Ideal S256x1 .f32) (a2 : FVec Ideal S256x128 .f32) (V : Vec Ideal S256x128 .bf16)
    (l1 : FVec Ideal S256x1 .f32) (a1 : FVec Ideal S256x128 .f32) (c2 : FVec Ideal S256x1 .f32) (s2 : FVec Ideal S256x256 .f32)
    (g : Vec Ideal S1x128 .f32) (r : Fin 256) (A B : Fin 128 → ℝ) (u : ℝ) (hlam : (lam (ix2 0 0) : EReal) = (u : EReal))
    (h1 : ∀ e, Ideal.div (a1 (ix2 r e)) (l1 (ix2 r 0)) = (A e : EReal))
    (h2 : ∀ e, Ideal.div ((c2 (ix2 r 0) : EReal) * (a2 (ix2 r e) : EReal) + ∑ k : Fin 256, (Ideal.exp (s2 (ix2 r k)) : EReal) * (V (ix2 k e) : EReal))
      ((c2 (ix2 r 0) : EReal) * (l2 (ix2 r 0) : EReal) + ∑ k : Fin 256, (Ideal.exp (s2 (ix2 r k)) : EReal)) = (B e : EReal)) (d : Fin 128) :
    k0_pay1 lam l2 a2 V l1 a1 c2 s2 g (ix2 r d) = normed (fun e => A e - u * B e) (g (ix2 0 d)) d := by
  pointwise [k0_pay1]
  simp only [hlam, h1, h2]
  simp only [normed, EReal.coe_sub, EReal.coe_mul]

/-- A row of a query block's output. -/
theorem block_row (q : ℕ) (hq : q < 32) (x0 : Vec Ideal S256x128 .f32) (x3 : Vec Ideal S4x64 .f32) (x4 : Vec Ideal S1x128 .f32)
    (X9 X10 : Vec Ideal S8192x128 .bf16) (r : Fin 256) (x1 x2 : ℕ → ℝ) (w : ℕ → Fin 128 → ℝ) (lam : ℝ)
    (hx1 : ∀ j < 32, ∀ k : Fin 256, score (k0_pay6 x0) (rowsOf X9 j) r k = (x1 (256 * j + k.val) : EReal))
    (hx2 : ∀ j < 32, ∀ k : Fin 256, score (k0_pay7 x0) (rowsOf X9 j) r k = (x2 (256 * j + k.val) : EReal))
    (hw : ∀ j < 32, ∀ (k : Fin 256) (d : Fin 128), rowsOf X10 j (ix2 k d) = (w (256 * j + k.val) d : EReal))
    (hlam : k0_pay4 (F := Ideal) x3 (ix2 0 0) = (lam : EReal)) (d : Fin 128) :
    blockOut q x0 x3 x4 X9 X10 (ix2 r d) = normed (diff x1 x2 w lam (256 * q + r.val)) (x4 (ix2 0 d)) d := by
  obtain ⟨g1, g2⟩ := row_carried (k0_pay6 x0) (k0_pay7 x0) X9 X10 r x1 x2 w hx1 hx2 hw q hq.le
  have t1 := row_diag _ (rowsOf X9 q) (rowsOf X10 q) _ _ _ r g1 _ (hx1 q hq) _ (hw q hq)
  have t2 := row_diag _ (rowsOf X9 q) (rowsOf X10 q) _ _ _ r g2 _ (hx2 q hq) _ (hw q hq)
  rw [← split_keys_one x1 q hq r, show (fun e : Fin 128 => _ + _) = Vsum x1 w (256 * q + r.val) from
    funext fun e => (split_keys x1 (fun n => w n e) q hq r).symm] at t1
  rw [← split_keys_one x2 q hq r, show (fun e : Fin 128 => _ + _) = Vsum x2 w (256 * q + r.val) from
    funext fun e => (split_keys x2 (fun n => w n e) q hq r).symm] at t2
  have hp : 256 * q + r.val < 8192 := by have := r.isLt; omega
  have d1 := fun e => quot t1 (Wsum_ne x1 _ hp) e
  have d2 := fun e => quot t2 (Wsum_ne x2 _ hp) e
  refine close_row _ _ _ _ _ _ _ _ x4 r (fun e => Vsum x1 w (256 * q + r.val) e / Wsum x1 (256 * q + r.val))
    (fun e => Vsum x2 w (256 * q + r.val) e / Wsum x2 (256 * q + r.val)) lam hlam d1 (fun e => ?_) d
  rw [diag2_l, diag2_a]
  exact d2 e

end Cert.AttnValue

end
-- ==== Proof.AttnScore.lean ====
module

public import proofs.«01_k».proof.Proof.AttnBlock

@[expose] public section

/-! The scores and the mixing weight are real numbers when the inputs are. -/

set_option maxRecDepth 16384

noncomputable section

namespace Cert.AttnValue

open Cert.AttnIdeal Cert.AttnIdeal.Gen Idealize.ShloMosaic Idealize.ShloMosaic.TcCoe Idealize.SL.Sem
open Cert.AttnMath

/-- The factor of the scores, one over the square root of the half head's width. -/
theorem eighth : Ideal.ofBits .f32 1040187392#32 = ((1 / 8 : ℝ) : EReal) := by
  simp [Ideal.ofBits, Ideal.ieee]
  norm_num
  rw [← EReal.coe_mul]
  norm_num

/-- The constant part of the mixing weight is a real number. -/
theorem fifth : ∃ u : ℝ, Ideal.ofBits .f32 1045220557#32 = (u : EReal) := by
  simp [Ideal.ofBits, Ideal.ieee]
  exact ⟨_, rfl⟩

/-- A number whose absolute value lies below infinity is real. -/
theorem real_of (x : EReal) (h : Ideal.cmp .olt (max x (-x)) (Ideal.ofBits .f32 0x7F800000#32) = 1#1) : (x.toReal : EReal) = x := by
  have hi : Ideal.ofBits .f32 0x7F800000#32 = ⊤ := by simp [Ideal.ofBits, Ideal.ieee]
  rw [hi] at h
  have hlt : max x (-x) < ⊤ := by
    by_contra hn
    rw [show Ideal.cmp .olt (max x (-x)) ⊤ = BitVec.ofBool (decide (max x (-x) < ⊤)) from rfl, decide_eq_false hn] at h
    exact absurd h (by decide)
  rw [max_lt_iff] at hlt
  refine EReal.coe_toReal hlt.1.ne fun hb => ?_
  rw [hb] at hlt
  exact absurd hlt.2 (by simp)

/-- A score between the query at `p` and the key at `n` of batch `b`, head `h`, map `mp`, from the array `Q` of queries and keys. -/
def xs (Q : ℕ → ℕ → ℝ) (b h mp p n : ℕ) : ℝ :=
  (∑ j : Fin 64, Q (b * 8192 + p) (h * 128 + mp * 64 + j.val) * Q (b * 8192 + n) (1024 + h * 128 + mp * 64 + j.val)) * (1 / 8)

theorem low : ∀ j : Fin 128, IntOp.cmpi .slt (BitVec.ofNat 32 j.val) 64#32 = if j.val < 64 then 1#1 else 0#1 := by decide +kernel
theorem high : ∀ j : Fin 128, IntOp.cmpi .sge (BitVec.ofNat 32 j.val) 64#32 = if j.val < 64 then 0#1 else 1#1 := by decide +kernel

theorem halves (f : Fin 128 → ℝ) : ∑ j, f j = ∑ j : Fin 64, f ⟨j.val, by omega⟩ + ∑ j : Fin 64, f ⟨64 + j.val, by omega⟩ :=
  Fin.sum_univ_add (a := 64) (b := 64) (f : Fin (64 + 64) → ℝ)

/-- The first map's score reads the first half of the head. -/
theorem score1 (x0 : Vec Ideal S256x128 .f32) (K : FVec Ideal S256x128 .bf16) (r k : Fin 256) (a e : ℕ → ℝ)
    (ha : ∀ j : Fin 128, x0 (ix2 r j) = (a j.val : EReal)) (he : ∀ j : Fin 128, K (ix2 k j) = (e j.val : EReal)) :
    score (k0_pay6 x0) K r k = (((∑ j : Fin 64, a j.val * e j.val) * (1 / 8) : ℝ) : EReal) := by
  have t : ∀ j : Fin 128, (k0_pay6 (F := Ideal) x0 (ix2 r j) : EReal) * K (ix2 k j)
      = (((if j.val < 64 then a j.val * (1 / 8) else 0) * e j.val : ℝ) : EReal) := by
    intro j
    have h : (k0_pay6 (F := Ideal) x0 (ix2 r j) : EReal) = ((if j.val < 64 then a j.val * (1 / 8) else 0 : ℝ) : EReal) := by
      pointwise [k0_pay6, k0_pay5]
      rw [low, eighth, ha]
      split
      · exact (EReal.coe_mul _ _).symm
      · rfl
    rw [h, he, EReal.coe_mul]
  unfold score
  simp only [t]
  rw [coe_sum, halves]
  refine congrArg (fun v : ℝ => (v : EReal)) ?_
  refine (congrArg₂ (· + ·) (Finset.sum_congr rfl fun j _ => ?_) (Finset.sum_eq_zero fun j _ => ?_)).trans
    ((add_zero _).trans (Finset.sum_mul Finset.univ (fun j : Fin 64 => a j.val * e j.val) (1 / 8)).symm)
  · rw [if_pos j.isLt]
    ring
  · rw [if_neg (by show ¬ 64 + j.val < 64; omega), zero_mul]

/-- The second map's score reads the second half of the head. -/
theorem score2 (x0 : Vec Ideal S256x128 .f32) (K : FVec Ideal S256x128 .bf16) (r k : Fin 256) (a e : ℕ → ℝ)
    (ha : ∀ j : Fin 128, x0 (ix2 r j) = (a j.val : EReal)) (he : ∀ j : Fin 128, K (ix2 k j) = (e j.val : EReal)) :
    score (k0_pay7 x0) K r k = (((∑ j : Fin 64, a (64 + j.val) * e (64 + j.val)) * (1 / 8) : ℝ) : EReal) := by
  have t : ∀ j : Fin 128, (k0_pay7 (F := Ideal) x0 (ix2 r j) : EReal) * K (ix2 k j)
      = (((if j.val < 64 then 0 else a j.val * (1 / 8)) * e j.val : ℝ) : EReal) := by
    intro j
    have h : (k0_pay7 (F := Ideal) x0 (ix2 r j) : EReal) = ((if j.val < 64 then 0 else a j.val * (1 / 8) : ℝ) : EReal) := by
      pointwise [k0_pay7, k0_pay5]
      rw [high, eighth, ha]
      split
      · rfl
      · exact (EReal.coe_mul _ _).symm
    rw [h, he, EReal.coe_mul]
  unfold score
  simp only [t]
  rw [coe_sum, halves]
  refine congrArg (fun v : ℝ => (v : EReal)) ?_
  refine (congrArg₂ (· + ·) (Finset.sum_eq_zero fun j _ => ?_) (Finset.sum_congr rfl fun j _ => ?_)).trans
    ((zero_add _).trans (Finset.sum_mul Finset.univ (fun j : Fin 64 => a (64 + j.val) * e (64 + j.val)) (1 / 8)).symm)
  · rw [if_pos j.isLt, zero_mul]
  · rw [if_neg (by show ¬ 64 + j.val < 64; omega)]
    ring

/-- The mixing weight as the kernel computes it. -/
def mix (x3 : Vec Ideal S4x64 .f32) : EReal := k0_pay4 (F := Ideal) x3 (ix2 0 0)

theorem mix_eq (x3 : Vec Ideal S4x64 .f32) : mix x3
    = Ideal.exp (∑ x : Fin 64, (x3 (ix2 0 x) : EReal) * x3 (ix2 1 x)) - Ideal.exp (∑ x : Fin 64, (x3 (ix2 2 x) : EReal) * x3 (ix2 3 x))
      + Ideal.ofBits .f32 1045220557#32 := by
  unfold mix
  pointwise [k0_pay4]

/-- The mixing weight of real vectors is real. -/
theorem mix_real (x3 : Vec Ideal S4x64 .f32) (h : ∀ i, ((x3 i : EReal).toReal : EReal) = x3 i) : ∃ u : ℝ, mix x3 = (u : EReal) := by
  obtain ⟨u, hu⟩ := fifth
  have e : ∀ i j : Fin 4, ∑ x : Fin 64, (x3 (ix2 i x) : EReal) * x3 (ix2 j x)
      = ((∑ x : Fin 64, (x3 (ix2 i x) : EReal).toReal * (x3 (ix2 j x) : EReal).toReal : ℝ) : EReal) := by
    intro i j
    rw [← coe_sum]
    refine Finset.sum_congr rfl fun x _ => ?_
    rw [EReal.coe_mul, h, h]
  rw [mix_eq, e, e, hu, Ideal.exp_coe, Ideal.exp_coe, ← EReal.coe_sub, ← EReal.coe_add]
  exact ⟨_, rfl⟩

end Cert.AttnValue

end
-- ==== Proof.AttnRef.lean ====
module

public import proofs.«01_k».proof.Proof.AttnScore
public import proofs.«01_k».proof.Proof.Gen.AttnRefIdeal.Read
public import Idealize.ShloMosaic.Lib.Pointwise

@[expose] public section

/-! The reference at an index, of real inputs. -/

set_option maxRecDepth 16384

noncomputable section

namespace Cert.AttnRefValue

open Cert.AttnRefIdeal Cert.AttnRefIdeal.Gen Cert.AttnRefIdeal.Read Idealize.ShloMosaic Idealize.ShloMosaic.TcCoe Idealize.SL.Sem
open Cert.AttnMath
open Cert.AttnValue (xs wt Wsum Vsum diff normed mix eighth Wsum_ne)

/-- The group of a position. -/
theorem group (i : S8192.Idx) : val_main_v23 (F := Ideal) i = BitVec.ofNat 32 ((i 0).val / 64) := by
  rw [val_main_v23_apply, val_main_call0_v11_apply, val_main_call0_v6_apply, val_main_call0_v5_apply, val_main_call0_v10_apply,
    val_main_call0_v8_apply, val_main_call0_v9_apply, val_main_call0_v13_apply, val_main_call0_v12_apply, val_main_call0_v2_apply,
    val_main_call0_v7_apply, val_main_call0_v1_apply, val_main_v22_apply]
  unfold val_main_call0_v3 val_main_call0_v4
  rw [show val_main_call0_v0 (F := Ideal) = fun _ => 64#32 from rfl, show val_main_call0_c (F := Ideal) = fun _ => 0#32 from rfl,
    show val_main_call0_c_0 (F := Ideal) = fun _ => 1#32 from rfl]
  have h : ∀ k : Fin 8192, Scalar.select
      (IntOp.andi (IntOp.cmpi .ne (if BitVec.ofNat 32 k.val = 0 then (0 : BitVec 32) else if (BitVec.ofNat 32 k.val).msb then -1 else 1)
          (if (64#32 : BitVec 32) = 0 then (0 : BitVec 32) else if (64#32 : BitVec 32).msb then -1 else 1)) (IntOp.cmpi .ne (IntOp.remsi .host (BitVec.ofNat 32 k.val) 64#32) 0#32))
      (IntOp.subi (IntOp.divsi .host (BitVec.ofNat 32 k.val) 64#32) 1#32) (IntOp.divsi .host (BitVec.ofNat 32 k.val) 64#32) = BitVec.ofNat 32 (k.val / 64) := by
    decide +kernel
  exact h (i 0)

/-- Whether a query's group may see a key's. -/
theorem allowed (i : S8192x8192.Idx) : val_main_v28 (F := Ideal) i = if (i 1).val / 64 ≤ (i 0).val / 64 then 1#1 else 0#1 := by
  rw [val_main_v28_apply, val_main_v26_apply, val_main_v24_apply, val_main_v27_apply, val_main_v25_apply, group, group]
  have h0 : (i 0).val < 8192 := (i 0).isLt
  have h1 : (i 1).val < 8192 := (i 1).isLt
  have h : ∀ a b : Fin 128, IntOp.cmpi .sle (BitVec.ofNat 32 b.val) (BitVec.ofNat 32 a.val) = if b.val ≤ a.val then 1#1 else 0#1 := by
    decide +kernel
  exact h ⟨(i 0).val / 64, by omega⟩ ⟨(i 1).val / 64, by omega⟩

variable (x0 : (⟨S17408x2048, .f32⟩ : BufTy).Contents (Elt Ideal)) (x1 : (⟨S17408x6144, .f32⟩ : BufTy).Contents (Elt Ideal))
variable (x2 : (⟨S4x64, .f32⟩ : BufTy).Contents (Elt Ideal)) (x3 : (⟨S128, .f32⟩ : BufTy).Contents (Elt Ideal))
variable (Q V : ℕ → ℕ → ℝ)

theorem bottom : (FloatOps.ofBits (F := Ideal) .f32 0xFF800000#32 : EReal) = ⊥ := by
  show Ideal.ofBits .f32 0xFF800000#32 = ⊥
  simp [Ideal.ofBits, Ideal.ieee]

/-- A query as the reference cuts it out. -/
theorem query (hQ : ∀ i : S17408x2048.Idx, (x0 i : EReal) = (Q (i 0).val (i 1).val : EReal)) (i : S2x8192x8x2x64.Idx) :
    (val_main_v1 (F := Ideal) x0 i : EReal) = (Q ((i 0).val * 8192 + (i 1).val) ((i 2).val * 128 + (i 3).val * 64 + (i 4).val) : EReal) := by
  have h2 : (i 2).val < 8 := (i 2).isLt
  have h3 : (i 3).val < 2 := (i 3).isLt
  have h4 : (i 4).val < 64 := (i 4).isLt
  rw [val_main_v1_apply, val_main_v0_apply, hQ]
  congr 2
  · show (((((i 0).val * 8192 + (i 1).val) * 8 + (i 2).val) * 2 + (i 3).val) * 64 + (i 4).val) / 1024 = _
    omega
  · show (((((i 0).val * 8192 + (i 1).val) * 8 + (i 2).val) * 2 + (i 3).val) * 64 + (i 4).val) % 1024 = _
    omega

/-- A key as the reference cuts it out. -/
theorem key (hQ : ∀ i : S17408x2048.Idx, (x0 i : EReal) = (Q (i 0).val (i 1).val : EReal)) (i : S2x8192x8x2x64.Idx) :
    (val_main_v3 (F := Ideal) x0 i : EReal) = (Q ((i 0).val * 8192 + (i 1).val) (1024 + (i 2).val * 128 + (i 3).val * 64 + (i 4).val) : EReal) := by
  have h2 : (i 2).val < 8 := (i 2).isLt
  have h3 : (i 3).val < 2 := (i 3).isLt
  have h4 : (i 4).val < 64 := (i 4).isLt
  rw [val_main_v3_apply, val_main_v2_apply, hQ]
  congr 2
  · show (((((i 0).val * 8192 + (i 1).val) * 8 + (i 2).val) * 2 + (i 3).val) * 64 + (i 4).val) / 1024 = _
    omega
  · show 1024 + (((((i 0).val * 8192 + (i 1).val) * 8 + (i 2).val) * 2 + (i 3).val) * 64 + (i 4).val) % 1024 = _
    omega

/-- A value as the reference cuts it out. -/
theorem value (hV : ∀ i : S17408x6144.Idx, (x1 i : EReal) = (V (i 0).val (i 1).val : EReal)) (i : S2x8192x8x128.Idx) :
    (val_main_v5 (F := Ideal) x1 i : EReal) = (V ((i 0).val * 8192 + (i 1).val) (2048 + (i 2).val * 128 + (i 3).val) : EReal) := by
  have h2 : (i 2).val < 8 := (i 2).isLt
  have h3 : (i 3).val < 128 := (i 3).isLt
  rw [val_main_v5_apply, val_main_v4_apply, hV]
  congr 2
  · show ((((i 0).val * 8192 + (i 1).val) * 8 + (i 2).val) * 128 + (i 3).val) / 1024 = _
    omega
  · show 2048 + ((((i 0).val * 8192 + (i 1).val) * 8 + (i 2).val) * 128 + (i 3).val) % 1024 = _
    omega

/-- The masked scores. -/
theorem masked (hQ : ∀ i : S17408x2048.Idx, (x0 i : EReal) = (Q (i 0).val (i 1).val : EReal)) (i : S2x2x8x8192x8192.Idx) :
    (val_main_v32 (F := Ideal) x0 i : EReal)
      = if (i 4).val / 64 ≤ (i 3).val / 64 then (xs Q (i 0).val (i 2).val (i 1).val (i 3).val (i 4).val : EReal) else ⊥ := by
  have hs : (val_main_v31 (F := Ideal) x0 i : EReal) = (xs Q (i 0).val (i 2).val (i 1).val (i 3).val (i 4).val : EReal) := by
    rw [val_main_v31_apply, val_main_v29_apply, val_main_v30_apply]
    simp only [query x0 Q hQ, key x0 Q hQ]
    rw [val_main_cst_2_apply]
    unfold xs
    rw [EReal.coe_mul, ← eighth, ← coe_sum]
    simp only [EReal.coe_mul]
    rfl
  rw [val_main_v32_apply, val_main_call1_v1_apply, allowed, hs, val_main_call1_v2_apply, val_main_call1_v0_apply]
  have hb : (val_main_cst_3 (F := Ideal) (idx_main_call1_v2 i) : EReal) = ⊥ := by
    rw [val_main_cst_3_apply]
    exact bottom
  rw [hb]
  show Scalar.select (if (i 4).val / 64 ≤ (i 3).val / 64 then 1#1 else 0#1) _ _ = _
  split <;> rfl

/-- The largest masked score of a query is a real number. -/
theorem top_real (hQ : ∀ i : S17408x2048.Idx, (x0 i : EReal) = (Q (i 0).val (i 1).val : EReal)) (a b : Fin 2) (h : Fin 8) (p : Fin 8192) :
    ∃ M : ℝ, (val_main_v35 (F := Ideal) x0 (ix4 a b h p) : EReal) = (M : EReal) := by
  have hm : ∃ M : ℝ, (val_main_v33 (F := Ideal) x0 (ix4 a b h p) : EReal) = (M : EReal) := by
    unfold val_main_v33
    pointwise
    rw [val_main_cst_4_apply, bottom]
    refine fold_max_real _ _ (fun k => ?_) (Finset.mem_univ p) ?_
    · rw [masked x0 Q hQ]
      split
      · exact EReal.coe_ne_top _
      · exact bot_ne_top
    · rw [masked x0 Q hQ]
      exact ne_of_eq_of_ne (if_pos (Nat.le_refl (p.val / 64))) (EReal.coe_ne_bot _)
  obtain ⟨M, hM⟩ := hm
  refine ⟨M, ?_⟩
  rw [val_main_v35_apply, hM, val_main_v34_apply, val_main_cst_5_apply]
  show max (FloatOps.ofBits (F := Ideal) .f32 0xFF800000#32 : EReal) (M : EReal) = _
  rw [bottom]
  exact max_eq_right bot_le

/-- The query a score belongs to. -/
abbrev row (i : S2x2x8x8192x8192.Idx) : S2x2x8x8192.Idx := ix4 (n0 := 2) (n1 := 2) (n2 := 8) (n3 := 8192) (i 0) (i 1) (i 2) (i 3)

theorem row_of (i : S2x2x8x8192x8192.Idx) : idx_main_v36 (idx_main_v37 i) = row i :=
  funext fun a => match a with
    | ⟨0, _⟩ => rfl
    | ⟨1, _⟩ => rfl
    | ⟨2, _⟩ => rfl
    | ⟨3, _⟩ => rfl

theorem row_of' (i : S2x2x8x8192x8192.Idx) : idx_main_v41 (idx_main_v42 i) = row i :=
  funext fun a => match a with
    | ⟨0, _⟩ => rfl
    | ⟨1, _⟩ => rfl
    | ⟨2, _⟩ => rfl
    | ⟨3, _⟩ => rfl

/-- The weights of the softmax. -/
theorem prob (hQ : ∀ i : S17408x2048.Idx, (x0 i : EReal) = (Q (i 0).val (i 1).val : EReal)) (i : S2x2x8x8192x8192.Idx) :
    (val_main_v43 (F := Ideal) x0 i : EReal)
      = ((wt (xs Q (i 0).val (i 2).val (i 1).val (i 3).val) (i 3).val (i 4).val / Wsum (xs Q (i 0).val (i 2).val (i 1).val (i 3).val) (i 3).val : ℝ) : EReal) := by
  obtain ⟨M, hM⟩ := top_real x0 Q hQ (i 0) (i 1) (i 2) (i 3)
  have hp : (i 3).val < 8192 := (i 3).isLt
  have e : ∀ i' : S2x2x8x8192x8192.Idx, row i' = row i →
      (val_main_v39 (F := Ideal) x0 i' : EReal)
        = Ideal.exp ((if (i' 4).val / 64 ≤ (i' 3).val / 64 then (xs Q (i' 0).val (i' 2).val (i' 1).val (i' 3).val (i' 4).val : EReal) else ⊥) - (M : EReal)) := by
    intro i' h
    rw [val_main_v39_apply, val_main_v38_apply, val_main_v37_apply, val_main_v36_apply, row_of, h, hM, masked x0 Q hQ]
    rfl
  have hsum : (val_main_v40 (F := Ideal) x0 (row i) : EReal)
      = ((Wsum (xs Q (i 0).val (i 2).val (i 1).val (i 3).val) (i 3).val * Real.exp (-M) : ℝ) : EReal) := by
    rw [val_main_v40_apply, show val_main_cst_6 (F := Ideal) (Shape.Idx.first h_S_) = (0 : EReal) from Ideal.ofBits_zero_f32, zero_add]
    unfold Wsum wt
    rw [Finset.sum_mul, ← coe_sum]
    refine Finset.sum_congr rfl fun k _ => ?_
    rw [e _ (by rfl)]
    exact exp_score _ M
  rw [val_main_v43_apply, val_main_v42_apply, val_main_v41_apply, row_of', hsum, e i rfl]
  exact share (Wsum_ne _ _ hp) _

/-- The first map's weights. -/
theorem first (i : S2x8x8192x8192.Idx) : val_main_v45 (F := Ideal) x0 i = val_main_v43 (F := Ideal) x0 (ix5 (i 0) 0 (i 1) (i 2) (i 3)) := by
  have h0 : (i 0).val < 2 := (i 0).isLt
  have h1 : (i 1).val < 8 := (i 1).isLt
  have h2 : (i 2).val < 8192 := (i 2).isLt
  have h3 : (i 3).val < 8192 := (i 3).isLt
  rw [val_main_v45_apply, val_main_v44_apply]
  congr 1
  funext a
  refine Fin.ext ?_
  match a with
  | ⟨0, _⟩ => show ((((i 0).val * 8 + (i 1).val) * 8192 + (i 2).val) * 8192 + (i 3).val) / 536870912 = (i 0).val; omega
  | ⟨1, _⟩ => rfl
  | ⟨2, _⟩ => show ((((i 0).val * 8 + (i 1).val) * 8192 + (i 2).val) * 8192 + (i 3).val) / 67108864 % 8 = (i 1).val; omega
  | ⟨3, _⟩ => show ((((i 0).val * 8 + (i 1).val) * 8192 + (i 2).val) * 8192 + (i 3).val) / 8192 % 8192 = (i 2).val; omega
  | ⟨4, _⟩ => show ((((i 0).val * 8 + (i 1).val) * 8192 + (i 2).val) * 8192 + (i 3).val) % 8192 = (i 3).val; omega

/-- The second map's weights. -/
theorem second (i : S2x8x8192x8192.Idx) : val_main_v47 (F := Ideal) x0 i = val_main_v43 (F := Ideal) x0 (ix5 (i 0) 1 (i 1) (i 2) (i 3)) := by
  have h0 : (i 0).val < 2 := (i 0).isLt
  have h1 : (i 1).val < 8 := (i 1).isLt
  have h2 : (i 2).val < 8192 := (i 2).isLt
  have h3 : (i 3).val < 8192 := (i 3).isLt
  rw [val_main_v47_apply, val_main_v46_apply]
  congr 1
  funext a
  refine Fin.ext ?_
  match a with
  | ⟨0, _⟩ => show ((((i 0).val * 8 + (i 1).val) * 8192 + (i 2).val) * 8192 + (i 3).val) / 536870912 = (i 0).val; omega
  | ⟨1, _⟩ => rfl
  | ⟨2, _⟩ => show ((((i 0).val * 8 + (i 1).val) * 8192 + (i 2).val) * 8192 + (i 3).val) / 67108864 % 8 = (i 1).val; omega
  | ⟨3, _⟩ => show ((((i 0).val * 8 + (i 1).val) * 8192 + (i 2).val) * 8192 + (i 3).val) / 8192 % 8192 = (i 2).val; omega
  | ⟨4, _⟩ => show ((((i 0).val * 8 + (i 1).val) * 8192 + (i 2).val) * 8192 + (i 3).val) % 8192 = (i 3).val; omega

/-- The values a head reads. -/
def ws (V : ℕ → ℕ → ℝ) (b h n : ℕ) (d : Fin 128) : ℝ := V (b * 8192 + n) (2048 + h * 128 + d.val)

/-- A head's output before the normalisation. -/
theorem head (hQ : ∀ i : S17408x2048.Idx, (x0 i : EReal) = (Q (i 0).val (i 1).val : EReal))
    (hV : ∀ i : S17408x6144.Idx, (x1 i : EReal) = (V (i 0).val (i 1).val : EReal)) (lam : ℝ)
    (hlam : ∀ i, (val_main_v21 (F := Ideal) x2 i : EReal) = (lam : EReal)) (i : S2x8192x8x128.Idx) :
    (val_main_v52 (F := Ideal) x0 x1 x2 i : EReal)
      = (diff (xs Q (i 0).val (i 2).val 0 (i 1).val) (xs Q (i 0).val (i 2).val 1 (i 1).val) (ws V (i 0).val (i 2).val) lam (i 1).val (i 3) : EReal) := by
  rw [val_main_v52_apply, val_main_v51_apply]
  unfold diff Vsum
  rw [Finset.sum_div, Finset.sum_div, Finset.mul_sum, ← Finset.sum_sub_distrib, ← coe_sum]
  refine Finset.sum_congr rfl fun k _ => ?_
  rw [val_main_v50_apply, val_main_v49_apply, val_main_v48_apply, hlam, first, second, prob x0 Q hQ, prob x0 Q hQ, value x1 V hV]
  show (_ : EReal) * ((_ : EReal) - (_ : EReal) * (_ : EReal)) = _
  rw [← EReal.coe_mul, ← EReal.coe_sub, ← EReal.coe_mul]
  refine congrArg (fun v : ℝ => (v : EReal)) ?_
  show ws V (i 0).val (i 2).val k.val (i 3)
      * (wt (xs Q (i 0).val (i 2).val 0 (i 1).val) (i 1).val k.val / Wsum (xs Q (i 0).val (i 2).val 0 (i 1).val) (i 1).val
        - lam * (wt (xs Q (i 0).val (i 2).val 1 (i 1).val) (i 1).val k.val / Wsum (xs Q (i 0).val (i 2).val 1 (i 1).val) (i 1).val)) = _
  ring

/-- The reference's result at an index. -/
theorem out_ref (hQ : ∀ i : S17408x2048.Idx, (x0 i : EReal) = (Q (i 0).val (i 1).val : EReal))
    (hV : ∀ i : S17408x6144.Idx, (x1 i : EReal) = (V (i 0).val (i 1).val : EReal)) (lam : ℝ)
    (hl : ∀ i, (val_main_v21 (F := Ideal) x2 i : EReal) = (lam : EReal)) (i : S2x8192x8x128.Idx) :
    (val_main_v67 (F := Ideal) x0 x1 x2 x3 i : EReal)
      = normed (diff (xs Q (i 0).val (i 2).val 0 (i 1).val) (xs Q (i 0).val (i 2).val 1 (i 1).val) (ws V (i 0).val (i 2).val) lam (i 1).val) (x3 (ix1 (i 3))) (i 3) := by
  rw [val_main_v67_apply, val_main_v66_apply, val_main_v65_apply, val_main_v64_apply, val_main_v63_apply, val_main_v62_apply, val_main_v61_apply, val_main_v60_apply,
    val_main_v59_apply, val_main_v58_apply, val_main_v57_apply, val_main_v56_apply, val_main_v55_apply, val_main_v54_apply]
  simp only [val_main_v53_apply, head x0 x1 x2 Q V hQ hV lam hl]
  rw [show val_main_cst_7 (F := Ideal) (Shape.Idx.first h_S_) = (0 : EReal) from Ideal.ofBits_zero_f32, zero_add]
  unfold normed
  have e3 : idx_main_v63 (idx_main_v64 i) = ix1 (i 3) := funext fun a => match a with | ⟨0, _⟩ => rfl
  rw [e3]
  rfl

end Cert.AttnRefValue

end
-- ==== Proof.AttnMix.lean ====
module

public import proofs.«01_k».proof.Proof.AttnScore
public import proofs.«01_k».proof.Proof.Gen.AttnRefIdeal.Read
public import Idealize.ShloMosaic.Lib.Pointwise

@[expose] public section

/-! The reference's mixing weight is the kernel's. -/

set_option maxRecDepth 16384

noncomputable section

namespace Cert.AttnRefValue

open Cert.AttnRefIdeal Cert.AttnRefIdeal.Gen Cert.AttnRefIdeal.Read Idealize.ShloMosaic Idealize.ShloMosaic.TcCoe Idealize.SL.Sem
open Cert.AttnValue (mix)

/-- A sum over the indices of an array of 64 is the sum over its axis. -/
theorem sum64 (f : S64.Idx → EReal) : ∑ x, f x = ∑ k : Fin 64, f (ix1 k) :=
  Fintype.sum_equiv ⟨fun x => (x 0 : Fin 64), fun k => ix1 k, fun x => funext fun a => match a with | ⟨0, _⟩ => rfl, fun k => rfl⟩ _ _
    fun x => congrArg f (funext fun a => match a with | ⟨0, _⟩ => rfl)

/-- The mixing weight as the reference computes it. -/
theorem mix_ref (x2 : (⟨S4x64, .f32⟩ : BufTy).Contents (Elt Ideal)) (i : S_.Idx) : (val_main_v21 (F := Ideal) x2 i : EReal) = mix x2 := by
  rw [Cert.AttnValue.mix_eq, val_main_v21_apply, val_main_v20_apply, val_main_v19_apply, val_main_v18_apply, val_main_v12_apply, val_main_v11_apply]
  have at0 : ∀ k : Fin 64, idx_main_v6 (idx_main_v7 (ix1 k)) = ix2 0 k := fun k => funext fun a => Fin.ext (match a with
    | ⟨0, _⟩ => rfl
    | ⟨1, _⟩ => Nat.mod_eq_of_lt k.isLt)
  have at1 : ∀ k : Fin 64, idx_main_v8 (idx_main_v9 (ix1 k)) = ix2 1 k := fun k => funext fun a => Fin.ext (match a with
    | ⟨0, _⟩ => rfl
    | ⟨1, _⟩ => Nat.mod_eq_of_lt k.isLt)
  have at2 : ∀ k : Fin 64, idx_main_v13 (idx_main_v14 (ix1 k)) = ix2 2 k := fun k => funext fun a => Fin.ext (match a with
    | ⟨0, _⟩ => rfl
    | ⟨1, _⟩ => Nat.mod_eq_of_lt k.isLt)
  have at3 : ∀ k : Fin 64, idx_main_v15 (idx_main_v16 (ix1 k)) = ix2 3 k := fun k => funext fun a => Fin.ext (match a with
    | ⟨0, _⟩ => rfl
    | ⟨1, _⟩ => Nat.mod_eq_of_lt k.isLt)
  simp only [val_main_v10_apply, val_main_v7_apply, val_main_v6_apply, val_main_v9_apply, val_main_v8_apply, val_main_v17_apply, val_main_v14_apply,
    val_main_v13_apply, val_main_v16_apply, val_main_v15_apply]
  rw [show val_main_cst (F := Ideal) (Shape.Idx.first h_S_) = (0 : EReal) from Ideal.ofBits_zero_f32,
    show val_main_cst_0 (F := Ideal) (Shape.Idx.first h_S_) = (0 : EReal) from Ideal.ofBits_zero_f32, zero_add, zero_add, sum64, sum64]
  simp only [at0, at1, at2, at3]
  rfl

end Cert.AttnRefValue

end
-- ==== Proof.AttnRead.lean ====
module

public import proofs.«01_k».proof.Proof.AttnOut
public import Idealize.ShloMosaic.Lib.Claim

@[expose] public section

/-! Which rows of the arguments each point of the attention's grid works on, and that the copies of the
    keys and values carried between points are the point's own head's. -/

set_option maxRecDepth 16384

noncomputable section

namespace Cert.AttnValue

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- Which block each window holds at a grid point: batch `t / 256`, head `t / 32 % 8`, query block `t % 32`. -/
theorem idx : ∀ t : Fin cfg0.N, win0_0.index t = ![t.val / 256 * 32 + t.val % 32, t.val / 32 % 8]
    ∧ win0_1.index t = ![t.val / 256, 8 + t.val / 32 % 8]
    ∧ win0_2.index t = ![t.val / 256, 16 + t.val / 32 % 8]
    ∧ win0_3.index t = ![0, 0]
    ∧ win0_4.index t = ![0, 0]
    ∧ win0_5.index t = ![t.val / 256 * 32 + t.val % 32, t.val / 32 % 8]
    ∧ (grid0.coords t 2).val = t.val % 32 :=
  (by decide +kernel : ∀ t : Fin grid0.N, _)

/-- A position of a two-axis array, from its coordinates. -/
abbrev at2 {s : Shape} (a b : ℕ) (h : s.rank = 2) (ha : a < s.size ⟨0, by omega⟩) (hb : b < s.size ⟨1, by omega⟩) : s.Idx :=
  fun d => ⟨if d.val = 0 then a else b, by
    obtain ⟨d, hd⟩ := d
    rcases d with _ | _ | d
    · exact ha
    · exact hb
    · omega⟩

/-- Position `(r, j)` of the array of queries and keys (zero outside it, where nothing reads). -/
def qk (c : Dev nD) (r j : ℕ) : EReal :=
  if h : r < 17408 ∧ j < 2048 then m ((c : Thread nD τ).loc main_arg0) (at2 (s := S17408x2048) r j rfl h.1 h.2) else 0

/-- Position `(r, j)` of the array holding the values (zero outside it, where nothing reads). -/
def vv (c : Dev nD) (r j : ℕ) : EReal :=
  if h : r < 17408 ∧ j < 6144 then m ((c : Thread nD τ).loc main_arg1) (at2 (s := S17408x6144) r j rfl h.1 h.2) else 0

theorem qk_of (c : Dev nD) (x : S17408x2048.Idx) : m ((c : Thread nD τ).loc main_arg0) x = qk m c (x 0).val (x 1).val := by
  unfold qk
  rw [dif_pos ⟨(x 0).isLt, (x 1).isLt⟩]
  congr 1
  funext d
  match d with
  | ⟨0, _⟩ => rfl
  | ⟨1, _⟩ => rfl

theorem vv_of (c : Dev nD) (x : S17408x6144.Idx) : m ((c : Thread nD τ).loc main_arg1) x = vv m c (x 0).val (x 1).val := by
  unfold vv
  rw [dif_pos ⟨(x 0).isLt, (x 1).isLt⟩]
  congr 1
  funext d
  match d with
  | ⟨0, _⟩ => rfl
  | ⟨1, _⟩ => rfl

theorem lt512 (t : Fin cfg0.N) : t.val < 512 := lt_of_lt_of_eq t.isLt N_0

/-- The head's keys at a point. -/
theorem keys_at (c : Dev nD) (t : Fin cfg0.N) (y : S8192x128.Idx) :
    k0_pay2 (F := Ideal) (X0_1 m c t) y
      = qk m c (t.val / 256 * 8192 + (y 0).val) ((8 + t.val / 32 % 8) * 128 + (y 1).val) := by
  obtain ⟨e0, e1, e2, e3, e4, e5, e6⟩ := idx t
  pointwise [k0_pay2]
  unfold X0_1 Pipeline.Window.fill
  rw [dif_pos (moved0_1 t _)]
  have h0 : (y 0).val < 8192 := (y 0).isLt
  have h1 : (y 1).val < 128 := (y 1).isLt
  have ht := lt512 t
  unfold qk
  rw [dif_pos ⟨by omega, by omega⟩]
  blk_point [iblk, V, e1]
  all_goals simp

/-- The head's values at a point. -/
theorem vals_at (c : Dev nD) (t : Fin cfg0.N) (y : S8192x128.Idx) :
    k0_pay3 (F := Ideal) (X0_2 m c t) y
      = vv m c (t.val / 256 * 8192 + (y 0).val) ((16 + t.val / 32 % 8) * 128 + (y 1).val) := by
  obtain ⟨e0, e1, e2, e3, e4, e5, e6⟩ := idx t
  pointwise [k0_pay3]
  unfold X0_2 Pipeline.Window.fill
  rw [dif_pos (moved0_2 t _)]
  have h0 : (y 0).val < 8192 := (y 0).isLt
  have h1 : (y 1).val < 128 := (y 1).isLt
  have ht := lt512 t
  unfold vv
  rw [dif_pos ⟨by omega, by omega⟩]
  blk_point [iblk, V, e2]
  all_goals simp

/-- The carried copies after a point are those of the point's own head. -/
theorem copies (c : Dev nD) (n : ℕ) : ∀ h : n < cfg0.N,
    (outsAt0 m c n h).2.1 = k0_pay2 (F := Ideal) (X0_1 m c ⟨n, h⟩) ∧ (outsAt0 m c n h).2.2 = k0_pay3 (F := Ideal) (X0_2 m c ⟨n, h⟩) := by
  induction n with
  | zero =>
    intro h
    rw [outsAt0_A m c ⟨0, h⟩ rfl]
    dsimp only
    unfold sout0_A_0 sout0_A_1
    frame_out
    exact ⟨trivial, trivial⟩
  | succ n ih =>
    intro h
    by_cases h0 : (n + 1) % 32 = 0
    · rw [outsAt0_A m c ⟨n + 1, h⟩ h0]
      dsimp only
      unfold sout0_A_0 sout0_A_1
      frame_out
      exact ⟨trivial, trivial⟩
    · rw [outsAt0_B m c ⟨n + 1, h⟩ h0]
      dsimp only
      obtain ⟨i1, i2⟩ := ih (Nat.lt_of_succ_lt h)
      refine ⟨i1.trans (funext fun y => ?_), i2.trans (funext fun y => ?_)⟩
      · have a1 : n / 256 = (n + 1) / 256 := by omega
        have a2 : n / 32 = (n + 1) / 32 := by omega
        refine (keys_at m c ⟨n, Nat.lt_of_succ_lt h⟩ y).trans (Eq.trans ?_ (keys_at m c ⟨n + 1, h⟩ y).symm)
        dsimp only
        rw [a1, a2]
      · have a1 : n / 256 = (n + 1) / 256 := by omega
        have a2 : n / 32 = (n + 1) / 32 := by omega
        refine (vals_at m c ⟨n, Nat.lt_of_succ_lt h⟩ y).trans (Eq.trans ?_ (vals_at m c ⟨n + 1, h⟩ y).symm)
        dsimp only
        rw [a1, a2]

/-- What a point leaves in its output block, from the point's own rows. -/
theorem out_at (c : Dev nD) (t : Fin cfg0.N) :
    (outsAt0 m c t.val t.isLt).1
      = blockOut (t.val % 32) (iblk m c 0 t) (iblk m c 3 t) (iblk m c 4 t) (k0_pay2 (X0_1 m c t)) (k0_pay3 (X0_2 m c t)) := by
  obtain ⟨e0, e1, e2, e3, e4, e5, e6⟩ := idx t
  by_cases h0 : t.val % 32 = 0
  · rw [outsAt0_A m c t h0]
    dsimp only
    rw [out_A]
    exact congrArg (fun n => blockOut n _ _ _ _ _) e6
  · have hc := copies m c t.val t.isLt
    rw [outsAt0_B m c t h0] at hc ⊢
    dsimp only at hc ⊢
    rw [out_B]
    have h1 : (outsAt0 m c (t.val - 1) (Nat.lt_of_le_of_lt (Nat.sub_le _ _) t.isLt)).2.1 = k0_pay2 (X0_1 m c t) := hc.1
    have h2 : (outsAt0 m c (t.val - 1) (Nat.lt_of_le_of_lt (Nat.sub_le _ _) t.isLt)).2.2 = k0_pay3 (X0_2 m c t) := hc.2
    rw [h1, h2]
    exact congrArg (fun n => blockOut n _ _ _ _ _) e6

end Cert.AttnValue

end
-- ==== Proof.Attn.lean ====
module

public import proofs.«01_k».proof.Proof.AttnRef
public import proofs.«01_k».proof.Proof.AttnMix
public import proofs.«01_k».proof.Proof.AttnRead
public import proofs.«01_k».proof.Defs
public import Idealize.ShloMosaic.Lib.Claim

@[expose] public section

/-! The attention kernel and its reference return the same array. -/

set_option maxRecDepth 16384

noncomputable section

namespace Cert.AttnValue

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- The heads' outputs as the reference states them. -/
abbrev want (c : Dev nD) : (⟨S16384x1024, .f32⟩ : BufTy).Contents (Elt Ideal) :=
  Cert.AttnRefIdeal.Read.val_main_v68 (F := Ideal) (m ((c : Thread nD τ).loc main_arg0)) (m ((c : Thread nD τ).loc main_arg1))
    (m ((c : Thread nD τ).loc main_arg2)) (m ((c : Thread nD τ).loc main_arg3))

/-- The arrays hold real numbers where the run reads them. -/
structure Finite (c : Dev nD) : Prop where
  qk : ∀ i : S17408x2048.Idx, ((m ((c : Thread nD τ).loc main_arg0) i : EReal).toReal : EReal) = m ((c : Thread nD τ).loc main_arg0) i
  vv : ∀ i : S17408x6144.Idx, ((m ((c : Thread nD τ).loc main_arg1) i : EReal).toReal : EReal) = m ((c : Thread nD τ).loc main_arg1) i
  mix : ∀ i : S4x64.Idx, ((m ((c : Thread nD τ).loc main_arg2) i : EReal).toReal : EReal) = m ((c : Thread nD τ).loc main_arg2) i

theorem finite_of [hP : Cert.Pre_finite_inputs.Facts] (h : Cert.Pre_AttnIdeal_finite_inputs m) (c : Dev nD) : Finite m c :=
  ⟨fun i => real_of _ (congrFun (h c).1 i), fun i => real_of _ (congrFun (h c).2.1 i), fun i => real_of _ (congrFun (h c).2.2 i)⟩

variable {m} in
theorem Finite.qk_at {c : Dev nD} (h : Finite m c) (r j : ℕ) : Cert.AttnValue.qk m c r j = (((Cert.AttnValue.qk m c r j).toReal : ℝ) : EReal) := by
  by_cases hr : r < 17408 ∧ j < 2048
  · have e : Cert.AttnValue.qk m c r j = m ((c : Thread nD τ).loc main_arg0) (at2 (s := S17408x2048) r j rfl hr.1 hr.2) := dif_pos hr
    rw [e]
    exact (h.qk _).symm
  · have e : Cert.AttnValue.qk m c r j = 0 := dif_neg hr
    rw [e]
    rfl

variable {m} in
theorem Finite.vv_at {c : Dev nD} (h : Finite m c) (r j : ℕ) : Cert.AttnValue.vv m c r j = (((Cert.AttnValue.vv m c r j).toReal : ℝ) : EReal) := by
  by_cases hr : r < 17408 ∧ j < 6144
  · have e : Cert.AttnValue.vv m c r j = m ((c : Thread nD τ).loc main_arg1) (at2 (s := S17408x6144) r j rfl hr.1 hr.2) := dif_pos hr
    rw [e]
    exact (h.vv _).symm
  · have e : Cert.AttnValue.vv m c r j = 0 := dif_neg hr
    rw [e]
    rfl

/-- The queries at a point. -/
theorem query_at (c : Dev nD) (t : Fin cfg0.N) (r : Fin 256) (j : Fin 128) :
    iblk m c 0 t (ix2 r j) = qk m c (t.val / 256 * 8192 + (256 * (t.val % 32) + r.val)) (t.val / 32 % 8 * 128 + j.val) := by
  obtain ⟨e0, e1, e2, e3, e4, e5, e6⟩ := idx t
  have hr := r.isLt
  have hj := j.isLt
  have ht := lt512 t
  unfold qk
  rw [dif_pos ⟨by omega, by omega⟩]
  blk_point [iblk, V, e0]
  all_goals simp
  all_goals omega

/-- The mixing vectors at a point. -/
theorem mix_at (c : Dev nD) (t : Fin cfg0.N) : iblk m c 3 t = m ((c : Thread nD τ).loc main_arg2) := by
  obtain ⟨e0, e1, e2, e3, e4, e5, e6⟩ := idx t
  funext y
  blk_point [iblk, V, e3]

/-- The gain at a point. -/
theorem gain_at (c : Dev nD) (t : Fin cfg0.N) (d : Fin 128) :
    iblk m c 4 t (ix2 0 d) = m ((c : Thread nD τ).loc main_arg3) (ix1 d) := by
  obtain ⟨e0, e1, e2, e3, e4, e5, e6⟩ := idx t
  blk_point [iblk, V, e4]

theorem split_pos (q s h r d : ℕ) (hs : s < 32) (hh : h < 8) (hr : r < 256) (hd : d < 128) :
    (((q * 32 + s) * 256 + r) * 1024 + (h * 128 + d)) / 8388608 = q
      ∧ (((q * 32 + s) * 256 + r) * 1024 + (h * 128 + d)) / 1024 % 8192 = 256 * s + r
      ∧ (((q * 32 + s) * 256 + r) * 1024 + (h * 128 + d)) / 128 % 8 = h
      ∧ (((q * 32 + s) * 256 + r) * 1024 + (h * 128 + d)) % 128 = d := by
  refine ⟨?_, ?_, ?_, ?_⟩
  · omega
  · have e : (((q * 32 + s) * 256 + r) * 1024 + (h * 128 + d)) / 1024 = 8192 * q + (256 * s + r) := by omega
    rw [e]
    omega
  · have e : (((q * 32 + s) * 256 + r) * 1024 + (h * 128 + d)) / 128 = 8 * ((q * 32 + s) * 256 + r) + h := by omega
    rw [e]
    omega
  · omega

/-- Where the reference's result holds a point's element: its batch, position, head and column. -/
theorem result_idx (t : Fin cfg0.N) (r : Fin 256) (d : Fin 128) :
    (Cert.AttnRefIdeal.Read.idx_main_v68 ((win0_5.blk t).view.emb (ix2 r d)) 0).val = t.val / 256
      ∧ (Cert.AttnRefIdeal.Read.idx_main_v68 ((win0_5.blk t).view.emb (ix2 r d)) 1).val = 256 * (t.val % 32) + r.val
      ∧ (Cert.AttnRefIdeal.Read.idx_main_v68 ((win0_5.blk t).view.emb (ix2 r d)) 2).val = t.val / 32 % 8
      ∧ Cert.AttnRefIdeal.Read.idx_main_v68 ((win0_5.blk t).view.emb (ix2 r d)) 3 = d := by
  obtain ⟨e0, e1, e2, e3, e4, e5, e6⟩ := idx t
  have v0 : ((win0_5.blk t).view.emb (ix2 r d) 0).val = (t.val / 256 * 32 + t.val % 32) * 256 + r.val := by blk_point [e5]
  have v1 : ((win0_5.blk t).view.emb (ix2 r d) 1).val = t.val / 32 % 8 * 128 + d.val := by blk_point [e5]
  obtain ⟨s0, s1, s2, s3⟩ := split_pos (t.val / 256) (t.val % 32) (t.val / 32 % 8) r.val d.val (Nat.mod_lt _ (by decide)) (Nat.mod_lt _ (by decide))
    r.isLt d.isLt
  rw [← v0, ← v1] at s0 s1 s2 s3
  exact ⟨s0, s1, s2, Fin.ext s3⟩

/-- One element of a point's block is the reference's. -/
theorem point (c : Dev nD) (h : Finite m c) (t : Fin cfg0.N) (y : S256x128.Idx) :
    (outsAt0 m c t.val t.isLt).1 y = want m c ((win0_5.blk t).view.emb y) := by
  obtain ⟨e0, e1, e2, e3, e4, e5, e6⟩ := idx t
  have ht := lt512 t
  obtain ⟨r, hr⟩ : ∃ r : Fin 256, r = y 0 := ⟨_, rfl⟩
  obtain ⟨d, hd⟩ : ∃ d : Fin 128, d = y 1 := ⟨_, rfl⟩
  have hy : y = ix2 r d := funext fun a => match a with
    | ⟨0, _⟩ => hr.symm
    | ⟨1, _⟩ => hd.symm
  have hrl := r.isLt
  have hdl := d.isLt
  have hq : t.val % 32 < 32 := Nat.mod_lt _ (by decide)
  obtain ⟨u, hu⟩ := mix_real (m ((c : Thread nD τ).loc main_arg2)) h.mix
  have hK : ∀ (i : ℕ) (hi : i < 32) (k : Fin 256) (j : Fin 128), (rowsOf (k0_pay2 (F := Ideal) (X0_1 m c t)) i (ix2 k j) : EReal)
      = ((qk m c (t.val / 256 * 8192 + (256 * i + k.val)) ((8 + t.val / 32 % 8) * 128 + j.val)).toReal : EReal) := by
    intro i hi k j
    have hk := k.isLt
    have hlt : 256 * i + k.val < 8192 := by omega
    refine Eq.trans ?_ (h.qk_at _ _)
    exact (dif_pos (show 256 * i + ((ix2 k j : S256x128.Idx) 0).val < 8192 from hlt)).trans (keys_at m c t _)
  have hV : ∀ (i : ℕ) (hi : i < 32) (k : Fin 256) (j : Fin 128), (rowsOf (k0_pay3 (F := Ideal) (X0_2 m c t)) i (ix2 k j) : EReal)
      = ((vv m c (t.val / 256 * 8192 + (256 * i + k.val)) ((16 + t.val / 32 % 8) * 128 + j.val)).toReal : EReal) := by
    intro i hi k j
    have hk := k.isLt
    have hlt : 256 * i + k.val < 8192 := by omega
    refine Eq.trans ?_ (h.vv_at _ _)
    exact (dif_pos (show 256 * i + ((ix2 k j : S256x128.Idx) 0).val < 8192 from hlt)).trans (vals_at m c t _)
  have hQ : ∀ j : Fin 128, (iblk m c 0 t (ix2 r j) : EReal)
      = ((qk m c (t.val / 256 * 8192 + (256 * (t.val % 32) + r.val)) (t.val / 32 % 8 * 128 + j.val)).toReal : EReal) :=
    fun j => (query_at m c t r j).trans (h.qk_at _ _)
  rw [out_at, hy]
  refine (block_row (t.val % 32) hq (iblk m c 0 t) (iblk m c 3 t) (iblk m c 4 t) _ _ r
    (xs (fun a b => (qk m c a b).toReal) (t.val / 256) (t.val / 32 % 8) 0 (256 * (t.val % 32) + r.val))
    (xs (fun a b => (qk m c a b).toReal) (t.val / 256) (t.val / 32 % 8) 1 (256 * (t.val % 32) + r.val))
    (Cert.AttnRefValue.ws (fun a b => (vv m c a b).toReal) (t.val / 256) (t.val / 32 % 8)) u ?_ ?_ ?_ ?_ d).trans ?_
  · intro i hi k
    rw [score1 _ _ r k (fun j => (qk m c (t.val / 256 * 8192 + (256 * (t.val % 32) + r.val)) (t.val / 32 % 8 * 128 + j)).toReal)
      (fun j => (qk m c (t.val / 256 * 8192 + (256 * i + k.val)) ((8 + t.val / 32 % 8) * 128 + j)).toReal) hQ (hK i hi k)]
    refine congrArg (fun v : ℝ => (v : EReal)) (congrArg (· * (1 / 8 : ℝ)) (Finset.sum_congr rfl fun j _ => ?_))
    dsimp only
    rw [show (8 + t.val / 32 % 8) * 128 + j.val = 1024 + t.val / 32 % 8 * 128 + 0 * 64 + j.val by omega,
      show t.val / 32 % 8 * 128 + j.val = t.val / 32 % 8 * 128 + 0 * 64 + j.val by omega]
  · intro i hi k
    rw [score2 _ _ r k (fun j => (qk m c (t.val / 256 * 8192 + (256 * (t.val % 32) + r.val)) (t.val / 32 % 8 * 128 + j)).toReal)
      (fun j => (qk m c (t.val / 256 * 8192 + (256 * i + k.val)) ((8 + t.val / 32 % 8) * 128 + j)).toReal) hQ (hK i hi k)]
    refine congrArg (fun v : ℝ => (v : EReal)) (congrArg (· * (1 / 8 : ℝ)) (Finset.sum_congr rfl fun j _ => ?_))
    dsimp only
    rw [show (8 + t.val / 32 % 8) * 128 + (64 + j.val) = 1024 + t.val / 32 % 8 * 128 + 1 * 64 + j.val by omega,
      show t.val / 32 % 8 * 128 + (64 + j.val) = t.val / 32 % 8 * 128 + 1 * 64 + j.val by omega]
  · intro i hi k e
    rw [hV i hi k e]
    unfold Cert.AttnRefValue.ws
    rw [show (16 + t.val / 32 % 8) * 128 + e.val = 2048 + t.val / 32 % 8 * 128 + e.val by omega]
  · rw [mix_at]
    exact hu
  · rw [gain_at]
    unfold want
    rw [Cert.AttnRefIdeal.Read.val_main_v68_apply, Cert.AttnRefValue.out_ref _ _ _ _ (fun a b => (qk m c a b).toReal) (fun a b => (vv m c a b).toReal)
      (fun i => ((h.qk i).symm.trans (congrArg (fun v : EReal => ((v.toReal : ℝ) : EReal)) (qk_of m c i))))
      (fun i => ((h.vv i).symm.trans (congrArg (fun v : EReal => ((v.toReal : ℝ) : EReal)) (vv_of m c i)))) u
      (fun i => (Cert.AttnRefValue.mix_ref _ i).trans hu)]
    obtain ⟨w0, w1, w2, w3⟩ := result_idx t r d
    rw [w0, w1, w2, w3]

/-- The array after the run is the reference's. -/
theorem final (c : Dev nD) (h : Finite m c) : (dats m 0 c).arrAt 5 cfg0.N = want m c := by
  refine (dats m 0 c).arrAt_eq_of_covers 5 _ (by decide +kernel) fun t _ y => ?_
  blk_simp
  rw [after0_5]
  exact point m c h t y

/-- From the same real inputs the kernel and the reference return the same array, over the extended reals. -/
theorem algebraic [hP : Cert.Pre_finite_inputs.Facts] : Cert.algebraic_AttnIdeal_AttnRefIdeal_pre_finite_inputs := by
  pair_intro
  · run_from Value.run_blocks m g
  · run_from Cert.AttnRefIdeal.Value.run m' g'
    rw [Cert.AttnRefIdeal.Read.val_main_v68_eq, (hagree c).1, (hagree c).2.1, (hagree c).2.2.1, (hagree c).2.2.2]
    exact (final m c (finite_of m hpre c)).symm

end Cert.AttnValue

end
-- ==== Proof.Ffn.lean ====
module

public import proofs.«01_k».proof.Proof.Gen.FfnIdeal.Value
public import proofs.«01_k».proof.Proof.Gen.FfnRefIdeal.Read
public import proofs.«01_k».proof.Proof.Gen.FfnRefIdeal.Run
public import proofs.«01_k».proof.Defs
public import Idealize.ShloMosaic.Lib.Pipeline.ValueKit
public import Idealize.ShloMosaic.Lib.Pipeline.ValueKit.Acc
public import Idealize.ShloMosaic.Lib.Pipeline.ReadBack
public import Idealize.ShloMosaic.Lib.KernelVsHost
public import Idealize.ShloMosaic.Lib.Pointwise
public import Idealize.ShloMosaic.Lib.Claim

@[expose] public section

set_option maxRecDepth 16384

noncomputable section

namespace Cert.FfnValue

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The zero that fills the added columns and rows. -/
theorem zero_fill : (sitofp (F := Ideal) FTy.bf16 (constantI S_ 32 0#32) : FVec Ideal S_ .bf16) = fun _ => (0 : EReal) := funext fun _ => by
  show (((0#32 : BitVec 32).toInt : ℝ) : EReal) = 0
  simp

/-- The first half of the inner weight, followed by 128 columns of zeros. -/
theorem weight_a (c : Dev nD) : V m c main_v2
    = pad S2048x5632 ![0, 0] ![0, 128] ![0, 0]
        (extractStridedSlice S2048x5504 ![0, 0] (m ((c : Thread nD τ).loc main_arg1)) slices_S2048x11008_S2048x5504_0_0)
        (fun _ => (0 : EReal)) pads_S2048x5504_S2048x5632_000_01280 h_S_ := by
  simp only [V, hostOps0, hostOps0_1, hostOps0_2, hostOps0_3, hostOps0_4, hostOps0_5, hostOps0_6, List.flatten_cons, List.flatten_nil, List.append_nil, List.cons_append, List.nil_append]
  after_results
  refine Eq.trans ?_ (congrArg (fun v => pad S2048x5632 ![0, 0] ![0, 128] ![0, 0]
    (extractStridedSlice S2048x5504 ![0, 0] (m ((c : Thread nD τ).loc main_arg1)) slices_S2048x11008_S2048x5504_0_0)
    v pads_S2048x5504_S2048x5632_000_01280 h_S_) zero_fill)
  rfl

/-- The second half of the inner weight, followed by 128 columns of zeros. -/
theorem weight_b (c : Dev nD) : V m c main_v5
    = pad S2048x5632 ![0, 0] ![0, 128] ![0, 0]
        (extractStridedSlice S2048x5504 ![0, 5504] (m ((c : Thread nD τ).loc main_arg1)) slices_S2048x11008_S2048x5504_0_5504)
        (fun _ => (0 : EReal)) pads_S2048x5504_S2048x5632_000_01280 h_S_ := by
  simp only [V, hostOps0, hostOps0_1, hostOps0_2, hostOps0_3, hostOps0_4, hostOps0_5, hostOps0_6, List.flatten_cons, List.flatten_nil, List.append_nil, List.cons_append, List.nil_append]
  after_results
  refine Eq.trans ?_ (congrArg (fun v => pad S2048x5632 ![0, 0] ![0, 128] ![0, 0]
    (extractStridedSlice S2048x5504 ![0, 5504] (m ((c : Thread nD τ).loc main_arg1)) slices_S2048x11008_S2048x5504_0_5504)
    v pads_S2048x5504_S2048x5632_000_01280 h_S_) zero_fill)
  rfl

/-- The outer weight, followed by 128 rows of zeros. -/
theorem weight_d (c : Dev nD) : V m c main_v7
    = pad S5632x2048 ![0, 0] ![128, 0] ![0, 0] (m ((c : Thread nD τ).loc main_arg2))
        (fun _ => (0 : EReal)) pads_S5504x2048_S5632x2048_01280_000 h_S_ := by
  simp only [V, hostOps0, hostOps0_1, hostOps0_2, hostOps0_3, hostOps0_4, hostOps0_5, hostOps0_6, List.flatten_cons, List.flatten_nil, List.append_nil, List.cons_append, List.nil_append]
  after_results
  refine Eq.trans ?_ (congrArg (fun v => pad S5632x2048 ![0, 0] ![128, 0] ![0, 0] (m ((c : Thread nD τ).loc main_arg2))
    v pads_S5504x2048_S5632x2048_01280_000 h_S_) zero_fill)
  rfl

/-- Which block each window holds at a grid point. -/
theorem idx : ∀ t : Fin cfg0.N, win0_0.index t = ![t.val / 11, 0]
    ∧ win0_1.index t = ![0, t.val % 11]
    ∧ win0_2.index t = ![0, t.val % 11]
    ∧ win0_3.index t = ![t.val % 11, 0]
    ∧ win0_4.index t = ![0, 0]
    ∧ win0_5.index t = ![0, 0]
    ∧ win0_6.index t = ![t.val / 11, 0] :=
  (by decide +kernel : ∀ t : Fin grid0.N, _)

/-- The first half of the inner weight at a column, zero past the last one. -/
def wa (c : Dev nD) (k : Fin 2048) (f : ℕ) : EReal :=
  if h : f < 5504 then m ((c : Thread nD τ).loc main_arg1) (ix2 k ⟨f, by omega⟩) else 0

/-- The second half of the inner weight at a column, zero past the last one. -/
def wb (c : Dev nD) (k : Fin 2048) (f : ℕ) : EReal :=
  if h : f < 5504 then m ((c : Thread nD τ).loc main_arg1) (ix2 k ⟨5504 + f, by omega⟩) else 0

/-- The outer weight at a row, zero past the last one. -/
def wd (c : Dev nD) (f : ℕ) (q : Fin 2048) : EReal :=
  if h : f < 5504 then m ((c : Thread nD τ).loc main_arg2) (ix2 ⟨f, by omega⟩ q) else 0

theorem blk_a (c : Dev nD) (t : Fin cfg0.N) (k : Fin 2048) (y : Fin 512) :
    iblk m c 1 t (ix2 k y) = wa m c k (t.val % 11 * 512 + y.val) := by
  obtain ⟨e0, e1, e2, e3, e4, e5, e6⟩ := idx t
  have e : (((View.whole main_v2).slice (win0_1.rect t)).emb (ix2 k y) 1).val = t.val % 11 * 512 + y.val := by blk_simp [e1]
  unfold wa
  blk_simp [iblk]
  rw [weight_a]
  pointwise
  by_cases h : t.val % 11 * 512 + y.val < 5504
  · rw [dif_pos (by rw [e]; exact h), dif_pos h]
    blk_ext [e1]
    try omega
  · rw [dif_neg (by rw [e]; exact h), dif_neg h]

theorem blk_b (c : Dev nD) (t : Fin cfg0.N) (k : Fin 2048) (y : Fin 512) :
    iblk m c 2 t (ix2 k y) = wb m c k (t.val % 11 * 512 + y.val) := by
  obtain ⟨e0, e1, e2, e3, e4, e5, e6⟩ := idx t
  have e : (((View.whole main_v5).slice (win0_2.rect t)).emb (ix2 k y) 1).val = t.val % 11 * 512 + y.val := by blk_simp [e2]
  unfold wb
  blk_simp [iblk]
  rw [weight_b]
  pointwise
  by_cases h : t.val % 11 * 512 + y.val < 5504
  · rw [dif_pos (by rw [e]; exact h), dif_pos h]
    blk_ext [e2]
    try omega
  · rw [dif_neg (by rw [e]; exact h), dif_neg h]

/-- Rows of zeros added below a matrix, read at an index. -/
theorem pad_rows (X : FVec Ideal S5504x2048 .bf16) (j : S5632x2048.Idx) (f : ℕ) (q : Fin 2048) (hf : (j 0).val = f) (hq : (j 1).val = q.val) :
    pad S5632x2048 ![0, 0] ![128, 0] ![0, 0] X (fun _ => (0 : EReal)) pads_S5504x2048_S5632x2048_01280_000 h_S_ j
      = if h : f < 5504 then X (ix2 ⟨f, h⟩ q) else 0 := by
  by_cases h : f < 5504
  · rw [dif_pos h]
    refine pad_apply_of_inside _ _ _ X _ _ _ j (ix2 ⟨f, h⟩ q) fun a => ?_
    match a with
    | ⟨0, _⟩ => show (j 0).val = 0 + f * (0 + 1); omega
    | ⟨1, _⟩ => show (j 1).val = 0 + q.val * (0 + 1); omega
  · rw [dif_neg h]
    refine pad_apply_of_not_inside _ _ _ X _ _ _ j 0 fun ha => h ?_
    have h3 : ((j 0).val - 0) / (0 + 1) < 5504 := ha.2.2
    omega

theorem blk_d (c : Dev nD) (t : Fin cfg0.N) (y : Fin 512) (q : Fin 2048) :
    iblk m c 3 t (ix2 y q) = wd m c (t.val % 11 * 512 + y.val) q := by
  obtain ⟨e0, e1, e2, e3, e4, e5, e6⟩ := idx t
  have e : (((View.whole main_v7).slice (win0_3.rect t)).emb (ix2 y q) 0).val = t.val % 11 * 512 + y.val := by blk_simp [e3]
  have e' : (((View.whole main_v7).slice (win0_3.rect t)).emb (ix2 y q) 1).val = q.val := by blk_simp [e3]
  unfold wd
  blk_simp [iblk]
  rw [weight_d]
  exact pad_rows _ _ _ _ e e'

theorem row_lt (t : Fin cfg0.N) (a : Fin 512) : 512 * (t.val / 11) + a.val < 17408 := by
  have ht := t.isLt
  change t.val < 374 at ht
  omega

theorem blk_x (c : Dev nD) (t : Fin cfg0.N) (a : Fin 512) (k : Fin 2048) :
    iblk m c 0 t (ix2 a k) = m ((c : Thread nD τ).loc main_arg0) (ix2 ⟨512 * (t.val / 11) + a.val, row_lt t a⟩ k) := by
  obtain ⟨e0, e1, e2, e3, e4, e5, e6⟩ := idx t
  blk_ext [iblk, V, e0]

theorem blk_g (c : Dev nD) (t : Fin cfg0.N) (k : Fin 2048) :
    iblk m c 4 t (ix2 (0 : Fin 1) k) = m ((c : Thread nD τ).loc main_arg3) (ix1 k) := by
  obtain ⟨e0, e1, e2, e3, e4, e5, e6⟩ := idx t
  have h : V m c main_v8 = broadcastInDim S1x2048 ![1] bcast_S2048_S1x2048_1 (m ((c : Thread nD τ).loc main_arg3)) := by
    simp only [V, hostOps0, hostOps0_1, hostOps0_2, hostOps0_3, hostOps0_4, hostOps0_5, hostOps0_6, List.flatten_cons, List.flatten_nil, List.append_nil, List.cons_append, List.nil_append]
    after_results
    try rfl
  blk_simp [iblk]
  rw [h]
  pointwise
  blk_ext [e4]

theorem blk_h (c : Dev nD) (t : Fin cfg0.N) (k : Fin 2048) :
    iblk m c 5 t (ix2 (0 : Fin 1) k) = m ((c : Thread nD τ).loc main_arg4) (ix1 k) := by
  obtain ⟨e0, e1, e2, e3, e4, e5, e6⟩ := idx t
  have h : V m c main_v9 = broadcastInDim S1x2048 ![1] bcast_S2048_S1x2048_1 (m ((c : Thread nD τ).loc main_arg4)) := by
    simp only [V, hostOps0, hostOps0_1, hostOps0_2, hostOps0_3, hostOps0_4, hostOps0_5, hostOps0_6, List.flatten_cons, List.flatten_nil, List.append_nil, List.cons_append, List.nil_append]
    after_results
    try rfl
  blk_simp [iblk]
  rw [h]
  pointwise
  blk_ext [e5]

/-- The row of the array that a point's block starts its row `a` at. -/
def rowOf (t : Fin cfg0.N) (a : Fin 512) : Fin 17408 := ⟨512 * (t.val / 11) + a.val, row_lt t a⟩

/-- The rows the kernel reads, at an element. -/
def xr (c : Dev nD) (r : Fin 17408) (k : Fin 2048) : EReal := m ((c : Thread nD τ).loc main_arg0) (ix2 r k)

/-- A row times a column of the first half of the inner weight. -/
def ha (c : Dev nD) (r : Fin 17408) (f : ℕ) : EReal :=
  ∑ k : Fin 2048, xr m c r k * wa m c k f

/-- A row times a column of the second half of the inner weight. -/
def hb (c : Dev nD) (r : Fin 17408) (f : ℕ) : EReal :=
  ∑ k : Fin 2048, xr m c r k * wb m c k f

/-- What one inner column adds to an output element: the gated product times the outer weight. -/
def term (c : Dev nD) (r : Fin 17408) (q : Fin 2048) (f : ℕ) : EReal :=
  ha m c r f * Ideal.div 1 (1 + Ideal.exp (0 - ha m c r f)) * hb m c r f * wd m c f q

/-- The columns past the last one add nothing. -/
theorem term_past (c : Dev nD) (r : Fin 17408) (q : Fin 2048) (f : ℕ) (h : 5504 ≤ f) : term m c r q f = 0 := by
  unfold term wd
  rw [dif_neg (by omega), mul_zero]

/-- The gated layer at an element: the sum over the inner columns. -/
def inner (c : Dev nD) (r : Fin 17408) (q : Fin 2048) : EReal := ∑ f : Fin 5504, term m c r q f.val

/-- The sum over the padded columns is the sum over the columns. -/
theorem inner_padded (c : Dev nD) (r : Fin 17408) (q : Fin 2048) :
    ∑ f : Fin 5632, term m c r q f.val = inner m c r q := by
  refine (Fin.sum_univ_add (a := 5504) (b := 128) (fun f : Fin (5504 + 128) => term m c r q f.val)).trans ?_
  rw [Finset.sum_eq_zero (s := (Finset.univ : Finset (Fin 128))) (fun x _ => term_past m c r q _ (by simp)), add_zero]
  rfl

/-- The block of rows that the first step of a run copies stays until its last step. -/
theorem rows_kept (c : Dev nD) : ∀ (n : ℕ) (hn : n < cfg0.N) (a : Fin 512) (k : Fin 2048),
    (outsAt0 m c n hn).2.1 (ix2 a k) = xr m c (rowOf ⟨n, hn⟩ a) k := by
  have start : ∀ (t : Fin cfg0.N) (h0 : t.val % 11 = 0) (a : Fin 512) (k : Fin 2048),
      (outsAt0 m c t.val t.isLt).2.1 (ix2 a k) = xr m c (rowOf t a) k := by
    intro t h0 a k
    rw [outsAt0_A m c t h0 (by omega)]
    frame_out
    pointwise [k0_pay1]
    exact blk_x m c t a k
  intro n
  induction n with
  | zero => intro hn a k; exact start ⟨0, hn⟩ rfl a k
  | succ n ih =>
    intro hn a k
    by_cases h0 : (n + 1) % 11 = 0
    · exact start ⟨n + 1, hn⟩ h0 a k
    · have same : rowOf ⟨n + 1, hn⟩ a = rowOf ⟨n, by omega⟩ a := by
        refine Fin.ext ?_
        show 512 * ((n + 1) / 11) + a.val = 512 * (n / 11) + a.val
        omega
      rw [same, ← ih (by omega) a k]
      by_cases h1 : (n + 1) % 11 = 10
      · have e := congrArg (fun v => v.2.1 (ix2 a k)) (outsAt0_C m c ⟨n + 1, hn⟩ h0 h1)
        refine e.trans ?_
        frame_out
        rfl
      · have e := congrArg (fun v => v.2.1 (ix2 a k)) (outsAt0_B m c ⟨n + 1, hn⟩ h0 h1)
        refine e.trans ?_
        frame_out
        rfl

/-- What one step adds to the running sum. -/
theorem step (c : Dev nD) (t : Fin cfg0.N) (x : Vec Ideal S512x2048 .bf16) (acc : Vec Ideal S512x2048 .f32) (a : Fin 512) (q : Fin 2048)
    (hx : ∀ k : Fin 2048, x (ix2 a k) = xr m c (rowOf t a) k) :
    k0_pay3 (F := Ideal) x (iblk m c 1 t) (iblk m c 2 t) acc (iblk m c 3 t) (ix2 a q)
      = acc (ix2 a q) + ∑ j : Fin 512, term m c (rowOf t a) q (t.val % 11 * 512 + j.val) := by
  pointwise [k0_pay3]
  refine congrArg (fun v => acc (ix2 a q) + v) (Finset.sum_congr rfl fun j _ => ?_)
  have ea : (∑ k : Fin 2048, (x (ix2 a k) : EReal) * (iblk m c 1 t (ix2 k j) : EReal)) = ha m c (rowOf t a) (t.val % 11 * 512 + j.val) :=
    Finset.sum_congr rfl fun k _ => congrArg₂ (fun u v : EReal => u * v) (hx k) (blk_a m c t k j)
  have eb : (∑ k : Fin 2048, (x (ix2 a k) : EReal) * (iblk m c 2 t (ix2 k j) : EReal)) = hb m c (rowOf t a) (t.val % 11 * 512 + j.val) :=
    Finset.sum_congr rfl fun k _ => congrArg₂ (fun u v : EReal => u * v) (hx k) (blk_b m c t k j)
  have ed := blk_d m c t j q
  refine Eq.trans (b := ha m c (rowOf t a) (t.val % 11 * 512 + j.val) * Ideal.div 1 (1 + Ideal.exp (0 - ha m c (rowOf t a) (t.val % 11 * 512 + j.val)))
    * hb m c (rowOf t a) (t.val % 11 * 512 + j.val) * wd m c (t.val % 11 * 512 + j.val) q) ?_ rfl
  rw [← ea, ← eb, ← ed]

/-- The running sum at the last step of a run is the gated layer. -/
theorem sum_at_last (c : Dev nD) (t : Fin cfg0.N) (hr : t.val % 11 = 10) (a : Fin 512) (q : Fin 2048) :
    (outsAt0 m c t.val t.isLt).2.2 (ix2 a q) = inner m c (rowOf t a) q := by
  have h := Pipeline.eq_sum_fin_of_reset_step_apply_of_flush
    (fun n h (p : Fin 512 × Fin 2048) => ((outsAt0 m c n h).2.2 (ix2 p.1 p.2) : EReal)) 11 (fun _ => (0 : EReal))
    (fun t p => ∑ j : Fin 512, term m c (rowOf t p.1) p.2 (t.val % 11 * 512 + j.val)) ?_ ?_ t hr (a, q)
  · refine h.trans ?_
    rw [zero_add, ← inner_padded]
    refine Fin.sum_mul_add_congr fun s k hl => ?_
    have e1 : (11 * (t.val / 11) + s.val) / 11 = t.val / 11 := by omega
    have e2 : (11 * (t.val / 11) + s.val) % 11 = s.val := by omega
    have e3 : rowOf ⟨11 * (t.val / 11) + s.val, Pipeline.run_point_lt_of_flush t hr s⟩ a = rowOf t a := by
      refine Fin.ext ?_
      show 512 * ((11 * (t.val / 11) + s.val) / 11) + a.val = 512 * (t.val / 11) + a.val
      rw [e1]
    show term m c (rowOf ⟨11 * (t.val / 11) + s.val, _⟩ a) q ((11 * (t.val / 11) + s.val) % 11 * 512 + k.val) = _
    rw [e3, e2]
  · rintro t h0 ⟨a, q⟩
    show (outsAt0 m c t.val t.isLt).2.2 (ix2 a q) = _
    rw [outsAt0_A m c t h0 (by omega)]
    frame_out
    refine (step m c t _ _ a q fun k => by pointwise [k0_pay1]; exact blk_x m c t a k).trans ?_
    pointwise [k0_pay2]
    try rfl
  · rintro t h0 ⟨a, q⟩
    have hx : ∀ k : Fin 2048, (outsAt0 m c (t.val - 1) (Nat.lt_of_le_of_lt (Nat.sub_le _ _) t.isLt)).2.1 (ix2 a k)
        = xr m c (rowOf t a) k := by
      intro k
      rw [rows_kept m c _ _ a k]
      have same : rowOf ⟨t.val - 1, Nat.lt_of_le_of_lt (Nat.sub_le _ _) t.isLt⟩ a = rowOf t a := by
        refine Fin.ext ?_
        show 512 * ((t.val - 1) / 11) + a.val = 512 * (t.val / 11) + a.val
        omega
      rw [same]
    show (outsAt0 m c t.val t.isLt).2.2 (ix2 a q) = _
    by_cases h1 : t.val % 11 = 10
    · rw [outsAt0_C m c t h0 h1]
      frame_out
      simp only [read_unread_whole]
      exact step m c t _ _ a q hx
    · rw [outsAt0_B m c t h0 h1]
      frame_out
      simp only [read_unread_whole]
      exact step m c t _ _ a q hx

/-- What the last step of a run writes: the normalised row over the running sum. -/
theorem written (c : Dev nD) (t : Fin cfg0.N) (hr : t.val % 11 = 10) :
    (outsAt0 m c t.val t.isLt).1 = k0_pay4 (F := Ideal) (iblk m c 0 t) (outsAt0 m c t.val t.isLt).2.2 (iblk m c 4 t) (iblk m c 5 t) := by
  rw [outsAt0_C m c t (by omega) hr]
  frame_out

/-- The reference's gated layer. -/
theorem ref_inner (c : Dev nD) (r : Fin 17408) (q : Fin 2048) :
    Cert.FfnRefIdeal.Read.val_main_v7 (F := Ideal) (m ((c : Thread nD τ).loc main_arg0)) (m ((c : Thread nD τ).loc main_arg1)) (m ((c : Thread nD τ).loc main_arg2)) (ix2 r q)
      = inner m c r q := by
  rw [Cert.FfnRefIdeal.Read.val_main_v7_apply]
  refine Finset.sum_congr rfl fun f _ => ?_
  simp only [Cert.FfnRefIdeal.Read.val_main_v6_apply, Cert.FfnRefIdeal.Read.val_main_v5_apply, Cert.FfnRefIdeal.Read.val_main_call0_v5_apply,
    Cert.FfnRefIdeal.Read.val_main_call0_v4_apply, Cert.FfnRefIdeal.Read.val_main_call0_v3_apply, Cert.FfnRefIdeal.Read.val_main_call0_v2_apply,
    Cert.FfnRefIdeal.Read.val_main_call0_v1_apply, Cert.FfnRefIdeal.Read.val_main_call0_v0_apply, Cert.FfnRefIdeal.Read.val_main_call0_cst_apply,
    Cert.FfnRefIdeal.Read.val_main_call0_cst_0_apply, Cert.FfnRefIdeal.Read.val_main_v4_apply, Cert.FfnRefIdeal.Read.val_main_v3_apply, Cert.FfnRefIdeal.Read.val_main_v2_apply]
  have ea : ∀ k : Fin 2048, wa m c k f.val = m ((c : Thread nD τ).loc main_arg1) (ix2 k ⟨f.val, by omega⟩) := fun k => dif_pos f.isLt
  have eb : ∀ k : Fin 2048, wb m c k f.val = m ((c : Thread nD τ).loc main_arg1) (ix2 k ⟨5504 + f.val, by omega⟩) := fun k => dif_pos f.isLt
  have ed : wd m c f.val q = m ((c : Thread nD τ).loc main_arg2) (ix2 f q) := dif_pos f.isLt
  unfold term ha hb xr
  simp only [ea, eb, ed]
  pointwise
  have i1 : ∀ x, Cert.FfnRefIdeal.Read.lidx_main_v2 (Cert.FfnRefIdeal.Read.idx_main_v3 (Cert.FfnRefIdeal.Read.lidx_main_v7 (ix2 r q) f)) x = ix2 r x :=
    fun x => funext fun a => match a with | ⟨0, _⟩ => rfl | ⟨1, _⟩ => rfl
  have i2 : ∀ x, Cert.FfnRefIdeal.Read.lidx_main_v2 (Cert.FfnRefIdeal.Read.idx_main_v4 (Cert.FfnRefIdeal.Read.lidx_main_v7 (ix2 r q) f)) x = ix2 r x :=
    fun x => funext fun a => match a with | ⟨0, _⟩ => rfl | ⟨1, _⟩ => rfl
  have j1 : ∀ x, Cert.FfnRefIdeal.Read.ridx_main_v2 (Cert.FfnRefIdeal.Read.idx_main_v3 (Cert.FfnRefIdeal.Read.lidx_main_v7 (ix2 r q) f)) x = ix2 x ⟨f.val, by omega⟩ :=
    fun x => funext fun a => match a with | ⟨0, _⟩ => rfl | ⟨1, _⟩ => rfl
  have j2 : ∀ x, Cert.FfnRefIdeal.Read.ridx_main_v2 (Cert.FfnRefIdeal.Read.idx_main_v4 (Cert.FfnRefIdeal.Read.lidx_main_v7 (ix2 r q) f)) x = ix2 x ⟨5504 + f.val, by omega⟩ :=
    fun x => funext fun a => match a with | ⟨0, _⟩ => rfl | ⟨1, _⟩ => rfl
  have k1 : Cert.FfnRefIdeal.Read.ridx_main_v7 (ix2 r q) f = ix2 f q :=
    funext fun a => match a with | ⟨0, _⟩ => rfl | ⟨1, _⟩ => rfl
  simp only [i1, i2, j1, j2, k1, zero_sub]

/-- What is normalised: the weighted sum of the row and half the gated layer. -/
def pre (c : Dev nD) (r : Fin 17408) (q : Fin 2048) : EReal :=
  Ideal.ofBits FTy.f32 0x3FD744FD#32 * xr m c r q + Ideal.ofBits FTy.f32 0x3F000000#32 * inner m c r q

theorem ref_pre (c : Dev nD) (r : Fin 17408) (q : Fin 2048) :
    Cert.FfnRefIdeal.Read.val_main_v10 (F := Ideal) (m ((c : Thread nD τ).loc main_arg0)) (m ((c : Thread nD τ).loc main_arg1)) (m ((c : Thread nD τ).loc main_arg2)) (ix2 r q)
      = pre m c r q := by
  simp only [Cert.FfnRefIdeal.Read.val_main_v10_apply, Cert.FfnRefIdeal.Read.val_main_v9_apply, Cert.FfnRefIdeal.Read.val_main_v8_apply,
    Cert.FfnRefIdeal.Read.val_main_v1_apply, Cert.FfnRefIdeal.Read.val_main_v0_apply, ref_inner]
  rfl

/-- The mean of a row. -/
def mean (c : Dev nD) (r : Fin 17408) : EReal :=
  Ideal.div (∑ x : Fin 2048, pre m c r x) (Ideal.ofBits FTy.f32 0x45000000#32)

/-- The normalised row at an element, scaled and shifted. -/
def norm (c : Dev nD) (r : Fin 17408) (q : Fin 2048) : EReal :=
  (pre m c r q - mean m c r) *
    Ideal.rsqrt (Ideal.div (∑ x : Fin 2048, (pre m c r x - mean m c r) * (pre m c r x - mean m c r)) (Ideal.ofBits FTy.f32 0x45000000#32)
      + Ideal.ofBits FTy.f32 0x3727C5AC#32)
    * m ((c : Thread nD τ).loc main_arg3) (ix1 q) + m ((c : Thread nD τ).loc main_arg4) (ix1 q)

/-- The result as the reference states it. -/
abbrev want (c : Dev nD) : (⟨S17408x2048, .f32⟩ : BufTy).Contents (Elt Ideal) :=
  Cert.FfnRefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's mean of a row. -/
theorem ref_mean (c : Dev nD) (r : Fin 17408) :
    Cert.FfnRefIdeal.Read.val_main_v14 (F := Ideal) (m ((c : Thread nD τ).loc main_arg0)) (m ((c : Thread nD τ).loc main_arg1)) (m ((c : Thread nD τ).loc main_arg2)) (ix2 r (0 : Fin 1)) = mean m c r := by
  have i1 : ∀ x, Cert.FfnRefIdeal.Read.idx_main_v11 (Cert.FfnRefIdeal.Read.idx_main_v12 (ix2 r (0 : Fin 1))) x = ix2 r x := fun x => funext fun a => match a with | ⟨0, _⟩ => rfl | ⟨1, _⟩ => rfl
  simp only [Cert.FfnRefIdeal.Read.val_main_v14_apply, Cert.FfnRefIdeal.Read.val_main_v13_apply, Cert.FfnRefIdeal.Read.val_main_v12_apply, Cert.FfnRefIdeal.Read.val_main_v11_apply, i1, ref_pre]
  pointwise [Cert.FfnRefIdeal.Read.val_main_cst_1, Cert.FfnRefIdeal.Read.val_main_cst_2]
  rfl

/-- The reference's squared distance from the mean. -/
theorem ref_square (c : Dev nD) (r : Fin 17408) (q : Fin 2048) :
    Cert.FfnRefIdeal.Read.val_main_v17 (F := Ideal) (m ((c : Thread nD τ).loc main_arg0)) (m ((c : Thread nD τ).loc main_arg1)) (m ((c : Thread nD τ).loc main_arg2)) (ix2 r q) = (pre m c r q - mean m c r) * (pre m c r q - mean m c r) := by
  have i1 : Cert.FfnRefIdeal.Read.idx_main_v15 (ix2 r q) = ix2 r (0 : Fin 1) := funext fun a => match a with | ⟨0, _⟩ => rfl | ⟨1, _⟩ => rfl
  simp only [Cert.FfnRefIdeal.Read.val_main_v17_apply, Cert.FfnRefIdeal.Read.val_main_v16_apply, Cert.FfnRefIdeal.Read.val_main_v15_apply, i1, ref_pre, ref_mean]
  rfl

theorem ref_norm (c : Dev nD) (r : Fin 17408) (q : Fin 2048) : want m c (ix2 r q) = norm m c r q := by
  have i1 : Cert.FfnRefIdeal.Read.idx_main_v22 (ix2 r q) = ix2 r (0 : Fin 1) := funext fun a => match a with | ⟨0, _⟩ => rfl | ⟨1, _⟩ => rfl
  have i2 : ∀ x, Cert.FfnRefIdeal.Read.idx_main_v18 (Cert.FfnRefIdeal.Read.idx_main_v19 (Cert.FfnRefIdeal.Read.idx_main_v27 (ix2 r q))) x = ix2 r x := fun x => funext fun a => match a with | ⟨0, _⟩ => rfl | ⟨1, _⟩ => rfl
  have i3 : Cert.FfnRefIdeal.Read.idx_main_v29 (Cert.FfnRefIdeal.Read.idx_main_v30 (ix2 r q)) = ix1 q := funext fun a => match a with | ⟨0, _⟩ => rfl
  have i4 : Cert.FfnRefIdeal.Read.idx_main_v32 (Cert.FfnRefIdeal.Read.idx_main_v33 (ix2 r q)) = ix1 q := funext fun a => match a with | ⟨0, _⟩ => rfl
  unfold want
  simp only [Cert.FfnRefIdeal.Read.val_main_v34_apply, Cert.FfnRefIdeal.Read.val_main_v33_apply, Cert.FfnRefIdeal.Read.val_main_v32_apply, Cert.FfnRefIdeal.Read.val_main_v31_apply, Cert.FfnRefIdeal.Read.val_main_v30_apply, Cert.FfnRefIdeal.Read.val_main_v29_apply, Cert.FfnRefIdeal.Read.val_main_v28_apply, Cert.FfnRefIdeal.Read.val_main_v27_apply, Cert.FfnRefIdeal.Read.val_main_v26_apply, Cert.FfnRefIdeal.Read.val_main_v25_apply, Cert.FfnRefIdeal.Read.val_main_v24_apply, Cert.FfnRefIdeal.Read.val_main_v23_apply, Cert.FfnRefIdeal.Read.val_main_v22_apply, Cert.FfnRefIdeal.Read.val_main_v21_apply, Cert.FfnRefIdeal.Read.val_main_v20_apply, Cert.FfnRefIdeal.Read.val_main_v19_apply, Cert.FfnRefIdeal.Read.val_main_v18_apply, i1, i2, i3, i4, ref_pre, ref_mean, ref_square]
  pointwise [Cert.FfnRefIdeal.Read.val_main_cst_3, Cert.FfnRefIdeal.Read.val_main_cst_4, Cert.FfnRefIdeal.Read.val_main_cst_5]
  rfl

/-- What the last step of a run writes, at an element. -/
theorem point (c : Dev nD) (t : Fin cfg0.N) (hr : t.val % 11 = 10) (a : Fin 512) (q : Fin 2048) :
    (outsAt0 m c t.val t.isLt).1 (ix2 a q) = norm m c (rowOf t a) q := by
  rw [written m c t hr]
  have hp : ∀ x : Fin 2048, Ideal.ofBits FTy.f32 0x3FD744FD#32 * (iblk m c 0 t (ix2 a x) : EReal)
      + Ideal.ofBits FTy.f32 0x3F000000#32 * ((outsAt0 m c t.val t.isLt).2.2 (ix2 a x) : EReal) = pre m c (rowOf t a) x := by
    intro x
    rw [sum_at_last m c t hr a x]
    have e : (iblk m c 0 t (ix2 a x) : EReal) = xr m c (rowOf t a) x := blk_x m c t a x
    rw [e]
    rfl
  pointwise [k0_pay4]
  have eg : (iblk m c 4 t (ix2 (0 : Fin 1) q) : EReal) = m ((c : Thread nD τ).loc main_arg3) (ix1 q) := blk_g m c t q
  have eh : (iblk m c 5 t (ix2 (0 : Fin 1) q) : EReal) = m ((c : Thread nD τ).loc main_arg4) (ix1 q) := blk_h m c t q
  simp only [hp, eg, eh]
  rfl

/-- The array after the run is the reference's. -/
theorem final (c : Dev nD) : (dats m 0 c).arrAt 6 cfg0.N = want m c := by
  refine (dats m 0 c).arrAt_eq_of_covers 6 _ (by decide +kernel) fun t hf y => ?_
  have hr : t.val % 11 = 10 := (flush0_6 t).mp hf
  obtain ⟨e0, e1, e2, e3, e4, e5, e6⟩ := idx t
  blk_simp
  rw [after0_6]
  have hy : y = ix2 (y 0) (y 1) := funext fun a => match a with | ⟨0, _⟩ => rfl | ⟨1, _⟩ => rfl
  have hi : (win0_6.blk t).view.emb y = ix2 (rowOf t (y 0)) (y 1) := funext fun a => Fin.ext (match a with
    | ⟨0, _⟩ => by
      blk_simp [e6]
      exact congrArg (· + (y 0).val) (Nat.mul_comm (t.val / 11) 512)
    | ⟨1, _⟩ => by
      blk_simp [e6]
      rfl)
  rw [hi]
  refine Eq.trans ?_ (ref_norm m c (rowOf t (y 0)) (y 1)).symm
  refine Eq.trans ?_ (point m c t hr (y 0) (y 1))
  exact congrArg (outsAt0 m c t.val t.isLt).1 hy

/-- From the same arguments the kernel and the reference return the same array, over the extended reals. -/
theorem algebraic : Cert.algebraic_FfnIdeal_FfnRefIdeal := by
  pair_intro
  · run_from Value.run_blocks m g
  · run_from Cert.FfnRefIdeal.Value.run m' g'
    rw [Cert.FfnRefIdeal.Read.val_main_v34_eq, (hagree c).1, (hagree c).2.1, (hagree c).2.2.1, (hagree c).2.2.2.1, (hagree c).2.2.2.2]
    exact (final m c).symm

end Cert.FfnValue

end
-- ==== Proof.ProjAb.lean ====
module

public import proofs.«01_k».proof.Proof.Gen.ProjAbIdeal.Value
public import proofs.«01_k».proof.Proof.Gen.ProjAbRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.ProjAbValue

open Cert.ProjAbIdeal Cert.ProjAbIdeal.Gen Idealize.ShloMosaic Idealize.ShloMosaic.TcCoe Idealize.SL.Sem
open Idealize.ShloMosaic.Pipeline (Dat)

variable (m : (ℓ : Loc nD τ sig) → Buf (Elt Ideal) ℓ)

/-- The product of the rows and the first 6144 columns of the weight, as the reference states it. -/
abbrev want (c : Dev nD) : (⟨S17408x6144, .f32⟩ : BufTy).Contents (Elt Ideal) :=
  Cert.ProjAbRefIdeal.Read.val_main_v1 (F := Ideal) (m ((c : Thread nD τ).loc main_arg0)) (m ((c : Thread nD τ).loc main_arg1))

/-- Which block each window holds at a grid point. -/
theorem idx : ∀ t : Fin cfg0.N, win0_0.index t = ![t.val / 12, 0]
    ∧ win0_1.index t = ![0, t.val % 12]
    ∧ win0_2.index t = ![t.val / 12, t.val % 12] :=
  (by decide +kernel : ∀ t : Fin grid0.N, _)

/-- One element of a point's block is the sum over the contracted axis, which is the reference's. -/
theorem point (c : Dev nD) (t : Fin cfg0.N) (y : S512x512.Idx) :
    k0_pay1 (F := Ideal) (iblk m c 0 t) (iblk m c 1 t) y = want m c ((win0_2.blk t).view.emb y) := by
  obtain ⟨e0, e1, e2⟩ := idx t
  unfold want
  rw [Cert.ProjAbRefIdeal.Read.val_main_v1_apply]
  simp only [Cert.ProjAbRefIdeal.Read.val_main_v0_apply]
  pointwise [k0_pay1]
  blk_point [iblk, V, e0, e1, e2]

/-- The array after the run is the reference's. -/
theorem final (c : Dev nD) : (dats m 0 c).arrAt 2 cfg0.N = want m c := by
  refine (dats m 0 c).arrAt_eq_of_covers 2 _ (by decide +kernel) fun t _ y => ?_
  blk_simp
  rw [after0_2]
  frame_out
  exact point m c t y

/-- From the same arguments the kernel and the reference return the same array, over the extended reals. -/
theorem algebraic : Cert.algebraic_ProjAbIdeal_ProjAbRefIdeal := by
  pair_intro
  · run_from Value.run_blocks m g
  · hlo_run
    exact (final m c).symm

end Cert.ProjAbValue

end
-- ==== Proof.ProjC.lean ====
module

public import proofs.«01_k».proof.Proof.Gen.ProjCIdeal.Value
public import proofs.«01_k».proof.Proof.Gen.ProjCRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.ProjCValue

open Cert.ProjCIdeal Cert.ProjCIdeal.Gen Idealize.ShloMosaic Idealize.ShloMosaic.TcCoe Idealize.SL.Sem
open Idealize.ShloMosaic.Pipeline (Dat)

variable (m : (ℓ : Loc nD τ sig) → Buf (Elt Ideal) ℓ)

/-- The product of the rows and the last 3360 columns of the weight, followed by 96 columns of zeros, as the reference states it. -/
abbrev want (c : Dev nD) : (⟨S17408x3456, .f32⟩ : BufTy).Contents (Elt Ideal) :=
  Cert.ProjCRefIdeal.Read.val_main_v2 (F := Ideal) (m ((c : Thread nD τ).loc main_arg0)) (m ((c : Thread nD τ).loc main_arg1))

/-- The weight the kernel reads: the last 3360 columns, followed by 96 columns of zeros. -/
theorem weight (c : Dev nD) : V m c main_v2
    = pad S2048x3456 ![0, 0] ![0, 96] ![0, 0]
        (extractStridedSlice S2048x3360 ![0, 6144] (m ((c : Thread nD τ).loc main_arg1)) slices_S2048x9504_S2048x3360_0_6144)
        (fun _ => (0 : EReal)) pads_S2048x3360_S2048x3456_000_0960 h_S_ := by
  simp only [V, hostOps0, hostOps0_1, List.flatten_cons, List.flatten_nil, List.append_nil, List.cons_append, List.nil_append]
  after_results
  have hz : (sitofp (F := Ideal) FTy.bf16 (constantI S_ 32 0#32) : FVec Ideal S_ .bf16) = fun _ => (0 : EReal) := funext fun _ => by
    show (((0#32 : BitVec 32).toInt : ℝ) : EReal) = 0
    simp
  refine Eq.trans ?_ (congrArg (fun v => pad S2048x3456 ![0, 0] ![0, 96] ![0, 0]
    (extractStridedSlice S2048x3360 ![0, 6144] (m ((c : Thread nD τ).loc main_arg1)) slices_S2048x9504_S2048x3360_0_6144)
    v pads_S2048x3360_S2048x3456_000_0960 h_S_) hz)
  rfl

/-- Which block each window holds at a grid point. -/
theorem idx : ∀ t : Fin cfg0.N, win0_0.index t = ![t.val / 9, 0]
    ∧ win0_1.index t = ![0, t.val % 9]
    ∧ win0_2.index t = ![t.val / 9, t.val % 9] :=
  (by decide +kernel : ∀ t : Fin grid0.N, _)

/-- One element of a point's block: a column of the product, or a column of zeros. -/
theorem point (c : Dev nD) (t : Fin cfg0.N) (y : S512x384.Idx) :
    k0_pay1 (F := Ideal) (iblk m c 0 t) (iblk m c 1 t) y = want m c ((win0_2.blk t).view.emb y) := by
  obtain ⟨e0, e1, e2⟩ := idx t
  unfold want
  have hx : ∀ x : Fin 2048, iblk m c 0 t (ix2 (y 0) x) = m ((c : Thread nD τ).loc main_arg0) (ix2 ⟨512 * (t.val / 9) + (y 0).val, by have ht := t.isLt; have hy := (y 0).isLt; change t.val < 306 at ht; change (y 0).val < 512 at hy; omega⟩ x) := by
    intro x
    blk_ext [iblk, V, e0]
  by_cases hc : t.val % 9 * 384 + (y 1).val < 3360
  · have hw : ∀ x : Fin 2048, iblk m c 1 t (ix2 x (y 1)) = m ((c : Thread nD τ).loc main_arg1) (ix2 x ⟨6144 + (t.val % 9 * 384 + (y 1).val), by omega⟩) := by
      intro x
      blk_simp [iblk]
      rw [weight]
      pointwise
      have e : (((View.whole main_v2).slice (win0_1.rect t)).emb (ix2 x (y 1)) 1).val = t.val % 9 * 384 + (y 1).val := by blk_simp [e1]
      rw [dif_pos (by rw [e]; exact hc)]
      blk_ext [e1]
    pointwise [k0_pay1, Cert.ProjCRefIdeal.Read.val_main_v2]
    have e : (((View.whole main_v3).slice (win0_2.rect t)).emb y 1).val = t.val % 9 * 384 + (y 1).val := by blk_simp [e2]
    rw [dif_pos (by rw [e]; exact hc)]
    simp only [hx, hw, Cert.ProjCRefIdeal.Read.val_main_v1_apply, Cert.ProjCRefIdeal.Read.val_main_v0_apply]
    blk_point [e2]
  · have hw : ∀ x : Fin 2048, iblk m c 1 t (ix2 x (y 1)) = (0 : EReal) := by
      intro x
      blk_simp [iblk]
      rw [weight]
      pointwise
      have e : (((View.whole main_v2).slice (win0_1.rect t)).emb (ix2 x (y 1)) 1).val = t.val % 9 * 384 + (y 1).val := by blk_simp [e1]
      rw [dif_neg (by rw [e]; exact hc)]
    pointwise [k0_pay1, Cert.ProjCRefIdeal.Read.val_main_v2]
    have e : (((View.whole main_v3).slice (win0_2.rect t)).emb y 1).val = t.val % 9 * 384 + (y 1).val := by blk_simp [e2]
    rw [dif_neg (by rw [e]; exact hc)]
    simp only [hw, mul_zero, Finset.sum_const_zero]
    show (0 : EReal) = (((0#32 : BitVec 32).toInt : ℝ) : EReal)
    simp

/-- The array after the run is the reference's. -/
theorem final (c : Dev nD) : (dats m 0 c).arrAt 2 cfg0.N = want m c := by
  refine (dats m 0 c).arrAt_eq_of_covers 2 _ (by decide +kernel) fun t _ y => ?_
  blk_simp
  rw [after0_2]
  frame_out
  exact point m c t y

/-- From the same arguments the kernel and the reference return the same array, over the extended reals. -/
theorem algebraic : Cert.algebraic_ProjCIdeal_ProjCRefIdeal := by
  pair_intro
  · run_from Value.run_blocks m g
  · hlo_run
    exact (final m c).symm

end Cert.ProjCValue

end
-- ==== Proof.Gate.lean ====
module

public import proofs.«01_k».proof.Proof.Gen.GateIdeal.Value
public import proofs.«01_k».proof.Proof.Gen.GateRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.GateValue

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- The gates as the reference states them: the logistic function of the rows times the gate weight. -/
abbrev want (c : Dev nD) : (⟨S17408x6144, .f32⟩ : BufTy).Contents (Elt Ideal) :=
  Cert.GateRefIdeal.Read.val_main_v6 (F := Ideal) (m ((c : Thread nD τ).loc main_arg0)) (m ((c : Thread nD τ).loc main_arg1))

/-- Which block each window holds at a grid point. -/
theorem idx : ∀ t : Fin cfg0.N, win0_0.index t = ![t.val / 12, 0]
    ∧ win0_1.index t = ![0, t.val % 12]
    ∧ win0_2.index t = ![t.val / 12, t.val % 12] :=
  (by decide +kernel : ∀ t : Fin grid0.N, _)

/-- One element of a point's block is the logistic function of the sum over the contracted axis. -/
theorem point (c : Dev nD) (t : Fin cfg0.N) (y : S512x512.Idx) :
    k0_pay1 (F := Ideal) (iblk m c 0 t) (iblk m c 1 t) y = want m c ((win0_2.blk t).view.emb y) := by
  obtain ⟨e0, e1, e2⟩ := idx t
  unfold want
  simp only [Cert.GateRefIdeal.Read.val_main_v6_apply, Cert.GateRefIdeal.Read.val_main_v5_apply, Cert.GateRefIdeal.Read.val_main_v4_apply,
    Cert.GateRefIdeal.Read.val_main_v3_apply, Cert.GateRefIdeal.Read.val_main_v2_apply, Cert.GateRefIdeal.Read.val_main_v1_apply, Cert.GateRefIdeal.Read.val_main_v0_apply]
  pointwise [k0_pay1, Cert.GateRefIdeal.Read.val_main_cst, Cert.GateRefIdeal.Read.val_main_cst_0, zero_sub]
  blk_point [iblk, V, e0, e1, e2]

/-- The array after the run is the reference's. -/
theorem final (c : Dev nD) : (dats m 0 c).arrAt 2 cfg0.N = want m c := by
  refine (dats m 0 c).arrAt_eq_of_covers 2 _ (by decide +kernel) fun t _ y => ?_
  blk_simp
  rw [after0_2]
  frame_out
  exact point m c t y

/-- From the same arguments the kernel and the reference return the same array, over the extended reals. -/
theorem algebraic : Cert.algebraic_GateIdeal_GateRefIdeal := by
  pair_intro
  · run_from Value.run_blocks m g
  · hlo_run
    exact (final m c).symm

end Cert.GateValue

end
-- ==== Proof.Merge.lean ====
module

public import proofs.«01_k».proof.Proof.Gen.MergeIdeal.Value
public import proofs.«01_k».proof.Proof.Gen.MergeRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.MergeValue

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The gated sum of the three branches, as the reference states it. -/
abbrev want (c : Dev nD) : (⟨S17408x2048, .f32⟩ : BufTy).Contents (Elt Ideal) :=
  Cert.MergeRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Which block each window holds at a grid point. -/
theorem idx : ∀ t : Fin cfg0.N, win0_0.index t = ![t.val / 4, 0]
    ∧ win0_1.index t = ![t.val / 4, 0]
    ∧ win0_2.index t = ![t.val / 4, 0]
    ∧ win0_3.index t = ![t.val / 4, 0 + t.val % 4]
    ∧ win0_4.index t = ![t.val / 4, 4 + t.val % 4]
    ∧ win0_5.index t = ![t.val / 4, 8 + t.val % 4]
    ∧ win0_6.index t = ![0, 0, t.val % 4]
    ∧ win0_7.index t = ![1, 0, t.val % 4]
    ∧ win0_8.index t = ![2, 0, t.val % 4]
    ∧ win0_9.index t = ![t.val / 4, t.val % 4] :=
  (by decide +kernel : ∀ t : Fin grid0.N, _)

/-- One element of a point's block: three products, each times its gate. -/
theorem point (c : Dev nD) (t : Fin cfg0.N) (y : S512x512.Idx) :
    k0_pay1 (F := Ideal) (iblk m c 3 t) (iblk m c 0 t) (iblk m c 6 t) (iblk m c 4 t) (iblk m c 1 t) (iblk m c 7 t) (iblk m c 5 t) (iblk m c 2 t) (iblk m c 8 t) y = want m c ((win0_9.blk t).view.emb y) := by
  obtain ⟨e0, e1, e2, e3, e4, e5, e6, e7, e8, e9⟩ := idx t
  unfold want
  simp only [Cert.MergeRefIdeal.Read.val_main_v20_apply,
    Cert.MergeRefIdeal.Read.val_main_v19_apply,
    Cert.MergeRefIdeal.Read.val_main_v18_apply,
    Cert.MergeRefIdeal.Read.val_main_v17_apply,
    Cert.MergeRefIdeal.Read.val_main_v16_apply,
    Cert.MergeRefIdeal.Read.val_main_v15_apply,
    Cert.MergeRefIdeal.Read.val_main_v14_apply,
    Cert.MergeRefIdeal.Read.val_main_v13_apply,
    Cert.MergeRefIdeal.Read.val_main_v12_apply,
    Cert.MergeRefIdeal.Read.val_main_v11_apply,
    Cert.MergeRefIdeal.Read.val_main_v10_apply,
    Cert.MergeRefIdeal.Read.val_main_v9_apply,
    Cert.MergeRefIdeal.Read.val_main_v8_apply,
    Cert.MergeRefIdeal.Read.val_main_v7_apply,
    Cert.MergeRefIdeal.Read.val_main_v6_apply,
    Cert.MergeRefIdeal.Read.val_main_v5_apply,
    Cert.MergeRefIdeal.Read.val_main_v4_apply,
    Cert.MergeRefIdeal.Read.val_main_v3_apply,
    Cert.MergeRefIdeal.Read.val_main_v2_apply,
    Cert.MergeRefIdeal.Read.val_main_v1_apply,
    Cert.MergeRefIdeal.Read.val_main_v0_apply]
  pointwise [k0_pay1]
  blk_point [iblk, V, e0, e1, e2, e3, e4, e5, e6, e7, e8, e9]

/-- The array after the run is the reference's. -/
theorem final (c : Dev nD) : (dats m 0 c).arrAt 9 cfg0.N = want m c := by
  refine (dats m 0 c).arrAt_eq_of_covers 9 _ (by decide +kernel) fun t _ y => ?_
  blk_simp
  rw [after0_9]
  frame_out
  exact point m c t y

/-- From the same arguments the kernel and the reference return the same array, over the extended reals. -/
theorem algebraic : Cert.algebraic_MergeIdeal_MergeRefIdeal := by
  pair_intro
  · run_from Value.run_blocks m g
  · hlo_run
    exact (final m c).symm

end Cert.MergeValue

end
-- ==== Proof.OutProj.lean ====
module

public import proofs.«01_k».proof.Proof.Gen.OutProjIdeal.Value
public import proofs.«01_k».proof.Proof.Gen.OutProjRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.OutProjValue

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The layer norm of the scaled residual plus the projected rows, as the reference states it. -/
abbrev want (c : Dev nD) : (⟨S17408x2048, .f32⟩ : BufTy).Contents (Elt Ideal) :=
  Cert.OutProjRefIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Which block each window holds at a grid point. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] :=
  (by decide +kernel : ∀ t : Fin grid0.N, _)

/-- One element of a point's block: a row is normalised by its own mean and variance, as in the reference. -/
theorem point (c : Dev nD) (t : Fin cfg0.N) (y : S256x2048.Idx) :
    k0_pay1 (F := Ideal) (iblk m c 1 t) (iblk m c 0 t) (iblk m c 2 t) (iblk m c 3 t) (iblk m c 4 t) y = want m c ((win0_5.blk t).view.emb y) := by
  obtain ⟨e0, e1, e2, e3, e4, e5⟩ := idx t
  unfold want
  simp only [Cert.OutProjRefIdeal.Read.val_main_v27_apply,
    Cert.OutProjRefIdeal.Read.val_main_v26_apply,
    Cert.OutProjRefIdeal.Read.val_main_v25_apply,
    Cert.OutProjRefIdeal.Read.val_main_v24_apply,
    Cert.OutProjRefIdeal.Read.val_main_v23_apply,
    Cert.OutProjRefIdeal.Read.val_main_v22_apply,
    Cert.OutProjRefIdeal.Read.val_main_v21_apply,
    Cert.OutProjRefIdeal.Read.val_main_v20_apply,
    Cert.OutProjRefIdeal.Read.val_main_v19_apply,
    Cert.OutProjRefIdeal.Read.val_main_v18_apply,
    Cert.OutProjRefIdeal.Read.val_main_v17_apply,
    Cert.OutProjRefIdeal.Read.val_main_v16_apply,
    Cert.OutProjRefIdeal.Read.val_main_v15_apply,
    Cert.OutProjRefIdeal.Read.val_main_v14_apply,
    Cert.OutProjRefIdeal.Read.val_main_v13_apply,
    Cert.OutProjRefIdeal.Read.val_main_v12_apply,
    Cert.OutProjRefIdeal.Read.val_main_v11_apply,
    Cert.OutProjRefIdeal.Read.val_main_v10_apply,
    Cert.OutProjRefIdeal.Read.val_main_v9_apply,
    Cert.OutProjRefIdeal.Read.val_main_v8_apply,
    Cert.OutProjRefIdeal.Read.val_main_v7_apply,
    Cert.OutProjRefIdeal.Read.val_main_v6_apply,
    Cert.OutProjRefIdeal.Read.val_main_v5_apply,
    Cert.OutProjRefIdeal.Read.val_main_v4_apply,
    Cert.OutProjRefIdeal.Read.val_main_v3_apply,
    Cert.OutProjRefIdeal.Read.val_main_v2_apply,
    Cert.OutProjRefIdeal.Read.val_main_v1_apply,
    Cert.OutProjRefIdeal.Read.val_main_v0_apply]
  rw [show Cert.OutProjRefIdeal.Read.val_main_cst_0 (F := Ideal) (Shape.Idx.first Cert.OutProjRefIdeal.Gen.h_S_) = 0 from Ideal.ofBits_zero_f32,
    show Cert.OutProjRefIdeal.Read.val_main_cst_2 (F := Ideal) (Shape.Idx.first Cert.OutProjRefIdeal.Gen.h_S_) = 0 from Ideal.ofBits_zero_f32]
  pointwise [k0_pay1, Cert.OutProjRefIdeal.Read.val_main_cst, Cert.OutProjRefIdeal.Read.val_main_cst_1, Cert.OutProjRefIdeal.Read.val_main_cst_2, Cert.OutProjRefIdeal.Read.val_main_cst_3, Cert.OutProjRefIdeal.Read.val_main_cst_4]
  blk_point [iblk, V, e0, e1, e2, e3, e4, e5]

/-- The array after the run is the reference's. -/
theorem final (c : Dev nD) : (dats m 0 c).arrAt 5 cfg0.N = want m c := by
  refine (dats m 0 c).arrAt_eq_of_covers 5 _ (by decide +kernel) fun t _ y => ?_
  blk_simp
  rw [after0_5]
  frame_out
  exact point m c t y

/-- From the same arguments the kernel and the reference return the same array, over the extended reals. -/
theorem algebraic : Cert.algebraic_OutProjIdeal_OutProjRefIdeal := by
  pair_intro
  · run_from Value.run_blocks m g
  · hlo_run
    exact (final m c).symm

end Cert.OutProjValue

end
-- ==== Proof.Rope.lean ====
module

public import proofs.«01_k».proof.Proof.Gen.RopeIdeal.Value
public import proofs.«01_k».proof.Proof.Gen.RopeRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.RopeValue

open Cert.RopeIdeal Cert.RopeIdeal.Gen Idealize.ShloMosaic Idealize.ShloMosaic.TcCoe Idealize.SL.Sem
open Idealize.ShloMosaic.Pipeline (Dat)

variable (m : (ℓ : Loc nD τ sig) → Buf (Elt Ideal) ℓ)

/-- A table of 64 lanes written twice side by side. -/
def twice (x : FVec Ideal S17408x64 .f32) : FVec Ideal S17408x128 .f32 :=
  shapeCast S17408x128 (broadcastInDim S1x17408x2x64 ![0, 1, 2, 3] bcast_S1x17408x1x64_S1x17408x2x64_0_1_2_3
    (shapeCast S1x17408x1x64 x shapeCasts_S17408x64_S1x17408x1x64)) shapeCasts_S1x17408x2x64_S17408x128

/-- A table of 0 lanes that holds one constant. -/
abbrev fill0 (w : BitVec 32) : FVec Ideal S17408x0 .f32 :=
  broadcastInDim S17408x0 ![] bcast_S_S17408x0 (constant (F := Ideal) S_ .f32 w)

/-- A table of 8 lanes that holds one constant. -/
abbrev fill8 (w : BitVec 32) : FVec Ideal S17408x8 .f32 :=
  broadcastInDim S17408x8 ![] bcast_S_S17408x8 (constant (F := Ideal) S_ .f32 w)

/-- A table of 32 lanes that holds one constant. -/
abbrev fill32 (w : BitVec 32) : FVec Ideal S17408x32 .f32 :=
  broadcastInDim S17408x32 ![] bcast_S_S17408x32 (constant (F := Ideal) S_ .f32 w)

/-- A table of 48 lanes that holds one constant. -/
abbrev fill48 (w : BitVec 32) : FVec Ideal S17408x48 .f32 :=
  broadcastInDim S17408x48 ![] bcast_S_S17408x48 (constant (F := Ideal) S_ .f32 w)

/-- A table of 56 lanes that holds one constant. -/
abbrev fill56 (w : BitVec 32) : FVec Ideal S17408x56 .f32 :=
  broadcastInDim S17408x56 ![] bcast_S_S17408x56 (constant (F := Ideal) S_ .f32 w)

/-- The attention's table of cosines. -/
theorem table_a_cos (c : Dev nD) : V m c main_v35 = twice (concatenate S17408x64 1
      [⟨S17408x8, Cert.RopeRefIdeal.Read.val_main_v25 (F := Ideal)⟩, ⟨S17408x8, Cert.RopeRefIdeal.Read.val_main_v25 (F := Ideal)⟩, ⟨S17408x48, fill48 0x3F800000#32⟩]
      concatenates_S17408x8_S17408x8_S17408x48_S17408x64_d1) := by
  simp only [V, hostOps0, List.flatten_cons, List.flatten_nil, List.append_nil, List.cons_append, List.nil_append]
  after_results
  rfl

/-- The attention's table of sines for the lower half. -/
theorem table_a_lo (c : Dev nD) : V m c main_v38 = twice (concatenate S17408x64 1
      [⟨S17408x8, Host.negf (F := Ideal) (Cert.RopeRefIdeal.Read.val_main_v27 (F := Ideal))⟩, ⟨S17408x56, fill56 0x00000000#32⟩]
      concatenates_S17408x8_S17408x56_S17408x64_d1) := by
  simp only [V, hostOps0, List.flatten_cons, List.flatten_nil, List.append_nil, List.cons_append, List.nil_append]
  after_results
  rfl

/-- The attention's table of sines for the upper half. -/
theorem table_a_hi (c : Dev nD) : V m c main_v41 = twice (concatenate S17408x64 1
      [⟨S17408x8, fill8 0x00000000#32⟩, ⟨S17408x8, Cert.RopeRefIdeal.Read.val_main_v27 (F := Ideal)⟩, ⟨S17408x48, fill48 0x00000000#32⟩]
      concatenates_S17408x8_S17408x8_S17408x48_S17408x64_d1) := by
  simp only [V, hostOps0, List.flatten_cons, List.flatten_nil, List.append_nil, List.cons_append, List.nil_append]
  after_results
  rfl

/-- The retention's table of cosines. -/
theorem table_b_cos (c : Dev nD) : V m c main_v66 = twice (concatenate S17408x64 1
      [⟨S17408x32, Cert.RopeRefIdeal.Read.val_main_v57 (F := Ideal)⟩, ⟨S17408x32, Cert.RopeRefIdeal.Read.val_main_v57 (F := Ideal)⟩, ⟨S17408x0, fill0 0x3F800000#32⟩]
      concatenates_S17408x32_S17408x32_S17408x0_S17408x64_d1) := by
  simp only [V, hostOps0, List.flatten_cons, List.flatten_nil, List.append_nil, List.cons_append, List.nil_append]
  after_results
  rfl

/-- The retention's table of sines for the lower half. -/
theorem table_b_lo (c : Dev nD) : V m c main_v69 = twice (concatenate S17408x64 1
      [⟨S17408x32, Host.negf (F := Ideal) (Cert.RopeRefIdeal.Read.val_main_v59 (F := Ideal))⟩, ⟨S17408x32, fill32 0x00000000#32⟩]
      concatenates_S17408x32_S17408x32_S17408x64_d1) := by
  simp only [V, hostOps0, List.flatten_cons, List.flatten_nil, List.append_nil, List.cons_append, List.nil_append]
  after_results
  rfl

/-- The retention's table of sines for the upper half. -/
theorem table_b_hi (c : Dev nD) : V m c main_v72 = twice (concatenate S17408x64 1
      [⟨S17408x32, fill32 0x00000000#32⟩, ⟨S17408x32, Cert.RopeRefIdeal.Read.val_main_v59 (F := Ideal)⟩, ⟨S17408x0, fill0 0x00000000#32⟩]
      concatenates_S17408x32_S17408x32_S17408x0_S17408x64_d1) := by
  simp only [V, hostOps0, List.flatten_cons, List.flatten_nil, List.append_nil, List.cons_append, List.nil_append]
  after_results
  rfl

/-- The table written twice, at an index. -/
theorem twice_apply (x : FVec Ideal S17408x64 .f32) (n : Fin 17408) (l : Fin 128) :
    twice x (ix2 n l) = x (ix2 n (⟨l.val % 64, Nat.mod_lt _ (by decide)⟩ : Fin 64)) := by
  unfold twice
  pointwise []

/-- A cosine of the attention's positions. -/
def cA (n : Fin 17408) (k : ℕ) : EReal :=
  if h : k < 8 then Cert.RopeRefIdeal.Read.val_main_v25 (F := Ideal) (ix2 n (⟨k, h⟩ : Fin 8)) else 0

/-- A sine of the attention's positions. -/
def sA (n : Fin 17408) (k : ℕ) : EReal :=
  if h : k < 8 then Cert.RopeRefIdeal.Read.val_main_v27 (F := Ideal) (ix2 n (⟨k, h⟩ : Fin 8)) else 0

/-- A cosine of the retention's positions. -/
def cB (n : Fin 17408) (k : ℕ) : EReal :=
  if h : k < 32 then Cert.RopeRefIdeal.Read.val_main_v57 (F := Ideal) (ix2 n (⟨k, h⟩ : Fin 32)) else 0

/-- A sine of the retention's positions. -/
def sB (n : Fin 17408) (k : ℕ) : EReal :=
  if h : k < 32 then Cert.RopeRefIdeal.Read.val_main_v59 (F := Ideal) (ix2 n (⟨k, h⟩ : Fin 32)) else 0

/-- An element of a row of the projected array. -/
def X (x : FVec Ideal S17408x6144 .f32) (n : Fin 17408) (q : ℕ) : EReal :=
  if h : q < 6144 then x (ix2 n (⟨q, h⟩ : Fin 6144)) else 0

theorem read_a_cos (c : Dev nD) (n : Fin 17408) (l : Fin 128) :
    (V m c main_v35 : FVec Ideal S17408x128 .f32) (ix2 n l)
      = if l.val % 64 < 8 then cA n (l.val % 64) else if l.val % 64 < 16 then cA n (l.val % 64 - 8) else (1 : EReal) := by
  rw [table_a_cos, twice_apply]
  pointwise []
  split_ifs <;> first | omega | (simp [cA, *, Ideal.ofBits, Ideal.ieee] <;> intro h <;> omega) | simp [cA, *, Ideal.ofBits, Ideal.ieee]

theorem read_a_lo (c : Dev nD) (n : Fin 17408) (l : Fin 128) :
    (V m c main_v38 : FVec Ideal S17408x128 .f32) (ix2 n l)
      = if l.val % 64 < 8 then - sA n (l.val % 64) else (0 : EReal) := by
  rw [table_a_lo, twice_apply]
  pointwise []
  split_ifs <;> first | omega | (simp [sA, *, Ideal.ofBits, Ideal.ieee] <;> intro h <;> omega) | simp [sA, *, Ideal.ofBits, Ideal.ieee]

theorem read_a_hi (c : Dev nD) (n : Fin 17408) (l : Fin 128) :
    (V m c main_v41 : FVec Ideal S17408x128 .f32) (ix2 n l)
      = if l.val % 64 < 8 then (0 : EReal) else if l.val % 64 < 16 then sA n (l.val % 64 - 8) else 0 := by
  rw [table_a_hi, twice_apply]
  pointwise []
  split_ifs <;> first | omega | (simp [sA, *, Ideal.ofBits, Ideal.ieee] <;> intro h <;> omega) | simp [sA, *, Ideal.ofBits, Ideal.ieee]

theorem read_b_cos (c : Dev nD) (n : Fin 17408) (l : Fin 128) :
    (V m c main_v66 : FVec Ideal S17408x128 .f32) (ix2 n l)
      = if l.val % 64 < 32 then cB n (l.val % 64) else cB n (l.val % 64 - 32) := by
  rw [table_b_cos, twice_apply]
  pointwise []
  split_ifs <;> first | omega | simp [cB, *, Ideal.ofBits, Ideal.ieee]

theorem read_b_lo (c : Dev nD) (n : Fin 17408) (l : Fin 128) :
    (V m c main_v69 : FVec Ideal S17408x128 .f32) (ix2 n l)
      = if l.val % 64 < 32 then - sB n (l.val % 64) else (0 : EReal) := by
  rw [table_b_lo, twice_apply]
  pointwise []
  split_ifs <;> first | omega | simp [sB, *, Ideal.ofBits, Ideal.ieee]

theorem read_b_hi (c : Dev nD) (n : Fin 17408) (l : Fin 128) :
    (V m c main_v72 : FVec Ideal S17408x128 .f32) (ix2 n l)
      = if l.val % 64 < 32 then (0 : EReal) else sB n (l.val % 64 - 32) := by
  rw [table_b_hi, twice_apply]
  pointwise []
  split_ifs <;> first | omega | simp [sB, *, Ideal.ofBits, Ideal.ieee]

/-- The reference's heads, read off the projected array. -/
theorem row_a (x : FVec Ideal S17408x6144 .f32) (n : Fin 17408) (g : Fin 32) (r : Fin 64) :
    (Cert.RopeRefIdeal.Read.val_main_v12 (F := Ideal) x (ix3 n g r) : EReal) = X x n ((64 * g.val + r.val)) := by
  pointwise [Cert.RopeRefIdeal.Read.val_main_v12, Cert.RopeRefIdeal.Read.val_main_v11, X]
  rw [dif_pos (by omega)]
  congr 2
  simp only [Fin.mk.injEq]
  omega

/-- The reference's lower half of a rotated pair. -/
theorem lo_a (x : FVec Ideal S17408x6144 .f32) (n : Fin 17408) (g : Fin 32) (r : Fin 8) :
    (Cert.RopeRefIdeal.Read.val_main_v35 (F := Ideal) x (ix3 n g r) : EReal)
      = X x n ((64 * g.val + r.val)) * cA n r.val - X x n ((64 * g.val + (8 + r.val))) * sA n r.val := by
  pointwise [Cert.RopeRefIdeal.Read.val_main_v35, Cert.RopeRefIdeal.Read.val_main_v34, Cert.RopeRefIdeal.Read.val_main_v33, Cert.RopeRefIdeal.Read.val_main_v32, Cert.RopeRefIdeal.Read.val_main_v31, Cert.RopeRefIdeal.Read.val_main_v30, Cert.RopeRefIdeal.Read.val_main_v29, Cert.RopeRefIdeal.Read.val_main_v28, Cert.RopeRefIdeal.Read.val_main_v26, cA, sA]
  simp only [row_a]

/-- The reference's upper half of a rotated pair. -/
theorem hi_a (x : FVec Ideal S17408x6144 .f32) (n : Fin 17408) (g : Fin 32) (r : Fin 8) :
    (Cert.RopeRefIdeal.Read.val_main_v40 (F := Ideal) x (ix3 n g r) : EReal)
      = X x n ((64 * g.val + (8 + r.val))) * cA n r.val + X x n ((64 * g.val + r.val)) * sA n r.val := by
  pointwise [Cert.RopeRefIdeal.Read.val_main_v40, Cert.RopeRefIdeal.Read.val_main_v39, Cert.RopeRefIdeal.Read.val_main_v38, Cert.RopeRefIdeal.Read.val_main_v37, Cert.RopeRefIdeal.Read.val_main_v36, Cert.RopeRefIdeal.Read.val_main_v30, Cert.RopeRefIdeal.Read.val_main_v29, Cert.RopeRefIdeal.Read.val_main_v28, Cert.RopeRefIdeal.Read.val_main_v26, cA, sA]
  simp only [row_a]

/-- The reference's heads, read off the projected array. -/
theorem row_b (x : FVec Ideal S17408x6144 .f32) (n : Fin 17408) (g : Fin 16) (r : Fin 64) :
    (Cert.RopeRefIdeal.Read.val_main_v44 (F := Ideal) x (ix3 n g r) : EReal) = X x n (3072 + (64 * g.val + r.val)) := by
  pointwise [Cert.RopeRefIdeal.Read.val_main_v44, Cert.RopeRefIdeal.Read.val_main_v43, X]
  rw [dif_pos (by omega)]
  congr 2
  simp only [Fin.mk.injEq]
  omega

/-- The reference's lower half of a rotated pair. -/
theorem lo_b (x : FVec Ideal S17408x6144 .f32) (n : Fin 17408) (g : Fin 16) (r : Fin 32) :
    (Cert.RopeRefIdeal.Read.val_main_v67 (F := Ideal) x (ix3 n g r) : EReal)
      = X x n (3072 + (64 * g.val + r.val)) * cB n r.val - X x n (3072 + (64 * g.val + (32 + r.val))) * sB n r.val := by
  pointwise [Cert.RopeRefIdeal.Read.val_main_v67, Cert.RopeRefIdeal.Read.val_main_v66, Cert.RopeRefIdeal.Read.val_main_v65, Cert.RopeRefIdeal.Read.val_main_v64, Cert.RopeRefIdeal.Read.val_main_v63, Cert.RopeRefIdeal.Read.val_main_v62, Cert.RopeRefIdeal.Read.val_main_v61, Cert.RopeRefIdeal.Read.val_main_v60, Cert.RopeRefIdeal.Read.val_main_v58, cB, sB]
  simp only [row_b]

/-- The reference's upper half of a rotated pair. -/
theorem hi_b (x : FVec Ideal S17408x6144 .f32) (n : Fin 17408) (g : Fin 16) (r : Fin 32) :
    (Cert.RopeRefIdeal.Read.val_main_v72 (F := Ideal) x (ix3 n g r) : EReal)
      = X x n (3072 + (64 * g.val + (32 + r.val))) * cB n r.val + X x n (3072 + (64 * g.val + r.val)) * sB n r.val := by
  pointwise [Cert.RopeRefIdeal.Read.val_main_v72, Cert.RopeRefIdeal.Read.val_main_v71, Cert.RopeRefIdeal.Read.val_main_v70, Cert.RopeRefIdeal.Read.val_main_v69, Cert.RopeRefIdeal.Read.val_main_v68, Cert.RopeRefIdeal.Read.val_main_v62, Cert.RopeRefIdeal.Read.val_main_v61, Cert.RopeRefIdeal.Read.val_main_v60, Cert.RopeRefIdeal.Read.val_main_v58, cB, sB]
  simp only [row_b]

/-- The reference's lanes that are not rotated. -/
theorem rest_a (x : FVec Ideal S17408x6144 .f32) (n : Fin 17408) (g : Fin 32) (r : Fin 48) :
    (Cert.RopeRefIdeal.Read.val_main_v41 (F := Ideal) x (ix3 n g r) : EReal) = X x n (64 * g.val + (16 + r.val)) := by
  pointwise [Cert.RopeRefIdeal.Read.val_main_v41]
  simp only [row_a]

/-- The reference's rotated heads of the attention at an index. -/
theorem ref_a (x : FVec Ideal S17408x6144 .f32) (n : Fin 17408) (q : Fin 2048) :
    (Cert.RopeRefIdeal.Read.val_main_v79 (F := Ideal) x (ix2 n q) : EReal)
      = if q.val % 64 < 8 then X x n q.val * cA n (q.val % 64) - X x n (q.val + 8) * sA n (q.val % 64)
        else if q.val % 64 < 16 then X x n q.val * cA n (q.val % 64 - 8) + X x n (q.val - 8) * sA n (q.val % 64 - 8)
        else X x n q.val := by
  rw [Cert.RopeRefIdeal.Read.val_main_v79_apply]
  pointwise [Cert.RopeRefIdeal.Read.val_main_v42]
  have h1 : ∀ h, (⟨(n.val * 2048 + q.val) / 2048, h⟩ : Fin 17408) = n := fun h => Fin.ext (by show (n.val * 2048 + q.val) / 2048 = n.val; omega)
  have h2 : (n.val * 2048 + q.val) / 64 % 32 = q.val / 64 := by omega
  have h3 : (n.val * 2048 + q.val) % 64 = q.val % 64 := by omega
  simp only [lo_a, hi_a, rest_a, h1, h2, h3]
  split_ifs with a b b
  · rw [show 64 * (q.val / 64) + q.val % 64 = q.val by omega, show 64 * (q.val / 64) + (8 + q.val % 64) = q.val + 8 by omega]
  · rw [show 64 * (q.val / 64) + (8 + (q.val % 64 - 8)) = q.val by omega, show 64 * (q.val / 64) + (q.val % 64 - 8) = q.val - 8 by omega]
  · omega
  · omega
  · rw [show 64 * (q.val / 64) + (16 + (q.val % 64 - 8 - 8)) = q.val by omega]

/-- The reference's rotated heads of the retention, before the scale, at an index. -/
theorem turn_b (x : FVec Ideal S17408x6144 .f32) (n : Fin 17408) (g : Fin 16) (r : Fin 64) :
    (Cert.RopeRefIdeal.Read.val_main_v74 (F := Ideal) x (ix3 n g r) : EReal)
      = if r.val < 32 then X x n (3072 + (64 * g.val + r.val)) * cB n r.val - X x n (3072 + (64 * g.val + (32 + r.val))) * sB n r.val
        else X x n (3072 + (64 * g.val + r.val)) * cB n (r.val - 32) + X x n (3072 + (64 * g.val + (r.val - 32))) * sB n (r.val - 32) := by
  pointwise [Cert.RopeRefIdeal.Read.val_main_v74]
  simp only [lo_b, hi_b]
  split_ifs with a b
  · rfl
  · rw [show 64 * g.val + (32 + (r.val - 32)) = 64 * g.val + r.val by omega]
  all_goals omega

/-- The turned rows of the retention at a lane. -/
def turned (x : FVec Ideal S17408x6144 .f32) (n : Fin 17408) (q : ℕ) : EReal :=
  if q % 64 < 32 then X x n (3072 + q) * cB n (q % 64) - X x n (3072 + (q + 32)) * sB n (q % 64)
  else X x n (3072 + q) * cB n (q % 64 - 32) + X x n (3072 + (q - 32)) * sB n (q % 64 - 32)

/-- The reference's rotated heads of the retention at an index: the keys are scaled. -/
theorem ref_b (x : FVec Ideal S17408x6144 .f32) (n : Fin 17408) (q : Fin 1024) :
    (Cert.RopeRefIdeal.Read.val_main_v81 (F := Ideal) x (ix2 n q) : EReal)
      = if q.val < 512 then turned x n q.val else turned x n q.val * Ideal.ofBits .f32 0x3E000000#32 := by
  rw [Cert.RopeRefIdeal.Read.val_main_v81_apply]
  pointwise [Cert.RopeRefIdeal.Read.val_main_v80, Cert.RopeRefIdeal.Read.val_main_v78, Cert.RopeRefIdeal.Read.val_main_v77, Cert.RopeRefIdeal.Read.val_main_v76, Cert.RopeRefIdeal.Read.val_main_v75, Cert.RopeRefIdeal.Read.val_main_cst_3]
  have h1 : ∀ h, (⟨(n.val * 1024 + q.val) / 1024, h⟩ : Fin 17408) = n := fun h => Fin.ext (by show (n.val * 1024 + q.val) / 1024 = n.val; omega)
  have h2 : (n.val * 1024 + q.val) / 64 % 16 = q.val / 64 := by omega
  have h3 : (n.val * 1024 + q.val) % 64 = q.val % 64 := by omega
  simp only [turn_b, h1, h2, h3]
  unfold turned
  by_cases hq : q.val < 512
  · rw [dif_pos (by omega), if_pos hq]
    by_cases hr : q.val % 64 < 32
    · rw [if_pos hr, if_pos hr, show 64 * (q.val / 64) + q.val % 64 = q.val by omega, show 64 * (q.val / 64) + (32 + q.val % 64) = q.val + 32 by omega]
    · rw [if_neg hr, if_neg hr, show 64 * (q.val / 64) + q.val % 64 = q.val by omega, show 64 * (q.val / 64) + (q.val % 64 - 32) = q.val - 32 by omega]
  · rw [dif_neg (by omega), if_neg hq, show 8 + (q.val / 64 - 8) = q.val / 64 by omega]
    by_cases hr : q.val % 64 < 32
    · rw [if_pos hr, if_pos hr, show 64 * (q.val / 64) + q.val % 64 = q.val by omega, show 64 * (q.val / 64) + (32 + q.val % 64) = q.val + 32 by omega]
    · rw [if_neg hr, if_neg hr, show 64 * (q.val / 64) + q.val % 64 = q.val by omega, show 64 * (q.val / 64) + (q.val % 64 - 32) = q.val - 32 by omega]

/-- One block's 128 lanes turned as the kernel turns them for the attention. -/
def turnA (c l h x : FVec Ideal S256x128 .f32) : FVec Ideal S256x128 .f32 :=
  addf (addf (mulf x c) (mulf (dynamicRotate 1 120#32 none x rotates_S256x128_d1) l)) (mulf (dynamicRotate 1 8#32 none x rotates_S256x128_d1) h)

/-- One block's 128 lanes turned as the kernel turns them for the retention. -/
def turnB (c l h x : FVec Ideal S256x128 .f32) : FVec Ideal S256x128 .f32 :=
  addf (addf (mulf x c) (mulf (dynamicRotate 1 96#32 none x rotates_S256x128_d1) l)) (mulf (dynamicRotate 1 32#32 none x rotates_S256x128_d1) h)

/-- What the attention's block holds at a lane. -/
def GA (x : FVec Ideal S256x2048 .f32) (c l h : FVec Ideal S256x128 .f32) (y : S256x2048.Idx) : EReal :=
  let k : Fin 128 := ⟨(y 1).val % 128, Nat.mod_lt _ (by decide)⟩
  let b := (y 1).val / 128 * 128
  x y * c (ix2 (y 0) k)
    + x (ix2 (y 0) (⟨b + (k.val + 8) % 128, by have : (y 1).val < 2048 := (y 1).isLt; omega⟩ : Fin 2048)) * l (ix2 (y 0) k)
    + x (ix2 (y 0) (⟨b + (k.val + 120) % 128, by have : (y 1).val < 2048 := (y 1).isLt; omega⟩ : Fin 2048)) * h (ix2 (y 0) k)

/-- What the retention's block holds at a lane, before the scale. -/
def GB (x : FVec Ideal S256x1024 .f32) (c l h : FVec Ideal S256x128 .f32) (y : S256x1024.Idx) : EReal :=
  let k : Fin 128 := ⟨(y 1).val % 128, Nat.mod_lt _ (by decide)⟩
  let b := (y 1).val / 128 * 128
  x y * c (ix2 (y 0) k)
    + x (ix2 (y 0) (⟨b + (k.val + 32) % 128, by have : (y 1).val < 1024 := (y 1).isLt; omega⟩ : Fin 1024)) * l (ix2 (y 0) k)
    + x (ix2 (y 0) (⟨b + (k.val + 96) % 128, by have : (y 1).val < 1024 := (y 1).isLt; omega⟩ : Fin 1024)) * h (ix2 (y 0) k)

/-- A table's block is read whole. -/
theorem whole (x : FVec Ideal S256x128 .f32) : k0_pay1 (F := Ideal) (View.ld x r0_0) = x := by
  funext y
  rw [eq_ix2 y]
  pointwise [k0_pay1]

/-- A stored piece of the attention's block. -/
theorem piece_a (x : FVec Ideal S256x2048 .f32) (c l h : FVec Ideal S256x128 .f32) (o k : ℕ) (ho : o = 128 * k)
    (inb : ∀ a, (![0, o] : Fin 2 → Nat) a + S256x128.size a ≤ S256x2048.size a) (y : S256x128.Idx) :
    turnA c l h (View.ld (Val := Elt Ideal) (e' := .f32) x (Rect.unit (s := S256x2048) ![0, o] S256x128.size inb)) y
      = GA x c l h ((Rect.unit (s := S256x2048) ![0, o] S256x128.size inb).emb y) := by
  rw [eq_ix2 y]
  generalize (y 0 : Fin 256) = a
  generalize (y 1 : Fin 128) = b
  have hi : o + 128 ≤ 2048 := inb 1
  have hl : b.val < 128 := b.isLt
  have hb : o + b.val < 2048 := by omega
  have e : (Rect.unit (s := S256x2048) ![0, o] S256x128.size inb).emb (ix2 a b) = ix2 a (⟨o + b.val, hb⟩ : Fin 2048) :=
    funext fun d => match d with
      | ⟨0, _⟩ => Fin.ext (by show 0 + 1 * a.val = a.val; omega)
      | ⟨1, _⟩ => Fin.ext (by show o + 1 * b.val = o + b.val; omega)
  rw [e]
  pointwise [turnA, GA]
  have f0 : ∀ h, (⟨(o + b.val) % 128, h⟩ : Fin 128) = b := fun h => Fin.ext (by show (o + b.val) % 128 = b.val; omega)
  have f1 : (o + b.val) / 128 * 128 + ((o + b.val) % 128 + 8) % 128 = o + (b.val + 128 - 120) % 128 := by omega
  have f2 : (o + b.val) / 128 * 128 + ((o + b.val) % 128 + 120) % 128 = o + (b.val + 128 - 8) % 128 := by omega
  simp only [f0, f1, f2]

/-- A stored piece of the retention's block. -/
theorem piece_b (x : FVec Ideal S256x1024 .f32) (c l h : FVec Ideal S256x128 .f32) (o k : ℕ) (ho : o = 128 * k)
    (inb : ∀ a, (![0, o] : Fin 2 → Nat) a + S256x128.size a ≤ S256x1024.size a) (y : S256x128.Idx) :
    turnB c l h (View.ld (Val := Elt Ideal) (e' := .f32) x (Rect.unit (s := S256x1024) ![0, o] S256x128.size inb)) y
      = GB x c l h ((Rect.unit (s := S256x1024) ![0, o] S256x128.size inb).emb y) := by
  rw [eq_ix2 y]
  generalize (y 0 : Fin 256) = a
  generalize (y 1 : Fin 128) = b
  have hi : o + 128 ≤ 1024 := inb 1
  have hl : b.val < 128 := b.isLt
  have hb : o + b.val < 1024 := by omega
  have e : (Rect.unit (s := S256x1024) ![0, o] S256x128.size inb).emb (ix2 a b) = ix2 a (⟨o + b.val, hb⟩ : Fin 1024) :=
    funext fun d => match d with
      | ⟨0, _⟩ => Fin.ext (by show 0 + 1 * a.val = a.val; omega)
      | ⟨1, _⟩ => Fin.ext (by show o + 1 * b.val = o + b.val; omega)
  rw [e]
  pointwise [turnB, GB]
  have f0 : ∀ h, (⟨(o + b.val) % 128, h⟩ : Fin 128) = b := fun h => Fin.ext (by show (o + b.val) % 128 = b.val; omega)
  have f1 : (o + b.val) / 128 * 128 + ((o + b.val) % 128 + 32) % 128 = o + (b.val + 128 - 96) % 128 := by omega
  have f2 : (o + b.val) / 128 * 128 + ((o + b.val) % 128 + 96) % 128 = o + (b.val + 128 - 32) % 128 := by omega
  simp only [f0, f1, f2]

/-- A stored piece of the attention's block, its tables read whole. -/
theorem turned_piece_a (x : FVec Ideal S256x2048 .f32) (c l h : FVec Ideal S256x128 .f32) (o k : ℕ) (ho : o = 128 * k)
    (inb : ∀ a, (![0, o] : Fin 2 → Nat) a + S256x128.size a ≤ S256x2048.size a) (y : S256x128.Idx) :
    turnA (k0_pay1 (F := Ideal) (View.ld c r0_0)) (k0_pay2 (F := Ideal) (View.ld l r0_0)) (k0_pay3 (F := Ideal) (View.ld h r0_0))
        (View.ld (Val := Elt Ideal) (e' := .f32) x (Rect.unit (s := S256x2048) ![0, o] S256x128.size inb)) y
      = GA x c l h ((Rect.unit (s := S256x2048) ![0, o] S256x128.size inb).emb y) := by
  rw [show k0_pay2 (F := Ideal) (View.ld l r0_0) = l from whole l, show k0_pay3 (F := Ideal) (View.ld h r0_0) = h from whole h, whole]
  exact piece_a x c l h o k ho inb y

/-- What the retention's block holds at a lane: the keys are scaled. -/
def HB (x : FVec Ideal S256x1024 .f32) (c l h : FVec Ideal S256x128 .f32) (y : S256x1024.Idx) : EReal :=
  if (y 1).val < 512 then GB x c l h y else GB x c l h y * Ideal.ofBits .f32 0x3E000000#32

/-- A stored piece of the retention's queries. -/
theorem turned_piece_b (x : FVec Ideal S256x1024 .f32) (c l h : FVec Ideal S256x128 .f32) (o k : ℕ) (ho : o = 128 * k) (hk : k < 4)
    (inb : ∀ a, (![0, o] : Fin 2 → Nat) a + S256x128.size a ≤ S256x1024.size a) (y : S256x128.Idx) :
    turnB (k0_pay24 (F := Ideal) (View.ld c r0_0)) (k0_pay25 (F := Ideal) (View.ld l r0_0)) (k0_pay26 (F := Ideal) (View.ld h r0_0))
        (View.ld (Val := Elt Ideal) (e' := .f32) x (Rect.unit (s := S256x1024) ![0, o] S256x128.size inb)) y
      = HB x c l h ((Rect.unit (s := S256x1024) ![0, o] S256x128.size inb).emb y) := by
  rw [show k0_pay24 (F := Ideal) (View.ld c r0_0) = c from whole c, show k0_pay25 (F := Ideal) (View.ld l r0_0) = l from whole l, show k0_pay26 (F := Ideal) (View.ld h r0_0) = h from whole h]
  unfold HB
  have hy : (y 1).val < 128 := (y 1).isLt
  rw [if_pos (by show o + 1 * (y 1).val < 512; omega)]
  exact piece_b x c l h o k ho inb y

/-- A stored piece of the retention's keys. -/
theorem scaled_piece_b (x : FVec Ideal S256x1024 .f32) (c l h : FVec Ideal S256x128 .f32) (o k : ℕ) (ho : o = 128 * k) (hk : 4 ≤ k)
    (inb : ∀ a, (![0, o] : Fin 2 → Nat) a + S256x128.size a ≤ S256x1024.size a) (y : S256x128.Idx) :
    mulf (turnB (k0_pay24 (F := Ideal) (View.ld c r0_0)) (k0_pay25 (F := Ideal) (View.ld l r0_0)) (k0_pay26 (F := Ideal) (View.ld h r0_0))
        (View.ld (Val := Elt Ideal) (e' := .f32) x (Rect.unit (s := S256x1024) ![0, o] S256x128.size inb)))
        (broadcast S256x128 (Scalar.ofBits (F := Ideal) .f32 0x3E000000#32)) y
      = HB x c l h ((Rect.unit (s := S256x1024) ![0, o] S256x128.size inb).emb y) := by
  rw [show k0_pay24 (F := Ideal) (View.ld c r0_0) = c from whole c, show k0_pay25 (F := Ideal) (View.ld l r0_0) = l from whole l, show k0_pay26 (F := Ideal) (View.ld h r0_0) = h from whole h]
  unfold HB
  rw [if_neg (by show ¬ o + 1 * (y 1).val < 512; omega)]
  exact congrArg (· * Ideal.ofBits .f32 0x3E000000#32) (piece_b x c l h o k ho inb y)

/-- The attention's block after a point. -/
theorem out_a (x0 : FVec Ideal S256x2048 .f32) (x1 : FVec Ideal S256x1024 .f32) (x2 x3 x4 x5 x6 x7 : FVec Ideal S256x128 .f32) (y : S256x2048.Idx) :
    out0_8 (F := Ideal) x0 x1 x2 x3 x4 x5 x6 x7 y = GA x0 x2 x3 x4 y := by
  unfold_out out0_8
  refine View.canon_apply_of_pieces (Val := Elt Ideal) (e := .f32) (GA x0 x2 x3 x4) _ ?_ y (cover0_8 _ _ _ _ _ _ _ _ _ _ _ _ _ _ _ _ y)
  intro p hp z
  simp only [List.mem_cons, List.not_mem_nil, or_false] at hp
  rcases hp with rfl | rfl | rfl | rfl | rfl | rfl | rfl | rfl | rfl | rfl | rfl | rfl | rfl | rfl | rfl | rfl
  · exact turned_piece_a x0 x2 x3 x4 1920 15 rfl _ z
  · exact turned_piece_a x0 x2 x3 x4 1792 14 rfl _ z
  · exact turned_piece_a x0 x2 x3 x4 1664 13 rfl _ z
  · exact turned_piece_a x0 x2 x3 x4 1536 12 rfl _ z
  · exact turned_piece_a x0 x2 x3 x4 1408 11 rfl _ z
  · exact turned_piece_a x0 x2 x3 x4 1280 10 rfl _ z
  · exact turned_piece_a x0 x2 x3 x4 1152 9 rfl _ z
  · exact turned_piece_a x0 x2 x3 x4 1024 8 rfl _ z
  · exact turned_piece_a x0 x2 x3 x4 896 7 rfl _ z
  · exact turned_piece_a x0 x2 x3 x4 768 6 rfl _ z
  · exact turned_piece_a x0 x2 x3 x4 640 5 rfl _ z
  · exact turned_piece_a x0 x2 x3 x4 512 4 rfl _ z
  · exact turned_piece_a x0 x2 x3 x4 384 3 rfl _ z
  · exact turned_piece_a x0 x2 x3 x4 256 2 rfl _ z
  · exact turned_piece_a x0 x2 x3 x4 128 1 rfl _ z
  · exact turned_piece_a x0 x2 x3 x4 0 0 rfl _ z

/-- The retention's block after a point. -/
theorem out_b (x0 : FVec Ideal S256x2048 .f32) (x1 : FVec Ideal S256x1024 .f32) (x2 x3 x4 x5 x6 x7 : FVec Ideal S256x128 .f32) (y : S256x1024.Idx) :
    out0_9 (F := Ideal) x0 x1 x2 x3 x4 x5 x6 x7 y = HB x1 x5 x6 x7 y := by
  unfold_out out0_9
  refine View.canon_apply_of_pieces (Val := Elt Ideal) (e := .f32) (HB x1 x5 x6 x7) _ ?_ y (cover0_9 _ _ _ _ _ _ _ _ y)
  intro p hp z
  simp only [List.mem_cons, List.not_mem_nil, or_false] at hp
  rcases hp with rfl | rfl | rfl | rfl | rfl | rfl | rfl | rfl
  · exact scaled_piece_b x1 x5 x6 x7 896 7 rfl (by decide) _ z
  · exact scaled_piece_b x1 x5 x6 x7 768 6 rfl (by decide) _ z
  · exact scaled_piece_b x1 x5 x6 x7 640 5 rfl (by decide) _ z
  · exact scaled_piece_b x1 x5 x6 x7 512 4 rfl (by decide) _ z
  · exact turned_piece_b x1 x5 x6 x7 384 3 rfl (by decide) _ z
  · exact turned_piece_b x1 x5 x6 x7 256 2 rfl (by decide) _ z
  · exact turned_piece_b x1 x5 x6 x7 128 1 rfl (by decide) _ z
  · exact turned_piece_b x1 x5 x6 x7 0 0 rfl (by decide) _ z

/-- Which block each window holds at a grid point. -/
theorem idx : ∀ t : Fin cfg0.N, win0_0.index t = ![t.val, 0] ∧ win0_1.index t = ![t.val, 3]
    ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

theorem row_lt (t : Fin cfg0.N) (a : Fin 256) : t.val * 256 + a.val < 17408 := by
  have ht := t.isLt
  change t.val < 68 at ht
  omega

/-- The row of the array that a point's block has its row `a` from. -/
def rowOf (t : Fin cfg0.N) (a : Fin 256) : Fin 17408 := ⟨t.val * 256 + a.val, row_lt t a⟩

/-- The projected array. -/
abbrev arr (c : Dev nD) : FVec Ideal S17408x6144 .f32 := m ((c : Thread nD τ).loc main_arg0)

theorem blk_0 (c : Dev nD) (t : Fin cfg0.N) (a : Fin 256) (q : Fin 2048) :
    (iblk m c 0 t (ix2 a q) : EReal) = X (arr m c) (rowOf t a) q.val := by
  obtain ⟨e0, e1, e2, e3, e4, e5, e6, e7, e8, e9⟩ := idx t
  unfold X
  rw [dif_pos (by omega)]
  blk_simp [iblk]
  rw [V_main_arg0]
  blk_ext [e0, rowOf]

theorem blk_1 (c : Dev nD) (t : Fin cfg0.N) (a : Fin 256) (q : Fin 1024) :
    (iblk m c 1 t (ix2 a q) : EReal) = X (arr m c) (rowOf t a) (3072 + q.val) := by
  obtain ⟨e0, e1, e2, e3, e4, e5, e6, e7, e8, e9⟩ := idx t
  unfold X
  rw [dif_pos (by omega)]
  blk_simp [iblk]
  rw [V_main_arg0]
  blk_ext [e1, rowOf]

theorem blk_2 (c : Dev nD) (t : Fin cfg0.N) (a : Fin 256) (l : Fin 128) :
    (iblk m c 2 t (ix2 a l) : EReal) = (V m c main_v35 : FVec Ideal S17408x128 .f32) (ix2 (rowOf t a) l) := by
  obtain ⟨e0, e1, e2, e3, e4, e5, e6, e7, e8, e9⟩ := idx t
  blk_simp [iblk]
  blk_ext [e2, rowOf]

theorem blk_3 (c : Dev nD) (t : Fin cfg0.N) (a : Fin 256) (l : Fin 128) :
    (iblk m c 3 t (ix2 a l) : EReal) = (V m c main_v38 : FVec Ideal S17408x128 .f32) (ix2 (rowOf t a) l) := by
  obtain ⟨e0, e1, e2, e3, e4, e5, e6, e7, e8, e9⟩ := idx t
  blk_simp [iblk]
  blk_ext [e3, rowOf]

theorem blk_4 (c : Dev nD) (t : Fin cfg0.N) (a : Fin 256) (l : Fin 128) :
    (iblk m c 4 t (ix2 a l) : EReal) = (V m c main_v41 : FVec Ideal S17408x128 .f32) (ix2 (rowOf t a) l) := by
  obtain ⟨e0, e1, e2, e3, e4, e5, e6, e7, e8, e9⟩ := idx t
  blk_simp [iblk]
  blk_ext [e4, rowOf]

theorem blk_5 (c : Dev nD) (t : Fin cfg0.N) (a : Fin 256) (l : Fin 128) :
    (iblk m c 5 t (ix2 a l) : EReal) = (V m c main_v66 : FVec Ideal S17408x128 .f32) (ix2 (rowOf t a) l) := by
  obtain ⟨e0, e1, e2, e3, e4, e5, e6, e7, e8, e9⟩ := idx t
  blk_simp [iblk]
  blk_ext [e5, rowOf]

theorem blk_6 (c : Dev nD) (t : Fin cfg0.N) (a : Fin 256) (l : Fin 128) :
    (iblk m c 6 t (ix2 a l) : EReal) = (V m c main_v69 : FVec Ideal S17408x128 .f32) (ix2 (rowOf t a) l) := by
  obtain ⟨e0, e1, e2, e3, e4, e5, e6, e7, e8, e9⟩ := idx t
  blk_simp [iblk]
  blk_ext [e6, rowOf]

theorem blk_7 (c : Dev nD) (t : Fin cfg0.N) (a : Fin 256) (l : Fin 128) :
    (iblk m c 7 t (ix2 a l) : EReal) = (V m c main_v72 : FVec Ideal S17408x128 .f32) (ix2 (rowOf t a) l) := by
  obtain ⟨e0, e1, e2, e3, e4, e5, e6, e7, e8, e9⟩ := idx t
  blk_simp [iblk]
  blk_ext [e7, rowOf]

/-- The rotated heads of the attention as the reference states them. -/
abbrev want_a (c : Dev nD) : (⟨S17408x2048, .f32⟩ : BufTy).Contents (Elt Ideal) :=
  Cert.RopeRefIdeal.Read.val_main_v79 (F := Ideal) (arr m c)

/-- The rotated heads of the retention as the reference states them. -/
abbrev want_b (c : Dev nD) : (⟨S17408x1024, .f32⟩ : BufTy).Contents (Elt Ideal) :=
  Cert.RopeRefIdeal.Read.val_main_v81 (F := Ideal) (arr m c)

/-- One element of a point's block of the attention is the reference's. -/
theorem point_a (c : Dev nD) (t : Fin cfg0.N) (a : Fin 256) (q : Fin 2048) :
    GA (iblk m c 0 t) (iblk m c 2 t) (iblk m c 3 t) (iblk m c 4 t) (ix2 a q) = want_a m c (ix2 (rowOf t a) q) := by
  unfold want_a
  rw [ref_a]
  unfold GA
  dsimp only [ix2_0, ix2_1]
  rw [blk_0, blk_0, blk_0, blk_2, blk_3, blk_4, read_a_cos, read_a_lo, read_a_hi]
  dsimp only
  rw [show q.val % 128 % 64 = q.val % 64 by omega]
  by_cases h : q.val % 64 < 8
  · simp only [if_pos h]
    rw [show q.val / 128 * 128 + (q.val % 128 + 8) % 128 = q.val + 8 by omega, mul_zero, add_zero, mul_neg, sub_eq_add_neg]
  · by_cases h' : q.val % 64 < 16
    · simp only [if_neg h, if_pos h']
      rw [show q.val / 128 * 128 + (q.val % 128 + 120) % 128 = q.val - 8 by omega, mul_zero, add_zero]
    · simp only [if_neg h, if_neg h']
      rw [mul_zero, mul_zero, add_zero, add_zero, mul_one]

/-- One element of a point's block of the retention is the reference's, before the scale. -/
theorem turned_point (c : Dev nD) (t : Fin cfg0.N) (a : Fin 256) (q : Fin 1024) :
    GB (iblk m c 1 t) (iblk m c 5 t) (iblk m c 6 t) (iblk m c 7 t) (ix2 a q) = turned (arr m c) (rowOf t a) q.val := by
  unfold GB turned
  dsimp only [ix2_0, ix2_1]
  rw [blk_1, blk_1, blk_1, blk_5, blk_6, blk_7, read_b_cos, read_b_lo, read_b_hi]
  dsimp only
  rw [show q.val % 128 % 64 = q.val % 64 by omega]
  by_cases h : q.val % 64 < 32
  · simp only [if_pos h]
    rw [show q.val / 128 * 128 + (q.val % 128 + 32) % 128 = q.val + 32 by omega, mul_zero, add_zero, mul_neg, sub_eq_add_neg]
  · simp only [if_neg h]
    rw [show q.val / 128 * 128 + (q.val % 128 + 96) % 128 = q.val - 32 by omega, mul_zero, add_zero]

/-- One element of a point's block of the retention is the reference's. -/
theorem point_b (c : Dev nD) (t : Fin cfg0.N) (a : Fin 256) (q : Fin 1024) :
    HB (iblk m c 1 t) (iblk m c 5 t) (iblk m c 6 t) (iblk m c 7 t) (ix2 a q) = want_b m c (ix2 (rowOf t a) q) := by
  unfold want_b
  rw [ref_b]
  unfold HB
  rw [turned_point, ix2_1]

/-- The attention's array after the run is the reference's. -/
theorem final_a (c : Dev nD) : (dats m 0 c).arrAt 8 cfg0.N = want_a m c := by
  refine (dats m 0 c).arrAt_eq_of_covers 8 _ (by decide +kernel) fun t _ y => ?_
  obtain ⟨e0, e1, e2, e3, e4, e5, e6, e7, e8, e9⟩ := idx t
  blk_simp
  rw [after0_8, out_a]
  refine (congrArg _ (eq_ix2 y)).trans ((point_a m c t (y 0) (y 1)).trans (congrArg (want_a m c) ?_))
  blk_ext [e8, rowOf]

/-- The retention's array after the run is the reference's. -/
theorem final_b (c : Dev nD) : (dats m 0 c).arrAt 9 cfg0.N = want_b m c := by
  refine (dats m 0 c).arrAt_eq_of_covers 9 _ (by decide +kernel) fun t _ y => ?_
  obtain ⟨e0, e1, e2, e3, e4, e5, e6, e7, e8, e9⟩ := idx t
  blk_simp
  rw [after0_9, out_b]
  refine (congrArg _ (eq_ix2 y)).trans ((point_b m c t (y 0) (y 1)).trans (congrArg (want_b m c) ?_))
  blk_ext [e9, rowOf]

/-- From the same projected array the kernel and the reference return the same two rotated arrays, over the extended reals. -/
theorem algebraic : Cert.algebraic_RopeIdeal_RopeRefIdeal := by
  pair_intro
  · run_from Value.run_blocks m g
  · run_from Cert.RopeRefIdeal.Value.run m' g'
    · rw [Cert.RopeRefIdeal.Read.val_main_v79_eq, hagree c]
      exact (final_a m c).symm
    · rw [Cert.RopeRefIdeal.Read.val_main_v81_eq, hagree c]
      exact (final_b m c).symm

end Cert.RopeValue

end
-- ==== Proof.PreMath.lean ====
module

public import Idealize.ShloMosaic.Lib.KernelVsHost
public import Idealize.ShloMosaic.Lib.Pipeline.ValueKit
public import Idealize.ShloMosaic.Lib.Pointwise
public import Idealize.ShloMosaic.Lib.Claim

@[expose] public section

set_option maxRecDepth 16384

noncomputable section

namespace Cert.PreMath

open Idealize.ShloMosaic Idealize.ShloMosaic.TcCoe Idealize.SL.Sem

/-- A sum of products over 384 lanes in which the second factors vanish outside a window is the sum over the window. -/
theorem window_sum {n : ℕ} (lo : ℕ) (h : lo + n ≤ 384) (g W : Fin 384 → EReal)
    (hz : ∀ j : Fin 384, ¬(lo ≤ j.val ∧ j.val < lo + n) → W j = 0) :
    ∑ j, g j * W j = ∑ j : Fin n, g ⟨lo + j.val, by omega⟩ * W ⟨lo + j.val, by omega⟩ := by
  symm
  refine Fintype.sum_of_injective (fun j : Fin n => (⟨lo + j.val, by omega⟩ : Fin 384)) ?_ _ _ ?_ ?_
  · intro i j hij
    have := congrArg Fin.val hij
    simp only at this
    exact Fin.ext (by omega)
  · intro j hj
    refine (congrArg (g j * ·) (hz j fun hl => hj ⟨⟨j.val - lo, by omega⟩, Fin.ext ?_⟩)).trans (mul_zero _)
    show lo + (j.val - lo) = j.val
    omega
  · intro j
    rfl

/-- The softplus of a number. -/
def softplus (z : EReal) : EReal :=
  max z 0 + Ideal.log1p (Ideal.exp (-(FloatOps.absf (F := Ideal) (φ := .f32) z : EReal)))

/-- The logarithm of the decay: a mixed row `x`, the offset and a column of the decay's matrix. -/
def logDecay (x : Fin 3360 → EReal) (w0 : EReal) (w2 : Fin 64 → EReal) : EReal :=
  -Ideal.exp (-softplus (-(w0 + ∑ j : Fin 64, Ideal.tanh (x ⟨3072 + j.val, by omega⟩) * w2 j)) - Ideal.ofBits .f32 0x3F000000#32)

/-- The key: a mixed row `x`, a lane, the rate's offset and column, and the key's factor. -/
def key (x : Fin 3360 → EReal) (q : Fin 1024) (a0 : EReal) (a2 : Fin 64 → EReal) (ka : EReal) : EReal :=
  x ⟨1024 + q.val, by omega⟩ * (1 + (Ideal.div 1 (1 + Ideal.exp (-(a0 + ∑ j : Fin 64, x ⟨3136 + j.val, by omega⟩ * a2 j))) - 1) * ka)

/-- The gate: a mixed row `x` and a column of the gate's matrix. -/
def gate (x : Fin 3360 → EReal) (g2 : Fin 160 → EReal) : EReal :=
  ∑ j : Fin 160, Ideal.div 1 (1 + Ideal.exp (-x ⟨3200 + j.val, by omega⟩)) * g2 j

end Cert.PreMath
-- ==== Proof.PreRefs.lean ====
module

public import proofs.«01_k».proof.Proof.Gen.PreRefIdeal.Read
public import proofs.«01_k».proof.Proof.PreMath
public import Idealize.ShloMosaic.Lib.Pipeline.ValueKit
public import Idealize.ShloMosaic.Lib.Pointwise
public import Idealize.ShloMosaic.Lib.Claim

@[expose] public section

set_option maxRecDepth 16384

noncomputable section

namespace Cert.PreRefMath

open Cert.PreRefIdeal Cert.PreRefIdeal.Gen Idealize.ShloMosaic Idealize.ShloMosaic.TcCoe Idealize.SL.Sem Cert.PreRefIdeal.Read Cert.PreMath

/-- The mixed row: the projected row, moved by the factor towards the row before it. -/
def mix (x0 : FVec Ideal S17408x3456 .f32) (x1 : FVec Ideal S32x1x3360 .f32) (x2 : FVec Ideal S3360 .f32)
    (n a : Fin 32) (q : Fin 3360) : EReal :=
  x0 (ix2 (⟨16384 + (n.val * 32 + a.val), by omega⟩ : Fin 17408) (⟨q.val, by omega⟩ : Fin 3456))
    + x2 (ix1 q) * ((if a.val = 0 then x1 (ix3 n (0 : Fin 1) q)
        else x0 (ix2 (⟨16384 + (n.val * 32 + (a.val - 1)), by omega⟩ : Fin 17408) (⟨q.val, by omega⟩ : Fin 3456)))
      - x0 (ix2 (⟨16384 + (n.val * 32 + a.val), by omega⟩ : Fin 17408) (⟨q.val, by omega⟩ : Fin 3456)))

/-- The reference's mixed rows. -/
theorem ref_mix (x0 : FVec Ideal S17408x3456 .f32) (x1 : FVec Ideal S32x1x3360 .f32) (x2 : FVec Ideal S3360 .f32)
    (n a : Fin 32) (q : Fin 3360) :
    val_main_v9 (F := Ideal) x0 x1 x2 (ix3 n a q) = mix x0 x1 x2 n a q := by
  pointwise [val_main_v9, val_main_v8, val_main_v7, val_main_v6, val_main_v5, val_main_v4, val_main_v3, val_main_v2,
    val_main_v1, val_main_v0, mix]
  refine congrArg (fun z => x0 _ + x2 _ * (z - x0 _)) ?_
  by_cases h : a.val = 0
  · rw [dif_pos (by omega), if_pos h]
    exact congrArg (fun z => x1 (ix3 n z q)) (Fin.ext h)
  · rw [dif_neg (by omega), if_neg h]

/-- The reference's receptance. -/
theorem ref_r (x0 : FVec Ideal S17408x3456 .f32) (x1 : FVec Ideal S32x1x3360 .f32) (x2 : FVec Ideal S3360 .f32)
    (a : Fin 1024) (q : Fin 1024) :
    val_main_v53 (F := Ideal) x0 x1 x2 (ix2 a q)
      = mix x0 x1 x2 ⟨a.val / 32, by omega⟩ ⟨a.val % 32, by omega⟩ ⟨q.val, by omega⟩ := by
  have h := ref_mix x0 x1 x2
  pointwise [val_main_v53, val_main_v10]
  simp only [h]

/-- The reference's value. -/
theorem ref_v (x0 : FVec Ideal S17408x3456 .f32) (x1 : FVec Ideal S32x1x3360 .f32) (x2 : FVec Ideal S3360 .f32)
    (a : Fin 1024) (q : Fin 1024) :
    val_main_v56 (F := Ideal) x0 x1 x2 (ix2 a q)
      = mix x0 x1 x2 ⟨a.val / 32, by omega⟩ ⟨a.val % 32, by omega⟩ ⟨2048 + q.val, by omega⟩ := by
  have h := ref_mix x0 x1 x2
  pointwise [val_main_v56, val_main_v12]
  simp only [h]

/-- The reference's logarithm of the decay. -/
theorem ref_lw (x0 : FVec Ideal S17408x3456 .f32) (x1 : FVec Ideal S32x1x3360 .f32) (x2 : FVec Ideal S3360 .f32)
    (x3 : FVec Ideal S1024 .f32) (x8 : FVec Ideal S64x1024 .f32) (a : Fin 1024) (q : Fin 1024) :
    val_main_v54 (F := Ideal) x0 x1 x2 x3 x8 (ix2 a q)
      = logDecay (mix x0 x1 x2 ⟨a.val / 32, by omega⟩ ⟨a.val % 32, by omega⟩) (x3 (ix1 q)) (fun j => x8 (ix2 j q)) := by
  have h := ref_mix x0 x1 x2
  pointwise [val_main_v54, val_main_v27, val_main_v26, val_main_v25, val_main_v24, val_main_v23, val_main_v22, val_main_v21,
    val_main_v20, val_main_v19, val_main_v18, val_main_v17, val_main_v16, val_main_v13, val_main_call0_v0,
    val_main_call0_v1, val_main_call0_v2, val_main_call0_v3, val_main_call0_v4, val_main_call0_v5, val_main_call0_v6,
    val_main_call0_v7, val_main_call0_v8, val_main_call0_v9, val_main_call0_v10, val_main_call0_v11, val_main_cst,
    val_main_call0_cst]
  simp only [h, ne_eq, not_true_eq_false, if_false]
  rfl

/-- The reference's key. -/
theorem ref_k (x0 : FVec Ideal S17408x3456 .f32) (x1 : FVec Ideal S32x1x3360 .f32) (x2 : FVec Ideal S3360 .f32)
    (x4 : FVec Ideal S1024 .f32) (x6 : FVec Ideal S1024 .f32) (x9 : FVec Ideal S64x1024 .f32) (a : Fin 1024) (q : Fin 1024) :
    val_main_v55 (F := Ideal) x0 x1 x2 x4 x6 x9 (ix2 a q)
      = key (mix x0 x1 x2 ⟨a.val / 32, by omega⟩ ⟨a.val % 32, by omega⟩) q (x4 (ix1 q)) (fun j => x9 (ix2 j q)) (x6 (ix1 q)) := by
  have h := ref_mix x0 x1 x2
  pointwise [val_main_v55, val_main_v52, val_main_v51, val_main_v50, val_main_v49, val_main_v48, val_main_v47, val_main_v46,
    val_main_v45, val_main_v37, val_main_v36, val_main_v35, val_main_v34, val_main_v33, val_main_v32, val_main_v31,
    val_main_v30, val_main_v29, val_main_v28, val_main_v14, val_main_v11, val_main_cst_0, val_main_cst_1, val_main_cst_4,
    val_main_cst_5]
  simp only [h]
  rfl

/-- The reference's gate. -/
theorem ref_g (x0 : FVec Ideal S17408x3456 .f32) (x1 : FVec Ideal S32x1x3360 .f32) (x2 : FVec Ideal S3360 .f32)
    (x10 : FVec Ideal S160x1024 .f32) (a : Fin 1024) (q : Fin 1024) :
    val_main_v57 (F := Ideal) x0 x1 x2 x10 (ix2 a q)
      = gate (mix x0 x1 x2 ⟨a.val / 32, by omega⟩ ⟨a.val % 32, by omega⟩) (fun j => x10 (ix2 j q)) := by
  have h := ref_mix x0 x1 x2
  pointwise [val_main_v57, val_main_v44, val_main_v43, val_main_v42, val_main_v41, val_main_v40, val_main_v39, val_main_v38,
    val_main_v15, val_main_cst_2, val_main_cst_3]
  simp only [h]
  rfl

/-- The reference's last row. -/
theorem ref_last (x0 : FVec Ideal S17408x3456 .f32) (n : Fin 32) (o : Fin 1) (q : Fin 3456) :
    val_main_v58 (F := Ideal) x0 (ix3 n o q) = x0 (ix2 (⟨16384 + (n.val * 32 + 31), by omega⟩ : Fin 17408) q) := by
  obtain ⟨o, ho⟩ := o
  obtain rfl : o = 0 := by omega
  pointwise [val_main_v58, val_main_v1, val_main_v0]

end Cert.PreRefMath
-- ==== Proof.PreKernel.lean ====
module

public import proofs.«01_k».proof.Proof.Gen.PreIdeal.Skeleton
public import proofs.«01_k».proof.Proof.PreMath
public import Idealize.ShloMosaic.Lib.Pipeline.ValueKit
public import Idealize.ShloMosaic.Lib.Pointwise
public import Idealize.ShloMosaic.Lib.Claim

@[expose] public section

set_option maxRecDepth 16384

noncomputable section

namespace Cert.PreKernel

open Cert.PreIdeal Cert.PreIdeal.Gen Idealize.ShloMosaic Idealize.ShloMosaic.TcCoe Idealize.SL.Sem Cert.PreMath

/-- Zero minus a number. -/
theorem sub_zero_neg (z : EReal) : (0 : EReal) - z = -z := zero_sub z

/-- The kernel's mixed rows, from a block, the row before it and the factors. -/
theorem ker_mix (x : FVec Ideal S32x3456 .f32) (p u : FVec Ideal S1x3456 .f32) (a : Fin 32) (q : Fin 3456) :
    k0_pay4 (F := Ideal) x p u (ix2 a q)
      = x (ix2 a q) + u (ix2 (0 : Fin 1) q) * ((if a.val = 0 then p (ix2 (0 : Fin 1) q)
          else x (ix2 (⟨a.val - 1, by omega⟩ : Fin 32) q)) - x (ix2 a q)) := by
  pointwise [k0_pay4]
  refine congrArg (fun z => x (ix2 a q) + u (ix2 0 q) * (z - x (ix2 a q))) ?_
  by_cases h : a.val = 0
  · rw [if_pos h]
    have hb : ∀ b : Fin 32, b.val = 0 → IntOp.cmpi CmpIPredicate.eq (BitVec.ofNat 32 b.val) 0#32 = 1 := by decide +kernel
    exact if_pos (hb a h)
  · rw [if_neg h]
    refine (if_neg (c := IntOp.cmpi CmpIPredicate.eq (BitVec.ofNat 32 a.val) 0#32 = 1) ?_).trans ?_
    · have hb : ∀ b : Fin 32, b.val ≠ 0 → IntOp.cmpi CmpIPredicate.eq (BitVec.ofNat 32 b.val) 0#32 ≠ 1 := by decide +kernel
      exact hb a h
    · exact congrArg (fun z => x (ix2 z q)) (Fin.ext (by show (a.val + 32 - 1) % 32 = a.val - 1; omega))

/-- The kernel's logarithm of the decay, its matrix zero from row 64 on. -/
theorem ker_lw (x : FVec Ideal S32x3456 .f32) (p u : FVec Ideal S1x3456 .f32) (w0 : FVec Ideal S1x1024 .f32)
    (w2 : FVec Ideal S384x1024 .bf16) (a : Fin 32) (q : Fin 1024)
    (hz : ∀ j : Fin 384, ¬(0 ≤ j.val ∧ j.val < 0 + 64) → w2 (ix2 j q) = (0 : EReal)) :
    k0_pay56 (F := Ideal) (k0_pay12 (k0_pay9 w0) (k0_pay10 x p u) (k0_pay11 w2)) (ix2 a q)
      = logDecay (fun j => k0_pay4 (F := Ideal) x p u (ix2 a (⟨j.val, by omega⟩ : Fin 3456))) (w0 (ix2 (0 : Fin 1) q))
          (fun j => w2 (ix2 (⟨0 + j.val, by omega⟩ : Fin 384) q)) := by
  pointwise [k0_pay56, k0_pay12, k0_pay9, k0_pay10, k0_pay11, k0_pay8]
  simp only [sub_zero_neg]
  rw [window_sum 0 (by omega) (fun j : Fin 384 => Ideal.tanh (k0_pay4 (F := Ideal) x p u (ix2 a (⟨3072 + j.val, by omega⟩ : Fin 3456))))
    (fun j => w2 (ix2 j q)) hz]
  simp only [Nat.zero_add]
  rfl

/-- The kernel's key, its matrix zero outside rows 64 to 127. -/
theorem ker_k (x : FVec Ideal S32x3456 .f32) (p u : FVec Ideal S1x3456 .f32) (a0 ka : FVec Ideal S1x1024 .f32)
    (a2 : FVec Ideal S384x1024 .bf16) (a : Fin 32) (q : Fin 1024)
    (hz : ∀ j : Fin 384, ¬(64 ≤ j.val ∧ j.val < 64 + 64) → a2 (ix2 j q) = (0 : EReal)) :
    k0_pay17 (F := Ideal) (k0_pay6 x p u) (k0_pay13 (k0_pay8 x p u) a0 a2) ka (ix2 a q)
      = key (fun j => k0_pay4 (F := Ideal) x p u (ix2 a (⟨j.val, by omega⟩ : Fin 3456))) q (a0 (ix2 (0 : Fin 1) q))
          (fun j => a2 (ix2 (⟨64 + j.val, by omega⟩ : Fin 384) q)) (ka (ix2 (0 : Fin 1) q)) := by
  pointwise [k0_pay17, k0_pay13, k0_pay6, k0_pay8]
  simp only [sub_zero_neg]
  rw [window_sum 64 (by omega) (fun j : Fin 384 => k0_pay4 (F := Ideal) x p u (ix2 a (⟨3072 + j.val, by omega⟩ : Fin 3456)))
    (fun j => a2 (ix2 j q)) hz]
  have e : ∀ (j : Fin 64) h, (⟨3072 + (64 + j.val), h⟩ : Fin 3456) = ⟨3136 + j.val, by omega⟩ := fun j h => Fin.ext (by show 3072 + (64 + j.val) = 3136 + j.val; omega)
  simp only [e]
  rfl

/-- The kernel's gate, its matrix zero outside rows 128 to 287. -/
theorem ker_g (x : FVec Ideal S32x3456 .f32) (p u : FVec Ideal S1x3456 .f32) (g2 : FVec Ideal S384x1024 .bf16)
    (a : Fin 32) (q : Fin 1024)
    (hz : ∀ j : Fin 384, ¬(128 ≤ j.val ∧ j.val < 128 + 160) → g2 (ix2 j q) = (0 : EReal)) :
    k0_pay15 (F := Ideal) (k0_pay14 (k0_pay8 x p u)) g2 (ix2 a q)
      = gate (fun j => k0_pay4 (F := Ideal) x p u (ix2 a (⟨j.val, by omega⟩ : Fin 3456)))
          (fun j => g2 (ix2 (⟨128 + j.val, by omega⟩ : Fin 384) q)) := by
  pointwise [k0_pay15, k0_pay14, k0_pay8]
  simp only [sub_zero_neg]
  rw [window_sum 128 (by omega) (fun j : Fin 384 => Ideal.div 1 (1 + Ideal.exp (-k0_pay4 (F := Ideal) x p u (ix2 a (⟨3072 + j.val, by omega⟩ : Fin 3456)))))
    (fun j => g2 (ix2 j q)) hz]
  have e : ∀ (j : Fin 160) h, (⟨3072 + (128 + j.val), h⟩ : Fin 3456) = ⟨3200 + j.val, by omega⟩ := fun j h => Fin.ext (by show 3072 + (128 + j.val) = 3200 + j.val; omega)
  simp only [e]
  rfl

/-- The kernel's receptance. -/
theorem ker_r (x : FVec Ideal S32x3456 .f32) (p u : FVec Ideal S1x3456 .f32) (a : Fin 32) (q : Fin 1024) :
    k0_pay5 (F := Ideal) x p u (ix2 a q) = k0_pay4 (F := Ideal) x p u (ix2 a (⟨q.val, by omega⟩ : Fin 3456)) := by
  pointwise [k0_pay5]

/-- The kernel's value. -/
theorem ker_v (x : FVec Ideal S32x3456 .f32) (p u : FVec Ideal S1x3456 .f32) (a : Fin 32) (q : Fin 1024) :
    k0_pay7 (F := Ideal) x p u (ix2 a q) = k0_pay4 (F := Ideal) x p u (ix2 a (⟨2048 + q.val, by omega⟩ : Fin 3456)) := by
  pointwise [k0_pay7]

/-- The kernel's last row. -/
theorem ker_last (x : FVec Ideal S32x3456 .f32) (o o' : Fin 1) (q : Fin 3456) :
    k0_pay3 (F := Ideal) x (ix3 o o' q) = x (ix2 (31 : Fin 32) q) := by
  pointwise [k0_pay3]

/-- The row before a sample's first. -/
theorem ker_prev (x : FVec Ideal S1x1x3456 .f32) (q : Fin 3456) :
    k0_pay1 (F := Ideal) x (ix2 (0 : Fin 1) q) = x (ix3 (0 : Fin 1) (0 : Fin 1) q) := by
  pointwise [k0_pay1]

end Cert.PreKernel
-- ==== Proof.Pre.lean ====
module

public import proofs.«01_k».proof.Proof.Gen.PreIdeal.Value
public import proofs.«01_k».proof.Proof.Gen.PreRefIdeal.Read
public import proofs.«01_k».proof.Proof.Gen.PreRefIdeal.Run
public import proofs.«01_k».proof.Proof.PreRefs
public import proofs.«01_k».proof.Proof.PreKernel
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.PreValue

open Cert.PreIdeal Cert.PreIdeal.Gen Idealize.ShloMosaic Idealize.ShloMosaic.TcCoe Idealize.SL.Sem
open Idealize.ShloMosaic.Pipeline (Dat)
open Cert.PreMath Cert.PreKernel Cert.PreRefMath

variable (m : (ℓ : Loc nD τ sig) → Buf (Elt Ideal) ℓ)

/-- The projected rows. -/
abbrev A0 (c : Dev nD) : FVec Ideal S17408x3456 .f32 := m ((c : Thread nD τ).loc main_arg0)

/-- The samples' state of the shift. -/
abbrev A1 (c : Dev nD) : FVec Ideal S32x1x3360 .f32 := m ((c : Thread nD τ).loc main_arg1)

/-- The factors of the mix. -/
abbrev A2 (c : Dev nD) : FVec Ideal S3360 .f32 := m ((c : Thread nD τ).loc main_arg2)

/-- The zero that fills an array of single precision. -/
theorem zero_fill : (sitofp (F := Ideal) FTy.f32 (constantI S_ 32 0#32) : FVec Ideal S_ .f32) = fun _ => (0 : EReal) := funext fun _ => by
  show (((0#32 : BitVec 32).toInt : ℝ) : EReal) = 0
  simp

/-- The zero that fills an array of half precision. -/
theorem zero_fill' : (sitofp (F := Ideal) FTy.bf16 (constantI S_ 32 0#32) : FVec Ideal S_ .bf16) = fun _ => (0 : EReal) := funext fun _ => by
  show (((0#32 : BitVec 32).toInt : ℝ) : EReal) = 0
  simp

/-- The factors, followed by 96 zeros, as one row. -/
theorem op_u (c : Dev nD) : V m c main_v1 = broadcastInDim S1x3456 ![1] bcast_S3456_S1x3456_1 (pad S3456 ![0] ![96] ![0] (m ((c : Thread nD τ).loc main_arg2)) (fun _ => (0 : EReal)) pads_S3360_S3456_0960 h_S_) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  refine Eq.trans ?_ (congrArg (fun v => broadcastInDim S1x3456 ![1] bcast_S3456_S1x3456_1 (pad S3456 ![0] ![96] ![0] (m ((c : Thread nD τ).loc main_arg2)) v pads_S3360_S3456_0960 h_S_)) zero_fill)
  rfl

/-- The state of the shift, followed by 96 columns of zeros. -/
theorem op_p (c : Dev nD) : V m c main_v21 = pad S32x1x3456 ![0, 0, 0] ![0, 0, 96] ![0, 0, 0] (m ((c : Thread nD τ).loc main_arg1)) (fun _ => (0 : EReal)) pads_S32x1x3360_S32x1x3456_000_000_0960 h_S_ := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  refine Eq.trans ?_ (congrArg (fun v => pad S32x1x3456 ![0, 0, 0] ![0, 0, 96] ![0, 0, 0] (m ((c : Thread nD τ).loc main_arg1)) v pads_S32x1x3360_S32x1x3456_000_000_0960 h_S_) zero_fill)
  rfl

/-- The matrix of the decay, followed by rows of zeros. -/
theorem op_w (c : Dev nD) : V m c main_v8 = pad S384x1024 ![0, 0] ![320, 0] ![0, 0] (m ((c : Thread nD τ).loc main_arg8)) (fun _ => (0 : EReal)) pads_S64x1024_S384x1024_03200_000 h_S_ := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  refine Eq.trans ?_ (congrArg (fun v => pad S384x1024 ![0, 0] ![320, 0] ![0, 0] (m ((c : Thread nD τ).loc main_arg8)) v pads_S64x1024_S384x1024_03200_000 h_S_) zero_fill')
  rfl

/-- The matrix of the rate, between rows of zeros. -/
theorem op_a (c : Dev nD) : V m c main_v10 = pad S384x1024 ![64, 0] ![256, 0] ![0, 0] (m ((c : Thread nD τ).loc main_arg9)) (fun _ => (0 : EReal)) pads_S64x1024_S384x1024_642560_000 h_S_ := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  refine Eq.trans ?_ (congrArg (fun v => pad S384x1024 ![64, 0] ![256, 0] ![0, 0] (m ((c : Thread nD τ).loc main_arg9)) v pads_S64x1024_S384x1024_642560_000 h_S_) zero_fill')
  rfl

/-- The matrix of the gate, between rows of zeros. -/
theorem op_g (c : Dev nD) : V m c main_v12 = pad S384x1024 ![128, 0] ![96, 0] ![0, 0] (m ((c : Thread nD τ).loc main_arg10)) (fun _ => (0 : EReal)) pads_S160x1024_S384x1024_128960_000 h_S_ := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  refine Eq.trans ?_ (congrArg (fun v => pad S384x1024 ![128, 0] ![96, 0] ![0, 0] (m ((c : Thread nD τ).loc main_arg10)) v pads_S160x1024_S384x1024_128960_000 h_S_) zero_fill')
  rfl

/-- The offsets of the decay, as one row. -/
theorem op_w0 (c : Dev nD) : V m c main_v2 = broadcastInDim S1x1024 ![1] bcast_S1024_S1x1024_1 (m ((c : Thread nD τ).loc main_arg3)) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  try rfl

/-- The offsets of the rate, as one row. -/
theorem op_a0 (c : Dev nD) : V m c main_v3 = broadcastInDim S1x1024 ![1] bcast_S1024_S1x1024_1 (m ((c : Thread nD τ).loc main_arg4)) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  try rfl

/-- The factors of the key, as one row. -/
theorem op_ka (c : Dev nD) : V m c main_v5 = broadcastInDim S1x1024 ![1] bcast_S1024_S1x1024_1 (m ((c : Thread nD τ).loc main_arg6)) := by
  simp only [V, hostOps0, hostOps0_1, hostOps0_2, hostOps0_3, hostOps0_4, hostOps0_5, hostOps0_6, hostOps0_7, hostOps0_8, hostOps0_9, hostOps0_10, hostOps0_11,
    List.flatten_cons, List.flatten_nil, List.append_nil, List.cons_append, List.nil_append]
  after_results
  try rfl

/-- Which block each window holds at a grid point. -/
theorem idx : ∀ t : Fin cfg0.N, win0_0.index t = ![512 + t.val, 0] ∧ win0_1.index t = ![t.val, 0, 0]
    ∧ win0_2.index t = ![0, 0] ∧ win0_3.index t = ![0, 0] ∧ win0_4.index t = ![0, 0] ∧ win0_6.index t = ![0, 0]
    ∧ win0_8.index t = ![0, 0] ∧ win0_9.index t = ![0, 0] ∧ win0_10.index t = ![0, 0]
    ∧ win0_12.index t = ![t.val, 0] ∧ win0_13.index t = ![t.val, 0] ∧ win0_14.index t = ![t.val, 0]
    ∧ win0_15.index t = ![t.val, 0] ∧ win0_18.index t = ![t.val, 0] ∧ win0_20.index t = ![t.val, 0, 0] :=
  (by decide +kernel : ∀ t : Fin grid0.N, _)

/-- The sample of a grid point. -/
def smp (t : Fin cfg0.N) : Fin 32 := ⟨t.val, t.isLt⟩

theorem blk_x (c : Dev nD) (t : Fin cfg0.N) (a : Fin 32) (q : Fin 3456) :
    (iblk m c 0 t (ix2 a q) : EReal) = A0 m c (ix2 (⟨16384 + ((smp t).val * 32 + a.val), by omega⟩ : Fin 17408) q) := by
  obtain ⟨e0, e1, e2, e3, e4, e6, e8, e9, e10, e12, e13, e14, e15, e18, e20⟩ := idx t
  blk_ext [iblk, V, e0, smp]

theorem blk_p (c : Dev nD) (t : Fin cfg0.N) (q : Fin 3360) :
    (iblk m c 1 t (ix3 (0 : Fin 1) (0 : Fin 1) (⟨q.val, by omega⟩ : Fin 3456)) : EReal) = A1 m c (ix3 (smp t) (0 : Fin 1) q) := by
  obtain ⟨e0, e1, e2, e3, e4, e6, e8, e9, e10, e12, e13, e14, e15, e18, e20⟩ := idx t
  have f0 : (((View.whole main_v21).slice (win0_1.rect t)).emb (ix3 (0 : Fin 1) (0 : Fin 1) (⟨q.val, by omega⟩ : Fin 3456)) 0).val = t.val := by
    blk_simp [e1]
    rfl
  have f1 : (((View.whole main_v21).slice (win0_1.rect t)).emb (ix3 (0 : Fin 1) (0 : Fin 1) (⟨q.val, by omega⟩ : Fin 3456)) 1).val = 0 := by
    blk_simp [e1]
    rfl
  have f2 : (((View.whole main_v21).slice (win0_1.rect t)).emb (ix3 (0 : Fin 1) (0 : Fin 1) (⟨q.val, by omega⟩ : Fin 3456)) 2).val = q.val := by blk_simp [e1]
  blk_simp [iblk]
  rw [op_p]
  refine pad_apply_of_inside _ _ _ (A1 m c) _ _ _ _ (ix3 (smp t) (0 : Fin 1) q) fun a => ?_
  match a with
  | ⟨0, _⟩ => exact f0.trans (by show t.val = 0 + t.val * (0 + 1); omega)
  | ⟨1, _⟩ => exact f1
  | ⟨2, _⟩ => exact f2.trans (by show q.val = 0 + q.val * (0 + 1); omega)

theorem pad_row (X : FVec Ideal S3360 .f32) (q : Fin 3360) :
    pad S3456 ![0] ![96] ![0] X (fun _ => (0 : EReal)) pads_S3360_S3456_0960 h_S_ (ix1 (⟨q.val, by omega⟩ : Fin 3456)) = X (ix1 q) := by
  refine pad_apply_of_inside _ _ _ X _ _ _ _ (ix1 q) fun a => ?_
  match a with
  | ⟨0, _⟩ => show q.val = 0 + q.val * (0 + 1); omega

theorem blk_u (c : Dev nD) (t : Fin cfg0.N) (q : Fin 3360) :
    (iblk m c 2 t (ix2 (0 : Fin 1) (⟨q.val, by omega⟩ : Fin 3456)) : EReal) = A2 m c (ix1 q) := by
  obtain ⟨e0, e1, e2, e3, e4, e6, e8, e9, e10, e12, e13, e14, e15, e18, e20⟩ := idx t
  have h : ∀ X : FVec Ideal S3456 .f32, broadcastInDim S1x3456 ![1] bcast_S3456_S1x3456_1 X
      (((View.whole main_v1).slice (win0_2.rect t)).emb (ix2 (0 : Fin 1) (⟨q.val, by omega⟩ : Fin 3456))) = X (ix1 (⟨q.val, by omega⟩ : Fin 3456)) := by
    intro X
    pointwise
    blk_ext [e2]
  blk_simp [iblk]
  rw [op_u]
  exact (h _).trans (pad_row (A2 m c) q)

theorem blk_w0 (c : Dev nD) (t : Fin cfg0.N) (q : Fin 1024) :
    (iblk m c 3 t (ix2 (0 : Fin 1) q) : EReal) = (m ((c : Thread nD τ).loc main_arg3) : FVec Ideal S1024 .f32) (ix1 q) := by
  obtain ⟨e0, e1, e2, e3, e4, e6, e8, e9, e10, e12, e13, e14, e15, e18, e20⟩ := idx t
  blk_simp [iblk]
  rw [op_w0]
  pointwise
  blk_ext [e3]

theorem blk_a0 (c : Dev nD) (t : Fin cfg0.N) (q : Fin 1024) :
    (iblk m c 4 t (ix2 (0 : Fin 1) q) : EReal) = (m ((c : Thread nD τ).loc main_arg4) : FVec Ideal S1024 .f32) (ix1 q) := by
  obtain ⟨e0, e1, e2, e3, e4, e6, e8, e9, e10, e12, e13, e14, e15, e18, e20⟩ := idx t
  blk_simp [iblk]
  rw [op_a0]
  pointwise
  blk_ext [e4]

theorem blk_ka (c : Dev nD) (t : Fin cfg0.N) (q : Fin 1024) :
    (iblk m c 6 t (ix2 (0 : Fin 1) q) : EReal) = (m ((c : Thread nD τ).loc main_arg6) : FVec Ideal S1024 .f32) (ix1 q) := by
  obtain ⟨e0, e1, e2, e3, e4, e6, e8, e9, e10, e12, e13, e14, e15, e18, e20⟩ := idx t
  blk_simp [iblk]
  rw [op_ka]
  pointwise
  blk_ext [e6]

theorem blk_w (c : Dev nD) (t : Fin cfg0.N) (j : Fin 64) (q : Fin 1024) :
    (iblk m c 8 t (ix2 (⟨0 + j.val, by omega⟩ : Fin 384) q) : EReal) = (m ((c : Thread nD τ).loc main_arg8) : FVec Ideal S64x1024 .f32) (ix2 j q) := by
  obtain ⟨e0, e1, e2, e3, e4, e6, e8, e9, e10, e12, e13, e14, e15, e18, e20⟩ := idx t
  have f0 : (((View.whole main_v8).slice (win0_8.rect t)).emb (ix2 (⟨j.val, by omega⟩ : Fin 384) q) 0).val = j.val := by blk_simp [e8]
  have f1 : (((View.whole main_v8).slice (win0_8.rect t)).emb (ix2 (⟨j.val, by omega⟩ : Fin 384) q) 1).val = q.val := by blk_simp [e8]
  blk_simp [iblk]
  rw [op_w]
  refine pad_apply_of_inside _ _ _ (m ((c : Thread nD τ).loc main_arg8) : FVec Ideal S64x1024 .f32) _ _ _ _ (ix2 j q) fun a => ?_
  match a with
  | ⟨0, _⟩ => exact f0.trans (by show j.val = 0 + j.val * (0 + 1); omega)
  | ⟨1, _⟩ => exact f1.trans (by show q.val = 0 + q.val * (0 + 1); omega)

theorem blk_w_zero (c : Dev nD) (t : Fin cfg0.N) (q : Fin 1024) (j : Fin 384) (hj : ¬(0 ≤ j.val ∧ j.val < 0 + 64)) :
    iblk m c 8 t (ix2 j q) = (0 : EReal) := by
  obtain ⟨e0, e1, e2, e3, e4, e6, e8, e9, e10, e12, e13, e14, e15, e18, e20⟩ := idx t
  have f0 : (((View.whole main_v8).slice (win0_8.rect t)).emb (ix2 j q) 0).val = j.val := by blk_simp [e8]
  blk_simp [iblk]
  rw [op_w]
  refine pad_apply_of_not_inside _ _ _ (m ((c : Thread nD τ).loc main_arg8) : FVec Ideal S64x1024 .f32) _ _ _ _ 0 fun ha => hj ?_
  have h1 : 0 ≤ (((View.whole main_v8).slice (win0_8.rect t)).emb (ix2 j q) 0).val := ha.1
  have h3 : ((((View.whole main_v8).slice (win0_8.rect t)).emb (ix2 j q) 0).val - 0) / (0 + 1) < 64 := ha.2.2
  rw [f0] at h1 h3
  omega

theorem blk_a (c : Dev nD) (t : Fin cfg0.N) (j : Fin 64) (q : Fin 1024) :
    (iblk m c 9 t (ix2 (⟨64 + j.val, by omega⟩ : Fin 384) q) : EReal) = (m ((c : Thread nD τ).loc main_arg9) : FVec Ideal S64x1024 .f32) (ix2 j q) := by
  obtain ⟨e0, e1, e2, e3, e4, e6, e8, e9, e10, e12, e13, e14, e15, e18, e20⟩ := idx t
  have f0 : (((View.whole main_v10).slice (win0_9.rect t)).emb (ix2 (⟨64 + j.val, by omega⟩ : Fin 384) q) 0).val = 64 + j.val := by blk_simp [e9]
  have f1 : (((View.whole main_v10).slice (win0_9.rect t)).emb (ix2 (⟨64 + j.val, by omega⟩ : Fin 384) q) 1).val = q.val := by blk_simp [e9]
  blk_simp [iblk]
  rw [op_a]
  refine pad_apply_of_inside _ _ _ (m ((c : Thread nD τ).loc main_arg9) : FVec Ideal S64x1024 .f32) _ _ _ _ (ix2 j q) fun a => ?_
  match a with
  | ⟨0, _⟩ => exact f0.trans (by show 64 + j.val = 64 + j.val * (0 + 1); omega)
  | ⟨1, _⟩ => exact f1.trans (by show q.val = 0 + q.val * (0 + 1); omega)

theorem blk_a_zero (c : Dev nD) (t : Fin cfg0.N) (q : Fin 1024) (j : Fin 384) (hj : ¬(64 ≤ j.val ∧ j.val < 64 + 64)) :
    iblk m c 9 t (ix2 j q) = (0 : EReal) := by
  obtain ⟨e0, e1, e2, e3, e4, e6, e8, e9, e10, e12, e13, e14, e15, e18, e20⟩ := idx t
  have f0 : (((View.whole main_v10).slice (win0_9.rect t)).emb (ix2 j q) 0).val = j.val := by blk_simp [e9]
  blk_simp [iblk]
  rw [op_a]
  refine pad_apply_of_not_inside _ _ _ (m ((c : Thread nD τ).loc main_arg9) : FVec Ideal S64x1024 .f32) _ _ _ _ 0 fun ha => hj ?_
  have h1 : 64 ≤ (((View.whole main_v10).slice (win0_9.rect t)).emb (ix2 j q) 0).val := ha.1
  have h3 : ((((View.whole main_v10).slice (win0_9.rect t)).emb (ix2 j q) 0).val - 64) / (0 + 1) < 64 := ha.2.2
  rw [f0] at h1 h3
  omega

theorem blk_g (c : Dev nD) (t : Fin cfg0.N) (j : Fin 160) (q : Fin 1024) :
    (iblk m c 10 t (ix2 (⟨128 + j.val, by omega⟩ : Fin 384) q) : EReal) = (m ((c : Thread nD τ).loc main_arg10) : FVec Ideal S160x1024 .f32) (ix2 j q) := by
  obtain ⟨e0, e1, e2, e3, e4, e6, e8, e9, e10, e12, e13, e14, e15, e18, e20⟩ := idx t
  have f0 : (((View.whole main_v12).slice (win0_10.rect t)).emb (ix2 (⟨128 + j.val, by omega⟩ : Fin 384) q) 0).val = 128 + j.val := by blk_simp [e10]
  have f1 : (((View.whole main_v12).slice (win0_10.rect t)).emb (ix2 (⟨128 + j.val, by omega⟩ : Fin 384) q) 1).val = q.val := by blk_simp [e10]
  blk_simp [iblk]
  rw [op_g]
  refine pad_apply_of_inside _ _ _ (m ((c : Thread nD τ).loc main_arg10) : FVec Ideal S160x1024 .f32) _ _ _ _ (ix2 j q) fun a => ?_
  match a with
  | ⟨0, _⟩ => exact f0.trans (by show 128 + j.val = 128 + j.val * (0 + 1); omega)
  | ⟨1, _⟩ => exact f1.trans (by show q.val = 0 + q.val * (0 + 1); omega)

theorem blk_g_zero (c : Dev nD) (t : Fin cfg0.N) (q : Fin 1024) (j : Fin 384) (hj : ¬(128 ≤ j.val ∧ j.val < 128 + 160)) :
    iblk m c 10 t (ix2 j q) = (0 : EReal) := by
  obtain ⟨e0, e1, e2, e3, e4, e6, e8, e9, e10, e12, e13, e14, e15, e18, e20⟩ := idx t
  have f0 : (((View.whole main_v12).slice (win0_10.rect t)).emb (ix2 j q) 0).val = j.val := by blk_simp [e10]
  blk_simp [iblk]
  rw [op_g]
  refine pad_apply_of_not_inside _ _ _ (m ((c : Thread nD τ).loc main_arg10) : FVec Ideal S160x1024 .f32) _ _ _ _ 0 fun ha => hj ?_
  have h1 : 128 ≤ (((View.whole main_v12).slice (win0_10.rect t)).emb (ix2 j q) 0).val := ha.1
  have h3 : ((((View.whole main_v12).slice (win0_10.rect t)).emb (ix2 j q) 0).val - 128) / (0 + 1) < 160 := ha.2.2
  rw [f0] at h1 h3
  omega

/-- The mixed rows of a grid point are the sample's. -/
theorem mixed (c : Dev nD) (t : Fin cfg0.N) (a : Fin 32) (q : Fin 3360) :
    k0_pay4 (F := Ideal) (iblk m c 0 t) (k0_pay1 (iblk m c 1 t)) (iblk m c 2 t) (ix2 a (⟨q.val, by omega⟩ : Fin 3456))
      = mix (A0 m c) (A1 m c) (A2 m c) (smp t) a q := by
  rw [ker_mix, ker_prev, blk_x, blk_x, blk_u, blk_p]
  rfl

/-- The row of the call's arrays that a point's block has its row `a` from. -/
def rowOf (t : Fin cfg0.N) (a : Fin 32) : Fin 1024 := ⟨t.val * 32 + a.val, by have : t.val < 32 := t.isLt; omega⟩

theorem row_div (t : Fin cfg0.N) (a : Fin 32) (h : (rowOf t a).val / 32 < 32) : (⟨(rowOf t a).val / 32, h⟩ : Fin 32) = smp t :=
  Fin.ext (by show (t.val * 32 + a.val) / 32 = t.val; omega)

theorem row_mod (t : Fin cfg0.N) (a : Fin 32) (h : (rowOf t a).val % 32 < 32) : (⟨(rowOf t a).val % 32, h⟩ : Fin 32) = a :=
  Fin.ext (by show (t.val * 32 + a.val) % 32 = a.val; omega)

/-- The receptance as the reference states it. -/
abbrev want_r (c : Dev nD) : (⟨S1024x1024, .f32⟩ : BufTy).Contents (Elt Ideal) :=
  Cert.PreRefIdeal.Read.val_main_v53 (F := Ideal) (A0 m c) (A1 m c) (A2 m c)

/-- The logarithm of the decay as the reference states it. -/
abbrev want_lw (c : Dev nD) : (⟨S1024x1024, .f32⟩ : BufTy).Contents (Elt Ideal) :=
  Cert.PreRefIdeal.Read.val_main_v54 (F := Ideal) (A0 m c) (A1 m c) (A2 m c) (m ((c : Thread nD τ).loc main_arg3))
    (m ((c : Thread nD τ).loc main_arg8))

/-- The key as the reference states it. -/
abbrev want_k (c : Dev nD) : (⟨S1024x1024, .f32⟩ : BufTy).Contents (Elt Ideal) :=
  Cert.PreRefIdeal.Read.val_main_v55 (F := Ideal) (A0 m c) (A1 m c) (A2 m c) (m ((c : Thread nD τ).loc main_arg4))
    (m ((c : Thread nD τ).loc main_arg6)) (m ((c : Thread nD τ).loc main_arg9))

/-- The value as the reference states it. -/
abbrev want_v (c : Dev nD) : (⟨S1024x1024, .f32⟩ : BufTy).Contents (Elt Ideal) :=
  Cert.PreRefIdeal.Read.val_main_v56 (F := Ideal) (A0 m c) (A1 m c) (A2 m c)

/-- The gate as the reference states it. -/
abbrev want_g (c : Dev nD) : (⟨S1024x1024, .f32⟩ : BufTy).Contents (Elt Ideal) :=
  Cert.PreRefIdeal.Read.val_main_v57 (F := Ideal) (A0 m c) (A1 m c) (A2 m c) (m ((c : Thread nD τ).loc main_arg10))

/-- The last rows as the reference states them. -/
abbrev want_last (c : Dev nD) : (⟨S32x1x3456, .f32⟩ : BufTy).Contents (Elt Ideal) :=
  Cert.PreRefIdeal.Read.val_main_v58 (F := Ideal) (A0 m c)

/-- One element of a point's receptance is the reference's. -/
theorem point_r (c : Dev nD) (t : Fin cfg0.N) (a : Fin 32) (q : Fin 1024) :
    (outsAt0 m c t).1 (ix2 a q) = want_r m c (ix2 (rowOf t a) q) := by
  unfold outsAt0 want_r
  rw [ref_r, row_div, row_mod]
  frame_out
  rw [ker_r, ← mixed]

/-- One element of a point's logarithm of the decay is the reference's. -/
theorem point_lw (c : Dev nD) (t : Fin cfg0.N) (a : Fin 32) (q : Fin 1024) :
    (outsAt0 m c t).2.1 (ix2 a q) = want_lw m c (ix2 (rowOf t a) q) := by
  unfold outsAt0 want_lw
  rw [ref_lw, row_div, row_mod]
  frame_out
  rw [ker_lw _ _ _ _ _ _ _ (blk_w_zero m c t q), blk_w0]
  simp only [mixed, blk_w]

/-- One element of a point's key is the reference's. -/
theorem point_k (c : Dev nD) (t : Fin cfg0.N) (a : Fin 32) (q : Fin 1024) :
    (outsAt0 m c t).2.2.1 (ix2 a q) = want_k m c (ix2 (rowOf t a) q) := by
  unfold outsAt0 want_k
  rw [ref_k, row_div, row_mod]
  frame_out
  rw [ker_k _ _ _ _ _ _ _ _ (blk_a_zero m c t q), blk_a0, blk_ka]
  simp only [mixed, blk_a]

/-- One element of a point's value is the reference's. -/
theorem point_v (c : Dev nD) (t : Fin cfg0.N) (a : Fin 32) (q : Fin 1024) :
    (outsAt0 m c t).2.2.2.1 (ix2 a q) = want_v m c (ix2 (rowOf t a) q) := by
  unfold outsAt0 want_v
  rw [ref_v, row_div, row_mod]
  frame_out
  rw [ker_v, ← mixed]

/-- One element of a point's gate is the reference's. -/
theorem point_g (c : Dev nD) (t : Fin cfg0.N) (a : Fin 32) (q : Fin 1024) :
    (outsAt0 m c t).2.2.2.2.2.2.1 (ix2 a q) = want_g m c (ix2 (rowOf t a) q) := by
  unfold outsAt0 want_g
  rw [ref_g, row_div, row_mod]
  frame_out
  rw [ker_g _ _ _ _ _ _ (blk_g_zero m c t q)]
  simp only [mixed, blk_g]

/-- One element of a point's last row is the reference's. -/
theorem point_last (c : Dev nD) (t : Fin cfg0.N) (o o' : Fin 1) (q : Fin 3456) :
    (outsAt0 m c t).2.2.2.2.2.2.2.2 (ix3 o o' q) = want_last m c (ix3 (smp t) o' q) := by
  unfold outsAt0 want_last
  rw [ref_last]
  frame_out
  rw [ker_last, blk_x]
  rfl

/-- The receptance after the run is the reference's. -/
theorem final_r (c : Dev nD) : (dats m 0 c).arrAt 12 cfg0.N = want_r m c := by
  refine (dats m 0 c).arrAt_eq_of_covers 12 _ (by decide +kernel) fun t _ y => ?_
  obtain ⟨e0, e1, e2, e3, e4, e6, e8, e9, e10, e12, e13, e14, e15, e18, e20⟩ := idx t
  blk_simp
  rw [after0_12]
  refine (congrArg _ (eq_ix2 y)).trans ((point_r m c t (y 0) (y 1)).trans (congrArg (want_r m c) ?_))
  blk_ext [e12, rowOf]

/-- The logarithm of the decay after the run is the reference's. -/
theorem final_lw (c : Dev nD) : (dats m 0 c).arrAt 13 cfg0.N = want_lw m c := by
  refine (dats m 0 c).arrAt_eq_of_covers 13 _ (by decide +kernel) fun t _ y => ?_
  obtain ⟨e0, e1, e2, e3, e4, e6, e8, e9, e10, e12, e13, e14, e15, e18, e20⟩ := idx t
  blk_simp
  rw [after0_13]
  refine (congrArg _ (eq_ix2 y)).trans ((point_lw m c t (y 0) (y 1)).trans (congrArg (want_lw m c) ?_))
  blk_ext [e13, rowOf]

/-- The key after the run is the reference's. -/
theorem final_k (c : Dev nD) : (dats m 0 c).arrAt 14 cfg0.N = want_k m c := by
  refine (dats m 0 c).arrAt_eq_of_covers 14 _ (by decide +kernel) fun t _ y => ?_
  obtain ⟨e0, e1, e2, e3, e4, e6, e8, e9, e10, e12, e13, e14, e15, e18, e20⟩ := idx t
  blk_simp
  rw [after0_14]
  refine (congrArg _ (eq_ix2 y)).trans ((point_k m c t (y 0) (y 1)).trans (congrArg (want_k m c) ?_))
  blk_ext [e14, rowOf]

/-- The value after the run is the reference's. -/
theorem final_v (c : Dev nD) : (dats m 0 c).arrAt 15 cfg0.N = want_v m c := by
  refine (dats m 0 c).arrAt_eq_of_covers 15 _ (by decide +kernel) fun t _ y => ?_
  obtain ⟨e0, e1, e2, e3, e4, e6, e8, e9, e10, e12, e13, e14, e15, e18, e20⟩ := idx t
  blk_simp
  rw [after0_15]
  refine (congrArg _ (eq_ix2 y)).trans ((point_v m c t (y 0) (y 1)).trans (congrArg (want_v m c) ?_))
  blk_ext [e15, rowOf]

/-- The gate after the run is the reference's. -/
theorem final_g (c : Dev nD) : (dats m 0 c).arrAt 18 cfg0.N = want_g m c := by
  refine (dats m 0 c).arrAt_eq_of_covers 18 _ (by decide +kernel) fun t _ y => ?_
  obtain ⟨e0, e1, e2, e3, e4, e6, e8, e9, e10, e12, e13, e14, e15, e18, e20⟩ := idx t
  blk_simp
  rw [after0_18]
  refine (congrArg _ (eq_ix2 y)).trans ((point_g m c t (y 0) (y 1)).trans (congrArg (want_g m c) ?_))
  blk_ext [e18, rowOf]

/-- The last rows after the run are the reference's. -/
theorem final_last (c : Dev nD) : (dats m 0 c).arrAt 20 cfg0.N = want_last m c := by
  refine (dats m 0 c).arrAt_eq_of_covers 20 _ (by decide +kernel) fun t _ y => ?_
  obtain ⟨e0, e1, e2, e3, e4, e6, e8, e9, e10, e12, e13, e14, e15, e18, e20⟩ := idx t
  blk_simp
  rw [after0_20]
  refine (congrArg _ (eq_ix3 y)).trans ((point_last m c t (y 0) (y 1) (y 2)).trans (congrArg (want_last m c) ?_))
  blk_ext [e20, smp]

end Cert.PreValue
-- ==== Proof.PreClaim.lean ====
module

public import proofs.«01_k».proof.Proof.Gen.PreIdeal.Value
public import proofs.«01_k».proof.Proof.Gen.PreRefIdeal.Read
public import proofs.«01_k».proof.Proof.Gen.PreRefIdeal.Run
public import proofs.«01_k».proof.Proof.PreRefs
public import proofs.«01_k».proof.Proof.PreKernel
public import proofs.«01_k».proof.Proof.Pre
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.PreValue

open Cert.PreIdeal Cert.PreIdeal.Gen Idealize.ShloMosaic Idealize.ShloMosaic.TcCoe Idealize.SL.Sem
open Idealize.ShloMosaic.Pipeline (Dat)
open Cert.PreMath Cert.PreKernel Cert.PreRefMath

set_option maxHeartbeats 1000000 in
/-- From the same arrays the kernel and the reference return the same six arrays, over the extended reals. -/
theorem algebraic : Cert.algebraic_PreIdeal_PreRefIdeal := by
  pair_intro
  · run_from Value.run_blocks m g
  · run_from Cert.PreRefIdeal.Value.run m' g'
    · rw [Cert.PreRefIdeal.Read.val_main_v53_eq]
      exact (final_r m c).symm
    · rw [Cert.PreRefIdeal.Read.val_main_v54_eq, (hagree c).1, (hagree c).2.1, (hagree c).2.2.1, (hagree c).2.2.2.1,
        (hagree c).2.2.2.2.2.2.2.2.1]
      exact (final_lw m c).symm
    · rw [Cert.PreRefIdeal.Read.val_main_v55_eq]
      exact (final_k m c).symm
    · rw [Cert.PreRefIdeal.Read.val_main_v56_eq]
      exact (final_v m c).symm
    · rw [Cert.PreRefIdeal.Read.val_main_v57_eq]
      exact (final_g m c).symm
    · rw [Cert.PreRefIdeal.Read.val_main_v58_eq]
      exact (final_last m c).symm

end Cert.PreValue
-- ==== Proof.PrePRefs.lean ====
module

public import proofs.«01_k».proof.Proof.Gen.PrePRefIdeal.Read
public import proofs.«01_k».proof.Proof.PreMath
public import Idealize.ShloMosaic.Lib.Pipeline.ValueKit
public import Idealize.ShloMosaic.Lib.Pointwise
public import Idealize.ShloMosaic.Lib.Claim

@[expose] public section

set_option maxRecDepth 16384

noncomputable section

namespace Cert.PrePRefMath

open Cert.PrePRefIdeal Cert.PrePRefIdeal.Gen Idealize.ShloMosaic Idealize.ShloMosaic.TcCoe Idealize.SL.Sem Cert.PrePRefIdeal.Read Cert.PreMath

/-- The mixed row: the projected row, moved by the factor towards the row before it. -/
def mix (x0 : FVec Ideal S17408x3456 .f32) (x1 : FVec Ideal S3360 .f32)
    (n : Fin 2) (a : Fin 8192) (q : Fin 3360) : EReal :=
  x0 (ix2 (⟨n.val * 8192 + a.val, by omega⟩ : Fin 17408) (⟨q.val, by omega⟩ : Fin 3456))
    + x1 (ix1 q) * ((if a.val = 0 then (0 : EReal)
        else x0 (ix2 (⟨n.val * 8192 + (a.val - 1), by omega⟩ : Fin 17408) (⟨q.val, by omega⟩ : Fin 3456)))
      - x0 (ix2 (⟨n.val * 8192 + a.val, by omega⟩ : Fin 17408) (⟨q.val, by omega⟩ : Fin 3456)))

/-- The reference's mixed rows. -/
theorem ref_mix (x0 : FVec Ideal S17408x3456 .f32) (x1 : FVec Ideal S3360 .f32)
    (n : Fin 2) (a : Fin 8192) (q : Fin 3360) :
    val_main_v10 (F := Ideal) x0 x1 (ix3 n a q) = mix x0 x1 n a q := by
  pointwise [val_main_v10, val_main_v9, val_main_v8, val_main_v7, val_main_v6, val_main_v5, val_main_v4, val_main_v3, val_main_cst, val_main_v2,
    val_main_v1, val_main_v0, mix]
  refine congrArg (fun z => x0 _ + x1 _ * (z - x0 _)) ?_
  by_cases h : a.val = 0
  · rw [dif_pos (by omega), if_pos h]
  · rw [dif_neg (by omega), if_neg h]

/-- The reference's receptance. -/
theorem ref_r (x0 : FVec Ideal S17408x3456 .f32) (x1 : FVec Ideal S3360 .f32)
    (a : Fin 16384) (q : Fin 1024) :
    val_main_v54 (F := Ideal) x0 x1 (ix2 a q)
      = mix x0 x1 ⟨a.val / 8192, by omega⟩ ⟨a.val % 8192, by omega⟩ ⟨q.val, by omega⟩ := by
  have h := ref_mix x0 x1
  pointwise [val_main_v54, val_main_v11]
  simp only [h]

/-- The reference's value. -/
theorem ref_v (x0 : FVec Ideal S17408x3456 .f32) (x1 : FVec Ideal S3360 .f32)
    (a : Fin 16384) (q : Fin 1024) :
    val_main_v57 (F := Ideal) x0 x1 (ix2 a q)
      = mix x0 x1 ⟨a.val / 8192, by omega⟩ ⟨a.val % 8192, by omega⟩ ⟨2048 + q.val, by omega⟩ := by
  have h := ref_mix x0 x1
  pointwise [val_main_v57, val_main_v13]
  simp only [h]

/-- The reference's logarithm of the decay. -/
theorem ref_lw (x0 : FVec Ideal S17408x3456 .f32) (x1 : FVec Ideal S3360 .f32)
    (x2 : FVec Ideal S1024 .f32) (x7 : FVec Ideal S64x1024 .f32) (a : Fin 16384) (q : Fin 1024) :
    val_main_v55 (F := Ideal) x0 x1 x2 x7 (ix2 a q)
      = logDecay (mix x0 x1 ⟨a.val / 8192, by omega⟩ ⟨a.val % 8192, by omega⟩) (x2 (ix1 q)) (fun j => x7 (ix2 j q)) := by
  have h := ref_mix x0 x1
  pointwise [val_main_v55, val_main_v28, val_main_v27, val_main_v26, val_main_v25, val_main_v24, val_main_v23, val_main_v22,
    val_main_v21, val_main_v20, val_main_v19, val_main_v18, val_main_v17, val_main_v14, val_main_call0_v0,
    val_main_call0_v1, val_main_call0_v2, val_main_call0_v3, val_main_call0_v4, val_main_call0_v5, val_main_call0_v6,
    val_main_call0_v7, val_main_call0_v8, val_main_call0_v9, val_main_call0_v10, val_main_call0_v11, val_main_cst_0,
    val_main_call0_cst]
  simp only [h, ne_eq, not_true_eq_false, if_false]
  rfl

/-- The reference's key. -/
theorem ref_k (x0 : FVec Ideal S17408x3456 .f32) (x1 : FVec Ideal S3360 .f32)
    (x3 : FVec Ideal S1024 .f32) (x5 : FVec Ideal S1024 .f32) (x8 : FVec Ideal S64x1024 .f32) (a : Fin 16384) (q : Fin 1024) :
    val_main_v56 (F := Ideal) x0 x1 x3 x5 x8 (ix2 a q)
      = key (mix x0 x1 ⟨a.val / 8192, by omega⟩ ⟨a.val % 8192, by omega⟩) q (x3 (ix1 q)) (fun j => x8 (ix2 j q)) (x5 (ix1 q)) := by
  have h := ref_mix x0 x1
  pointwise [val_main_v56, val_main_v53, val_main_v52, val_main_v51, val_main_v50, val_main_v49, val_main_v48, val_main_v47,
    val_main_v46, val_main_v38, val_main_v37, val_main_v36, val_main_v35, val_main_v34, val_main_v33, val_main_v32,
    val_main_v31, val_main_v30, val_main_v29, val_main_v15, val_main_v12, val_main_cst_1, val_main_cst_2, val_main_cst_5,
    val_main_cst_6]
  simp only [h]
  rfl

/-- The reference's gate. -/
theorem ref_g (x0 : FVec Ideal S17408x3456 .f32) (x1 : FVec Ideal S3360 .f32)
    (x9 : FVec Ideal S160x1024 .f32) (a : Fin 16384) (q : Fin 1024) :
    val_main_v58 (F := Ideal) x0 x1 x9 (ix2 a q)
      = gate (mix x0 x1 ⟨a.val / 8192, by omega⟩ ⟨a.val % 8192, by omega⟩) (fun j => x9 (ix2 j q)) := by
  have h := ref_mix x0 x1
  pointwise [val_main_v58, val_main_v45, val_main_v44, val_main_v43, val_main_v42, val_main_v41, val_main_v40, val_main_v39,
    val_main_v16, val_main_cst_3, val_main_cst_4]
  simp only [h]
  rfl

/-- The reference's rows of one prompt. -/
theorem ref_rows (x0 : FVec Ideal S17408x3456 .f32) (n : Fin 2) (a : Fin 8192) (q : Fin 3456) :
    val_main_v1 (F := Ideal) x0 (ix3 n a q) = x0 (ix2 (⟨n.val * 8192 + a.val, by omega⟩ : Fin 17408) q) := by
  pointwise [val_main_v1, val_main_v0]

/-- The reference's last row. -/
theorem ref_last (x0 : FVec Ideal S17408x3456 .f32) (n : Fin 2) (o : Fin 1) (q : Fin 3456) :
    val_main_v59 (F := Ideal) x0 (ix3 n o q) = x0 (ix2 (⟨n.val * 8192 + 8191, by omega⟩ : Fin 17408) q) := by
  obtain ⟨o, ho⟩ := o
  obtain rfl : o = 0 := by omega
  refine Eq.trans ?_ (ref_rows x0 n (⟨8191, by omega⟩ : Fin 8192) q)
  refine congrArg (val_main_v1 (F := Ideal) x0) (funext fun d => Fin.ext ?_)
  match d with
  | ⟨0, _⟩ => exact Nat.zero_add _
  | ⟨1, _⟩ => rfl
  | ⟨2, _⟩ => exact Nat.zero_add _

end Cert.PrePRefMath
-- ==== Proof.PrePKernel.lean ====
module

public import proofs.«01_k».proof.Proof.Gen.PrePIdeal.Skeleton
public import proofs.«01_k».proof.Proof.PreMath
public import Idealize.ShloMosaic.Lib.Pipeline.ValueKit
public import Idealize.ShloMosaic.Lib.Pointwise
public import Idealize.ShloMosaic.Lib.Claim

@[expose] public section

set_option maxRecDepth 16384

noncomputable section

namespace Cert.PrePKernel

open Cert.PrePIdeal Cert.PrePIdeal.Gen Idealize.ShloMosaic Idealize.ShloMosaic.TcCoe Idealize.SL.Sem Cert.PreMath

/-- Zero minus a number. -/
theorem sub_zero_neg (z : EReal) : (0 : EReal) - z = -z := zero_sub z

/-- The kernel's mixed rows, from a block, the row before it and the factors. -/
theorem ker_mix (x : FVec Ideal S256x3456 .f32) (p u : FVec Ideal S1x3456 .f32) (a : Fin 256) (q : Fin 3456) :
    k0_pay4 (F := Ideal) x p u (ix2 a q)
      = x (ix2 a q) + u (ix2 (0 : Fin 1) q) * ((if a.val = 0 then p (ix2 (0 : Fin 1) q)
          else x (ix2 (⟨a.val - 1, by omega⟩ : Fin 256) q)) - x (ix2 a q)) := by
  pointwise [k0_pay4]
  refine congrArg (fun z => x (ix2 a q) + u (ix2 0 q) * (z - x (ix2 a q))) ?_
  by_cases h : a.val = 0
  · rw [if_pos h]
    have hb : ∀ b : Fin 256, b.val = 0 → IntOp.cmpi CmpIPredicate.eq (BitVec.ofNat 32 b.val) 0#32 = 1 := by decide +kernel
    exact if_pos (hb a h)
  · rw [if_neg h]
    refine (if_neg (c := IntOp.cmpi CmpIPredicate.eq (BitVec.ofNat 32 a.val) 0#32 = 1) ?_).trans ?_
    · have hb : ∀ b : Fin 256, b.val ≠ 0 → IntOp.cmpi CmpIPredicate.eq (BitVec.ofNat 32 b.val) 0#32 ≠ 1 := by decide +kernel
      exact hb a h
    · exact congrArg (fun z => x (ix2 z q)) (Fin.ext (by show (a.val + 256 - 1) % 256 = a.val - 1; omega))

/-- The kernel's logarithm of the decay, its matrix zero from row 64 on. -/
theorem ker_lw (x : FVec Ideal S256x3456 .f32) (p u : FVec Ideal S1x3456 .f32) (w0 : FVec Ideal S1x1024 .f32)
    (w2 : FVec Ideal S384x1024 .bf16) (a : Fin 256) (q : Fin 1024)
    (hz : ∀ j : Fin 384, ¬(0 ≤ j.val ∧ j.val < 0 + 64) → w2 (ix2 j q) = (0 : EReal)) :
    k0_pay56 (F := Ideal) (k0_pay12 (k0_pay9 w0) (k0_pay10 x p u) (k0_pay11 w2)) (ix2 a q)
      = logDecay (fun j => k0_pay4 (F := Ideal) x p u (ix2 a (⟨j.val, by omega⟩ : Fin 3456))) (w0 (ix2 (0 : Fin 1) q))
          (fun j => w2 (ix2 (⟨0 + j.val, by omega⟩ : Fin 384) q)) := by
  pointwise [k0_pay56, k0_pay12, k0_pay9, k0_pay10, k0_pay11, k0_pay8]
  simp only [sub_zero_neg]
  rw [window_sum 0 (by omega) (fun j : Fin 384 => Ideal.tanh (k0_pay4 (F := Ideal) x p u (ix2 a (⟨3072 + j.val, by omega⟩ : Fin 3456))))
    (fun j => w2 (ix2 j q)) hz]
  simp only [Nat.zero_add]
  rfl

/-- The kernel's key, its matrix zero outside rows 64 to 127. -/
theorem ker_k (x : FVec Ideal S256x3456 .f32) (p u : FVec Ideal S1x3456 .f32) (a0 ka : FVec Ideal S1x1024 .f32)
    (a2 : FVec Ideal S384x1024 .bf16) (a : Fin 256) (q : Fin 1024)
    (hz : ∀ j : Fin 384, ¬(64 ≤ j.val ∧ j.val < 64 + 64) → a2 (ix2 j q) = (0 : EReal)) :
    k0_pay17 (F := Ideal) (k0_pay6 x p u) (k0_pay13 (k0_pay8 x p u) a0 a2) ka (ix2 a q)
      = key (fun j => k0_pay4 (F := Ideal) x p u (ix2 a (⟨j.val, by omega⟩ : Fin 3456))) q (a0 (ix2 (0 : Fin 1) q))
          (fun j => a2 (ix2 (⟨64 + j.val, by omega⟩ : Fin 384) q)) (ka (ix2 (0 : Fin 1) q)) := by
  pointwise [k0_pay17, k0_pay13, k0_pay6, k0_pay8]
  simp only [sub_zero_neg]
  rw [window_sum 64 (by omega) (fun j : Fin 384 => k0_pay4 (F := Ideal) x p u (ix2 a (⟨3072 + j.val, by omega⟩ : Fin 3456)))
    (fun j => a2 (ix2 j q)) hz]
  have e : ∀ (j : Fin 64) h, (⟨3072 + (64 + j.val), h⟩ : Fin 3456) = ⟨3136 + j.val, by omega⟩ := fun j h => Fin.ext (by show 3072 + (64 + j.val) = 3136 + j.val; omega)
  simp only [e]
  rfl

/-- The kernel's gate, its matrix zero outside rows 128 to 287. -/
theorem ker_g (x : FVec Ideal S256x3456 .f32) (p u : FVec Ideal S1x3456 .f32) (g2 : FVec Ideal S384x1024 .bf16)
    (a : Fin 256) (q : Fin 1024)
    (hz : ∀ j : Fin 384, ¬(128 ≤ j.val ∧ j.val < 128 + 160) → g2 (ix2 j q) = (0 : EReal)) :
    k0_pay15 (F := Ideal) (k0_pay14 (k0_pay8 x p u)) g2 (ix2 a q)
      = gate (fun j => k0_pay4 (F := Ideal) x p u (ix2 a (⟨j.val, by omega⟩ : Fin 3456)))
          (fun j => g2 (ix2 (⟨128 + j.val, by omega⟩ : Fin 384) q)) := by
  pointwise [k0_pay15, k0_pay14, k0_pay8]
  simp only [sub_zero_neg]
  rw [window_sum 128 (by omega) (fun j : Fin 384 => Ideal.div 1 (1 + Ideal.exp (-k0_pay4 (F := Ideal) x p u (ix2 a (⟨3072 + j.val, by omega⟩ : Fin 3456)))))
    (fun j => g2 (ix2 j q)) hz]
  have e : ∀ (j : Fin 160) h, (⟨3072 + (128 + j.val), h⟩ : Fin 3456) = ⟨3200 + j.val, by omega⟩ := fun j h => Fin.ext (by show 3072 + (128 + j.val) = 3200 + j.val; omega)
  simp only [e]
  rfl

/-- The kernel's receptance. -/
theorem ker_r (x : FVec Ideal S256x3456 .f32) (p u : FVec Ideal S1x3456 .f32) (a : Fin 256) (q : Fin 1024) :
    k0_pay5 (F := Ideal) x p u (ix2 a q) = k0_pay4 (F := Ideal) x p u (ix2 a (⟨q.val, by omega⟩ : Fin 3456)) := by
  pointwise [k0_pay5]

/-- The kernel's value. -/
theorem ker_v (x : FVec Ideal S256x3456 .f32) (p u : FVec Ideal S1x3456 .f32) (a : Fin 256) (q : Fin 1024) :
    k0_pay7 (F := Ideal) x p u (ix2 a q) = k0_pay4 (F := Ideal) x p u (ix2 a (⟨2048 + q.val, by omega⟩ : Fin 3456)) := by
  pointwise [k0_pay7]

/-- The kernel's last row. -/
theorem ker_last (x : FVec Ideal S256x3456 .f32) (o o' : Fin 1) (q : Fin 3456) :
    k0_pay3 (F := Ideal) x (ix3 o o' q) = x (ix2 (255 : Fin 256) q) := by
  pointwise [k0_pay3]

/-- The row that a block leaves for the next one. -/
theorem ker_keep (x : FVec Ideal S256x3456 .f32) (q : Fin 3456) :
    k0_pay2 (F := Ideal) x (ix2 (0 : Fin 1) q) = x (ix2 (255 : Fin 256) q) := by
  pointwise [k0_pay2]

/-- The row before a prompt's first block. -/
theorem ker_prev (x : FVec Ideal S1x1x3456 .f32) (q : Fin 3456) :
    k0_pay1 (F := Ideal) x (ix2 (0 : Fin 1) q) = x (ix3 (0 : Fin 1) (0 : Fin 1) q) := by
  pointwise [k0_pay1]

end Cert.PrePKernel
-- ==== Proof.PreP.lean ====
module

public import proofs.«01_k».proof.Proof.Gen.PrePIdeal.Value
public import proofs.«01_k».proof.Proof.Gen.PrePRefIdeal.Read
public import proofs.«01_k».proof.Proof.Gen.PrePRefIdeal.Run
public import proofs.«01_k».proof.Proof.PrePRefs
public import proofs.«01_k».proof.Proof.PrePKernel
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.PrePValue

open Cert.PrePIdeal Cert.PrePIdeal.Gen Idealize.ShloMosaic Idealize.ShloMosaic.TcCoe Idealize.SL.Sem
open Idealize.ShloMosaic.Pipeline (Dat)
open Cert.PreMath Cert.PrePKernel Cert.PrePRefMath

variable (m : (ℓ : Loc nD τ sig) → Buf (Elt Ideal) ℓ)

/-- The projected rows. -/
abbrev A0 (c : Dev nD) : FVec Ideal S17408x3456 .f32 := m ((c : Thread nD τ).loc main_arg0)

/-- The factors of the mix. -/
abbrev A1 (c : Dev nD) : FVec Ideal S3360 .f32 := m ((c : Thread nD τ).loc main_arg1)

/-- The zero that fills an array of single precision. -/
theorem zero_fill : (sitofp (F := Ideal) FTy.f32 (constantI S_ 32 0#32) : FVec Ideal S_ .f32) = fun _ => (0 : EReal) := funext fun _ => by
  show (((0#32 : BitVec 32).toInt : ℝ) : EReal) = 0
  simp

/-- The zero that fills an array of half precision. -/
theorem zero_fill' : (sitofp (F := Ideal) FTy.bf16 (constantI S_ 32 0#32) : FVec Ideal S_ .bf16) = fun _ => (0 : EReal) := funext fun _ => by
  show (((0#32 : BitVec 32).toInt : ℝ) : EReal) = 0
  simp

/-- The factors, followed by 96 zeros, as one row. -/
theorem op_u (c : Dev nD) : V m c main_v1 = broadcastInDim S1x3456 ![1] bcast_S3456_S1x3456_1 (pad S3456 ![0] ![96] ![0] (m ((c : Thread nD τ).loc main_arg1)) (fun _ => (0 : EReal)) pads_S3360_S3456_0960 h_S_) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  refine Eq.trans ?_ (congrArg (fun v => broadcastInDim S1x3456 ![1] bcast_S3456_S1x3456_1 (pad S3456 ![0] ![96] ![0] (m ((c : Thread nD τ).loc main_arg1)) v pads_S3360_S3456_0960 h_S_)) zero_fill)
  rfl

/-- The zero row before each prompt. -/
theorem op_p (c : Dev nD) : V m c main_v21 = broadcastInDim S2x1x3456 ![] bcast_S_S2x1x3456 (constant (F := Ideal) S_ .f32 0x00000000#32) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

/-- The matrix of the decay, followed by rows of zeros. -/
theorem op_w (c : Dev nD) : V m c main_v8 = pad S384x1024 ![0, 0] ![320, 0] ![0, 0] (m ((c : Thread nD τ).loc main_arg7)) (fun _ => (0 : EReal)) pads_S64x1024_S384x1024_03200_000 h_S_ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  refine Eq.trans ?_ (congrArg (fun v => pad S384x1024 ![0, 0] ![320, 0] ![0, 0] (m ((c : Thread nD τ).loc main_arg7)) v pads_S64x1024_S384x1024_03200_000 h_S_) zero_fill')
  rfl

/-- The matrix of the rate, between rows of zeros. -/
theorem op_a (c : Dev nD) : V m c main_v10 = pad S384x1024 ![64, 0] ![256, 0] ![0, 0] (m ((c : Thread nD τ).loc main_arg8)) (fun _ => (0 : EReal)) pads_S64x1024_S384x1024_642560_000 h_S_ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  refine Eq.trans ?_ (congrArg (fun v => pad S384x1024 ![64, 0] ![256, 0] ![0, 0] (m ((c : Thread nD τ).loc main_arg8)) v pads_S64x1024_S384x1024_642560_000 h_S_) zero_fill')
  rfl

/-- The matrix of the gate, between rows of zeros. -/
theorem op_g (c : Dev nD) : V m c main_v12 = pad S384x1024 ![128, 0] ![96, 0] ![0, 0] (m ((c : Thread nD τ).loc main_arg9)) (fun _ => (0 : EReal)) pads_S160x1024_S384x1024_128960_000 h_S_ := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  refine Eq.trans ?_ (congrArg (fun v => pad S384x1024 ![128, 0] ![96, 0] ![0, 0] (m ((c : Thread nD τ).loc main_arg9)) v pads_S160x1024_S384x1024_128960_000 h_S_) zero_fill')
  rfl

/-- The offsets of the decay, as one row. -/
theorem op_w0 (c : Dev nD) : V m c main_v2 = broadcastInDim S1x1024 ![1] bcast_S1024_S1x1024_1 (m ((c : Thread nD τ).loc main_arg2)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

/-- The offsets of the rate, as one row. -/
theorem op_a0 (c : Dev nD) : V m c main_v3 = broadcastInDim S1x1024 ![1] bcast_S1024_S1x1024_1 (m ((c : Thread nD τ).loc main_arg3)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

/-- The factors of the key, as one row. -/
theorem op_ka (c : Dev nD) : V m c main_v5 = broadcastInDim S1x1024 ![1] bcast_S1024_S1x1024_1 (m ((c : Thread nD τ).loc main_arg5)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_results
  try rfl

/-- Which block each window holds at a grid point. -/
theorem idx : ∀ t : Fin cfg0.N, win0_0.index t = ![t.val, 0] ∧ win0_1.index t = ![t.val / 32, 0, 0]
    ∧ win0_2.index t = ![0, 0] ∧ win0_3.index t = ![0, 0] ∧ win0_4.index t = ![0, 0] ∧ win0_6.index t = ![0, 0]
    ∧ win0_8.index t = ![0, 0] ∧ win0_9.index t = ![0, 0] ∧ win0_10.index t = ![0, 0]
    ∧ win0_12.index t = ![t.val, 0] ∧ win0_13.index t = ![t.val, 0] ∧ win0_14.index t = ![t.val, 0]
    ∧ win0_15.index t = ![t.val, 0] ∧ win0_18.index t = ![t.val, 0] ∧ win0_20.index t = ![t.val / 32, 0, 0] :=
  (by decide +kernel : ∀ t : Fin grid0.N, _)

theorem lt (t : Fin cfg0.N) : t.val < 64 := t.isLt

/-- The prompt of a grid point. -/
def smp (t : Fin cfg0.N) : Fin 2 := ⟨t.val / 32, by have := lt t; omega⟩

/-- The row of its prompt that a point's block has its row `a` from. -/
def pos (t : Fin cfg0.N) (a : Fin 256) : Fin 8192 := ⟨t.val % 32 * 256 + a.val, by omega⟩

theorem blk_x (c : Dev nD) (t : Fin cfg0.N) (a : Fin 256) (q : Fin 3456) :
    (iblk m c 0 t (ix2 a q) : EReal) = A0 m c (ix2 (⟨t.val * 256 + a.val, by have := lt t; omega⟩ : Fin 17408) q) := by
  obtain ⟨e0, e1, e2, e3, e4, e6, e8, e9, e10, e12, e13, e14, e15, e18, e20⟩ := idx t
  blk_ext [iblk, V, e0]

theorem blk_p (c : Dev nD) (t : Fin cfg0.N) (q : Fin 3456) :
    iblk m c 1 t (ix3 (0 : Fin 1) (0 : Fin 1) q) = (0 : EReal) := by
  blk_simp [iblk]
  rw [op_p]
  pointwise

theorem pad_row (X : FVec Ideal S3360 .f32) (q : Fin 3360) :
    pad S3456 ![0] ![96] ![0] X (fun _ => (0 : EReal)) pads_S3360_S3456_0960 h_S_ (ix1 (⟨q.val, by omega⟩ : Fin 3456)) = X (ix1 q) := by
  refine pad_apply_of_inside _ _ _ X _ _ _ _ (ix1 q) fun a => ?_
  match a with
  | ⟨0, _⟩ => show q.val = 0 + q.val * (0 + 1); omega

theorem blk_u (c : Dev nD) (t : Fin cfg0.N) (q : Fin 3360) :
    (iblk m c 2 t (ix2 (0 : Fin 1) (⟨q.val, by omega⟩ : Fin 3456)) : EReal) = A1 m c (ix1 q) := by
  obtain ⟨e0, e1, e2, e3, e4, e6, e8, e9, e10, e12, e13, e14, e15, e18, e20⟩ := idx t
  have h : ∀ X : FVec Ideal S3456 .f32, broadcastInDim S1x3456 ![1] bcast_S3456_S1x3456_1 X
      (((View.whole main_v1).slice (win0_2.rect t)).emb (ix2 (0 : Fin 1) (⟨q.val, by omega⟩ : Fin 3456))) = X (ix1 (⟨q.val, by omega⟩ : Fin 3456)) := by
    intro X
    pointwise
    blk_ext [e2]
  blk_simp [iblk]
  rw [op_u]
  exact (h _).trans (pad_row (A1 m c) q)

theorem blk_w0 (c : Dev nD) (t : Fin cfg0.N) (q : Fin 1024) :
    (iblk m c 3 t (ix2 (0 : Fin 1) q) : EReal) = (m ((c : Thread nD τ).loc main_arg2) : FVec Ideal S1024 .f32) (ix1 q) := by
  obtain ⟨e0, e1, e2, e3, e4, e6, e8, e9, e10, e12, e13, e14, e15, e18, e20⟩ := idx t
  blk_simp [iblk]
  rw [op_w0]
  pointwise
  blk_ext [e3]

theorem blk_a0 (c : Dev nD) (t : Fin cfg0.N) (q : Fin 1024) :
    (iblk m c 4 t (ix2 (0 : Fin 1) q) : EReal) = (m ((c : Thread nD τ).loc main_arg3) : FVec Ideal S1024 .f32) (ix1 q) := by
  obtain ⟨e0, e1, e2, e3, e4, e6, e8, e9, e10, e12, e13, e14, e15, e18, e20⟩ := idx t
  blk_simp [iblk]
  rw [op_a0]
  pointwise
  blk_ext [e4]

theorem blk_ka (c : Dev nD) (t : Fin cfg0.N) (q : Fin 1024) :
    (iblk m c 6 t (ix2 (0 : Fin 1) q) : EReal) = (m ((c : Thread nD τ).loc main_arg5) : FVec Ideal S1024 .f32) (ix1 q) := by
  obtain ⟨e0, e1, e2, e3, e4, e6, e8, e9, e10, e12, e13, e14, e15, e18, e20⟩ := idx t
  blk_simp [iblk]
  rw [op_ka]
  pointwise
  blk_ext [e6]

theorem blk_w (c : Dev nD) (t : Fin cfg0.N) (j : Fin 64) (q : Fin 1024) :
    (iblk m c 8 t (ix2 (⟨0 + j.val, by omega⟩ : Fin 384) q) : EReal) = (m ((c : Thread nD τ).loc main_arg7) : FVec Ideal S64x1024 .f32) (ix2 j q) := by
  obtain ⟨e0, e1, e2, e3, e4, e6, e8, e9, e10, e12, e13, e14, e15, e18, e20⟩ := idx t
  have f0 : (((View.whole main_v8).slice (win0_8.rect t)).emb (ix2 (⟨j.val, by omega⟩ : Fin 384) q) 0).val = j.val := by blk_simp [e8]
  have f1 : (((View.whole main_v8).slice (win0_8.rect t)).emb (ix2 (⟨j.val, by omega⟩ : Fin 384) q) 1).val = q.val := by blk_simp [e8]
  blk_simp [iblk]
  rw [op_w]
  refine pad_apply_of_inside _ _ _ (m ((c : Thread nD τ).loc main_arg7) : FVec Ideal S64x1024 .f32) _ _ _ _ (ix2 j q) fun a => ?_
  match a with
  | ⟨0, _⟩ => exact f0.trans (by show j.val = 0 + j.val * (0 + 1); omega)
  | ⟨1, _⟩ => exact f1.trans (by show q.val = 0 + q.val * (0 + 1); omega)

theorem blk_w_zero (c : Dev nD) (t : Fin cfg0.N) (q : Fin 1024) (j : Fin 384) (hj : ¬(0 ≤ j.val ∧ j.val < 0 + 64)) :
    iblk m c 8 t (ix2 j q) = (0 : EReal) := by
  obtain ⟨e0, e1, e2, e3, e4, e6, e8, e9, e10, e12, e13, e14, e15, e18, e20⟩ := idx t
  have f0 : (((View.whole main_v8).slice (win0_8.rect t)).emb (ix2 j q) 0).val = j.val := by blk_simp [e8]
  blk_simp [iblk]
  rw [op_w]
  refine pad_apply_of_not_inside _ _ _ (m ((c : Thread nD τ).loc main_arg7) : FVec Ideal S64x1024 .f32) _ _ _ _ 0 fun ha => hj ?_
  have h1 : 0 ≤ (((View.whole main_v8).slice (win0_8.rect t)).emb (ix2 j q) 0).val := ha.1
  have h3 : ((((View.whole main_v8).slice (win0_8.rect t)).emb (ix2 j q) 0).val - 0) / (0 + 1) < 64 := ha.2.2
  rw [f0] at h1 h3
  omega

theorem blk_a (c : Dev nD) (t : Fin cfg0.N) (j : Fin 64) (q : Fin 1024) :
    (iblk m c 9 t (ix2 (⟨64 + j.val, by omega⟩ : Fin 384) q) : EReal) = (m ((c : Thread nD τ).loc main_arg8) : FVec Ideal S64x1024 .f32) (ix2 j q) := by
  obtain ⟨e0, e1, e2, e3, e4, e6, e8, e9, e10, e12, e13, e14, e15, e18, e20⟩ := idx t
  have f0 : (((View.whole main_v10).slice (win0_9.rect t)).emb (ix2 (⟨64 + j.val, by omega⟩ : Fin 384) q) 0).val = 64 + j.val := by blk_simp [e9]
  have f1 : (((View.whole main_v10).slice (win0_9.rect t)).emb (ix2 (⟨64 + j.val, by omega⟩ : Fin 384) q) 1).val = q.val := by blk_simp [e9]
  blk_simp [iblk]
  rw [op_a]
  refine pad_apply_of_inside _ _ _ (m ((c : Thread nD τ).loc main_arg8) : FVec Ideal S64x1024 .f32) _ _ _ _ (ix2 j q) fun a => ?_
  match a with
  | ⟨0, _⟩ => exact f0.trans (by show 64 + j.val = 64 + j.val * (0 + 1); omega)
  | ⟨1, _⟩ => exact f1.trans (by show q.val = 0 + q.val * (0 + 1); omega)

theorem blk_a_zero (c : Dev nD) (t : Fin cfg0.N) (q : Fin 1024) (j : Fin 384) (hj : ¬(64 ≤ j.val ∧ j.val < 64 + 64)) :
    iblk m c 9 t (ix2 j q) = (0 : EReal) := by
  obtain ⟨e0, e1, e2, e3, e4, e6, e8, e9, e10, e12, e13, e14, e15, e18, e20⟩ := idx t
  have f0 : (((View.whole main_v10).slice (win0_9.rect t)).emb (ix2 j q) 0).val = j.val := by blk_simp [e9]
  blk_simp [iblk]
  rw [op_a]
  refine pad_apply_of_not_inside _ _ _ (m ((c : Thread nD τ).loc main_arg8) : FVec Ideal S64x1024 .f32) _ _ _ _ 0 fun ha => hj ?_
  have h1 : 64 ≤ (((View.whole main_v10).slice (win0_9.rect t)).emb (ix2 j q) 0).val := ha.1
  have h3 : ((((View.whole main_v10).slice (win0_9.rect t)).emb (ix2 j q) 0).val - 64) / (0 + 1) < 64 := ha.2.2
  rw [f0] at h1 h3
  omega

theorem blk_g (c : Dev nD) (t : Fin cfg0.N) (j : Fin 160) (q : Fin 1024) :
    (iblk m c 10 t (ix2 (⟨128 + j.val, by omega⟩ : Fin 384) q) : EReal) = (m ((c : Thread nD τ).loc main_arg9) : FVec Ideal S160x1024 .f32) (ix2 j q) := by
  obtain ⟨e0, e1, e2, e3, e4, e6, e8, e9, e10, e12, e13, e14, e15, e18, e20⟩ := idx t
  have f0 : (((View.whole main_v12).slice (win0_10.rect t)).emb (ix2 (⟨128 + j.val, by omega⟩ : Fin 384) q) 0).val = 128 + j.val := by blk_simp [e10]
  have f1 : (((View.whole main_v12).slice (win0_10.rect t)).emb (ix2 (⟨128 + j.val, by omega⟩ : Fin 384) q) 1).val = q.val := by blk_simp [e10]
  blk_simp [iblk]
  rw [op_g]
  refine pad_apply_of_inside _ _ _ (m ((c : Thread nD τ).loc main_arg9) : FVec Ideal S160x1024 .f32) _ _ _ _ (ix2 j q) fun a => ?_
  match a with
  | ⟨0, _⟩ => exact f0.trans (by show 128 + j.val = 128 + j.val * (0 + 1); omega)
  | ⟨1, _⟩ => exact f1.trans (by show q.val = 0 + q.val * (0 + 1); omega)

theorem blk_g_zero (c : Dev nD) (t : Fin cfg0.N) (q : Fin 1024) (j : Fin 384) (hj : ¬(128 ≤ j.val ∧ j.val < 128 + 160)) :
    iblk m c 10 t (ix2 j q) = (0 : EReal) := by
  obtain ⟨e0, e1, e2, e3, e4, e6, e8, e9, e10, e12, e13, e14, e15, e18, e20⟩ := idx t
  have f0 : (((View.whole main_v12).slice (win0_10.rect t)).emb (ix2 j q) 0).val = j.val := by blk_simp [e10]
  blk_simp [iblk]
  rw [op_g]
  refine pad_apply_of_not_inside _ _ _ (m ((c : Thread nD τ).loc main_arg9) : FVec Ideal S160x1024 .f32) _ _ _ _ 0 fun ha => hj ?_
  have h1 : 128 ≤ (((View.whole main_v12).slice (win0_10.rect t)).emb (ix2 j q) 0).val := ha.1
  have h3 : ((((View.whole main_v12).slice (win0_10.rect t)).emb (ix2 j q) 0).val - 128) / (0 + 1) < 160 := ha.2.2
  rw [f0] at h1 h3
  omega

/-- Two rows of the projected array with the same number are the same. -/
theorem same_row (c : Dev nD) (i j : Fin 17408) (q : Fin 3456) (h : i.val = j.val) : A0 m c (ix2 i q) = A0 m c (ix2 j q) := by
  rw [Fin.ext h]

/-- The mixed rows of a grid point are the prompt's, when the row before the block is zero at the
    start of a prompt and the row before elsewhere. -/
theorem mixed_of (c : Dev nD) (t : Fin cfg0.N) (p : FVec Ideal S1x3456 .f32)
    (hz : t.val % 32 = 0 → ∀ q, p (ix2 (0 : Fin 1) q) = (0 : EReal))
    (hp : t.val % 32 ≠ 0 → ∀ q, p (ix2 (0 : Fin 1) q) = A0 m c (ix2 (⟨t.val * 256 - 1, by have := lt t; omega⟩ : Fin 17408) q))
    (a : Fin 256) (q : Fin 3360) :
    k0_pay4 (F := Ideal) (iblk m c 0 t) p (iblk m c 2 t) (ix2 a (⟨q.val, by omega⟩ : Fin 3456))
      = mix (A0 m c) (A1 m c) (smp t) (pos t a) q := by
  have hr : t.val * 256 + a.val = (smp t).val * 8192 + (pos t a).val := by
    show t.val * 256 + a.val = t.val / 32 * 8192 + (t.val % 32 * 256 + a.val)
    omega
  rw [ker_mix, blk_x, blk_x, blk_u]
  refine congrArg₂ (fun z w : EReal => z + A1 m c (ix1 q) * (w - z)) (same_row m c _ _ _ hr) ?_
  have hpos : (pos t a).val = t.val % 32 * 256 + a.val := rfl
  by_cases ha : a.val = 0
  · rw [if_pos ha]
    by_cases h0 : t.val % 32 = 0
    · rw [hz h0, if_pos (by omega)]
    · rw [hp h0, if_neg (by omega)]
      exact same_row m c _ _ _ (by show t.val * 256 - 1 = (smp t).val * 8192 + ((pos t a).val - 1); omega)
  · rw [if_neg ha, if_neg (by omega)]
    exact same_row m c _ _ _ (by show t.val * 256 + (a.val - 1) = (smp t).val * 8192 + ((pos t a).val - 1); omega)

/-- At the start of a prompt the row before is zero. -/
theorem mixed (c : Dev nD) (t : Fin cfg0.N) (h0 : t.val % 32 = 0) (a : Fin 256) (q : Fin 3360) :
    k0_pay4 (F := Ideal) (iblk m c 0 t) (k0_pay1 (iblk m c 1 t)) (iblk m c 2 t) (ix2 a (⟨q.val, by omega⟩ : Fin 3456))
      = mix (A0 m c) (A1 m c) (smp t) (pos t a) q :=
  mixed_of m c t _ (fun _ q => (ker_prev _ q).trans (blk_p m c t q)) (fun h => absurd h0 h) a q

/-- A point leaves the last row of its block for the next one. -/
theorem keep (c : Dev nD) (t : Fin cfg0.N) (q : Fin 3456) :
    (outsAt0 m c t.val t.isLt).2.2.2.2.2.2.2.2.2 (ix2 (0 : Fin 1) q)
      = A0 m c (ix2 (⟨t.val * 256 + 255, by have := lt t; omega⟩ : Fin 17408) q) := by
  by_cases h0 : t.val % 32 = 0
  · rw [outsAt0_A m c t h0]
    frame_out
    rw [ker_keep, blk_x]
    rfl
  · rw [outsAt0_B m c t h0]
    frame_out
    rw [ker_keep, blk_x]
    rfl

/-- Elsewhere the row before is the one that the point before left. -/
theorem mixed' (c : Dev nD) (t : Fin cfg0.N) (h0 : ¬t.val % 32 = 0) (a : Fin 256) (q : Fin 3360) :
    k0_pay4 (F := Ideal) (iblk m c 0 t)
        (outsAt0 m c (t.val - 1) (Nat.lt_of_le_of_lt (Nat.sub_le _ _) t.isLt)).2.2.2.2.2.2.2.2.2 (iblk m c 2 t)
        (ix2 a (⟨q.val, by omega⟩ : Fin 3456))
      = mix (A0 m c) (A1 m c) (smp t) (pos t a) q :=
  mixed_of m c t _ (fun h => absurd h h0)
    (fun _ q => (keep m c ⟨t.val - 1, Nat.lt_of_le_of_lt (Nat.sub_le _ _) t.isLt⟩ q).trans
      (same_row m c _ _ _ (by show (t.val - 1) * 256 + 255 = t.val * 256 - 1; omega))) a q

/-- The row of the call's arrays that a point's block has its row `a` from. -/
def rowOf (t : Fin cfg0.N) (a : Fin 256) : Fin 16384 := ⟨t.val * 256 + a.val, by have := lt t; omega⟩

theorem row_div (t : Fin cfg0.N) (a : Fin 256) (h : (rowOf t a).val / 8192 < 2) : (⟨(rowOf t a).val / 8192, h⟩ : Fin 2) = smp t :=
  Fin.ext (by show (t.val * 256 + a.val) / 8192 = t.val / 32; omega)

theorem row_mod (t : Fin cfg0.N) (a : Fin 256) (h : (rowOf t a).val % 8192 < 8192) : (⟨(rowOf t a).val % 8192, h⟩ : Fin 8192) = pos t a :=
  Fin.ext (by show (t.val * 256 + a.val) % 8192 = t.val % 32 * 256 + a.val; omega)

/-- The receptance as the reference states it. -/
abbrev want_r (c : Dev nD) : (⟨S16384x1024, .f32⟩ : BufTy).Contents (Elt Ideal) :=
  Cert.PrePRefIdeal.Read.val_main_v54 (F := Ideal) (A0 m c) (A1 m c)

/-- The logarithm of the decay as the reference states it. -/
abbrev want_lw (c : Dev nD) : (⟨S16384x1024, .f32⟩ : BufTy).Contents (Elt Ideal) :=
  Cert.PrePRefIdeal.Read.val_main_v55 (F := Ideal) (A0 m c) (A1 m c) (m ((c : Thread nD τ).loc main_arg2))
    (m ((c : Thread nD τ).loc main_arg7))

/-- The key as the reference states it. -/
abbrev want_k (c : Dev nD) : (⟨S16384x1024, .f32⟩ : BufTy).Contents (Elt Ideal) :=
  Cert.PrePRefIdeal.Read.val_main_v56 (F := Ideal) (A0 m c) (A1 m c) (m ((c : Thread nD τ).loc main_arg3))
    (m ((c : Thread nD τ).loc main_arg5)) (m ((c : Thread nD τ).loc main_arg8))

/-- The value as the reference states it. -/
abbrev want_v (c : Dev nD) : (⟨S16384x1024, .f32⟩ : BufTy).Contents (Elt Ideal) :=
  Cert.PrePRefIdeal.Read.val_main_v57 (F := Ideal) (A0 m c) (A1 m c)

/-- The gate as the reference states it. -/
abbrev want_g (c : Dev nD) : (⟨S16384x1024, .f32⟩ : BufTy).Contents (Elt Ideal) :=
  Cert.PrePRefIdeal.Read.val_main_v58 (F := Ideal) (A0 m c) (A1 m c) (m ((c : Thread nD τ).loc main_arg9))

/-- The last rows as the reference states them. -/
abbrev want_last (c : Dev nD) : (⟨S2x1x3456, .f32⟩ : BufTy).Contents (Elt Ideal) :=
  Cert.PrePRefIdeal.Read.val_main_v59 (F := Ideal) (A0 m c)

/-- One element of a point's receptance is the reference's. -/
theorem point_r (c : Dev nD) (t : Fin cfg0.N) (a : Fin 256) (q : Fin 1024) :
    (outsAt0 m c t.val t.isLt).1 (ix2 a q) = want_r m c (ix2 (rowOf t a) q) := by
  unfold want_r
  rw [ref_r, row_div, row_mod]
  by_cases h0 : t.val % 32 = 0
  · rw [outsAt0_A m c t h0]
    frame_out
    rw [ker_r, ← mixed m c t h0]
  · rw [outsAt0_B m c t h0]
    frame_out
    simp only [read_unread_whole]
    rw [ker_r, ← mixed' m c t h0]

/-- One element of a point's logarithm of the decay is the reference's. -/
theorem point_lw (c : Dev nD) (t : Fin cfg0.N) (a : Fin 256) (q : Fin 1024) :
    (outsAt0 m c t.val t.isLt).2.1 (ix2 a q) = want_lw m c (ix2 (rowOf t a) q) := by
  unfold want_lw
  rw [ref_lw, row_div, row_mod]
  by_cases h0 : t.val % 32 = 0
  · rw [outsAt0_A m c t h0]
    frame_out
    rw [ker_lw _ _ _ _ _ _ _ (blk_w_zero m c t q), blk_w0]
    simp only [mixed m c t h0, blk_w]
  · rw [outsAt0_B m c t h0]
    frame_out
    simp only [read_unread_whole]
    rw [ker_lw _ _ _ _ _ _ _ (blk_w_zero m c t q), blk_w0]
    simp only [mixed' m c t h0, blk_w]

/-- One element of a point's key is the reference's. -/
theorem point_k (c : Dev nD) (t : Fin cfg0.N) (a : Fin 256) (q : Fin 1024) :
    (outsAt0 m c t.val t.isLt).2.2.1 (ix2 a q) = want_k m c (ix2 (rowOf t a) q) := by
  unfold want_k
  rw [ref_k, row_div, row_mod]
  by_cases h0 : t.val % 32 = 0
  · rw [outsAt0_A m c t h0]
    frame_out
    rw [ker_k _ _ _ _ _ _ _ _ (blk_a_zero m c t q), blk_a0, blk_ka]
    simp only [mixed m c t h0, blk_a]
  · rw [outsAt0_B m c t h0]
    frame_out
    simp only [read_unread_whole]
    rw [ker_k _ _ _ _ _ _ _ _ (blk_a_zero m c t q), blk_a0, blk_ka]
    simp only [mixed' m c t h0, blk_a]

/-- One element of a point's value is the reference's. -/
theorem point_v (c : Dev nD) (t : Fin cfg0.N) (a : Fin 256) (q : Fin 1024) :
    (outsAt0 m c t.val t.isLt).2.2.2.1 (ix2 a q) = want_v m c (ix2 (rowOf t a) q) := by
  unfold want_v
  rw [ref_v, row_div, row_mod]
  by_cases h0 : t.val % 32 = 0
  · rw [outsAt0_A m c t h0]
    frame_out
    rw [ker_v, ← mixed m c t h0]
  · rw [outsAt0_B m c t h0]
    frame_out
    simp only [read_unread_whole]
    rw [ker_v, ← mixed' m c t h0]

/-- One element of a point's gate is the reference's. -/
theorem point_g (c : Dev nD) (t : Fin cfg0.N) (a : Fin 256) (q : Fin 1024) :
    (outsAt0 m c t.val t.isLt).2.2.2.2.2.2.1 (ix2 a q) = want_g m c (ix2 (rowOf t a) q) := by
  unfold want_g
  rw [ref_g, row_div, row_mod]
  by_cases h0 : t.val % 32 = 0
  · rw [outsAt0_A m c t h0]
    frame_out
    rw [ker_g _ _ _ _ _ _ (blk_g_zero m c t q)]
    simp only [mixed m c t h0, blk_g]
  · rw [outsAt0_B m c t h0]
    frame_out
    simp only [read_unread_whole]
    rw [ker_g _ _ _ _ _ _ (blk_g_zero m c t q)]
    simp only [mixed' m c t h0, blk_g]

/-- One element of a point's last row is the reference's. -/
theorem point_last (c : Dev nD) (t : Fin cfg0.N) (o o' : Fin 1) (q : Fin 3456) (hf : t.val % 32 = 31) :
    (outsAt0 m c t.val t.isLt).2.2.2.2.2.2.2.2.1 (ix3 o o' q) = want_last m c (ix3 (smp t) o' q) := by
  unfold want_last
  rw [ref_last]
  by_cases h0 : t.val % 32 = 0
  · rw [outsAt0_A m c t h0]
    frame_out
    rw [ker_last, blk_x]
    exact same_row m c _ _ _ (by show t.val * 256 + 255 = t.val / 32 * 8192 + 8191; omega)
  · rw [outsAt0_B m c t h0]
    frame_out
    rw [ker_last, blk_x]
    exact same_row m c _ _ _ (by show t.val * 256 + 255 = t.val / 32 * 8192 + 8191; omega)

/-- The receptance after the run is the reference's. -/
theorem final_r (c : Dev nD) : (dats m 0 c).arrAt 12 cfg0.N = want_r m c := by
  refine (dats m 0 c).arrAt_eq_of_covers 12 _ (by decide +kernel) fun t _ y => ?_
  obtain ⟨e0, e1, e2, e3, e4, e6, e8, e9, e10, e12, e13, e14, e15, e18, e20⟩ := idx t
  blk_simp
  rw [after0_12]
  refine (congrArg _ (eq_ix2 y)).trans ((point_r m c t (y 0) (y 1)).trans (congrArg (want_r m c) ?_))
  blk_ext [e12, rowOf]

/-- The logarithm of the decay after the run is the reference's. -/
theorem final_lw (c : Dev nD) : (dats m 0 c).arrAt 13 cfg0.N = want_lw m c := by
  refine (dats m 0 c).arrAt_eq_of_covers 13 _ (by decide +kernel) fun t _ y => ?_
  obtain ⟨e0, e1, e2, e3, e4, e6, e8, e9, e10, e12, e13, e14, e15, e18, e20⟩ := idx t
  blk_simp
  rw [after0_13]
  refine (congrArg _ (eq_ix2 y)).trans ((point_lw m c t (y 0) (y 1)).trans (congrArg (want_lw m c) ?_))
  blk_ext [e13, rowOf]

/-- The key after the run is the reference's. -/
theorem final_k (c : Dev nD) : (dats m 0 c).arrAt 14 cfg0.N = want_k m c := by
  refine (dats m 0 c).arrAt_eq_of_covers 14 _ (by decide +kernel) fun t _ y => ?_
  obtain ⟨e0, e1, e2, e3, e4, e6, e8, e9, e10, e12, e13, e14, e15, e18, e20⟩ := idx t
  blk_simp
  rw [after0_14]
  refine (congrArg _ (eq_ix2 y)).trans ((point_k m c t (y 0) (y 1)).trans (congrArg (want_k m c) ?_))
  blk_ext [e14, rowOf]

/-- The value after the run is the reference's. -/
theorem final_v (c : Dev nD) : (dats m 0 c).arrAt 15 cfg0.N = want_v m c := by
  refine (dats m 0 c).arrAt_eq_of_covers 15 _ (by decide +kernel) fun t _ y => ?_
  obtain ⟨e0, e1, e2, e3, e4, e6, e8, e9, e10, e12, e13, e14, e15, e18, e20⟩ := idx t
  blk_simp
  rw [after0_15]
  refine (congrArg _ (eq_ix2 y)).trans ((point_v m c t (y 0) (y 1)).trans (congrArg (want_v m c) ?_))
  blk_ext [e15, rowOf]

/-- The gate after the run is the reference's. -/
theorem final_g (c : Dev nD) : (dats m 0 c).arrAt 18 cfg0.N = want_g m c := by
  refine (dats m 0 c).arrAt_eq_of_covers 18 _ (by decide +kernel) fun t _ y => ?_
  obtain ⟨e0, e1, e2, e3, e4, e6, e8, e9, e10, e12, e13, e14, e15, e18, e20⟩ := idx t
  blk_simp
  rw [after0_18]
  refine (congrArg _ (eq_ix2 y)).trans ((point_g m c t (y 0) (y 1)).trans (congrArg (want_g m c) ?_))
  blk_ext [e18, rowOf]

/-- The last rows after the run are the reference's. -/
theorem final_last (c : Dev nD) : (dats m 0 c).arrAt 20 cfg0.N = want_last m c := by
  refine (dats m 0 c).arrAt_eq_of_covers 20 _ (by decide +kernel) fun t hf y => ?_
  obtain ⟨e0, e1, e2, e3, e4, e6, e8, e9, e10, e12, e13, e14, e15, e18, e20⟩ := idx t
  blk_simp
  rw [after0_20]
  refine (congrArg _ (eq_ix3 y)).trans ((point_last m c t (y 0) (y 1) (y 2) ((flush0_20 t).mp hf)).trans (congrArg (want_last m c) ?_))
  blk_ext [e20, smp]

end Cert.PrePValue
-- ==== Proof.PrePClaim.lean ====
module

public import proofs.«01_k».proof.Proof.Gen.PrePIdeal.Value
public import proofs.«01_k».proof.Proof.Gen.PrePRefIdeal.Read
public import proofs.«01_k».proof.Proof.Gen.PrePRefIdeal.Run
public import proofs.«01_k».proof.Proof.PrePRefs
public import proofs.«01_k».proof.Proof.PrePKernel
public import proofs.«01_k».proof.Proof.PreP
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.PrePValue

open Cert.PrePIdeal Cert.PrePIdeal.Gen Idealize.ShloMosaic Idealize.ShloMosaic.TcCoe Idealize.SL.Sem
open Idealize.ShloMosaic.Pipeline (Dat)
open Cert.PreMath Cert.PrePKernel Cert.PrePRefMath

set_option maxHeartbeats 1000000 in
/-- From the same arrays the kernel and the reference return the same six arrays, over the extended reals. -/
theorem algebraic : Cert.algebraic_PrePIdeal_PrePRefIdeal := by
  pair_intro
  · run_from Value.run_blocks m g
  · run_from Cert.PrePRefIdeal.Value.run m' g'
    · rw [Cert.PrePRefIdeal.Read.val_main_v54_eq]
      exact (final_r m c).symm
    · rw [Cert.PrePRefIdeal.Read.val_main_v55_eq, (hagree c).1, (hagree c).2.1, (hagree c).2.2.1,
        (hagree c).2.2.2.2.2.2.2.1]
      exact (final_lw m c).symm
    · rw [Cert.PrePRefIdeal.Read.val_main_v56_eq]
      exact (final_k m c).symm
    · rw [Cert.PrePRefIdeal.Read.val_main_v57_eq]
      exact (final_v m c).symm
    · rw [Cert.PrePRefIdeal.Read.val_main_v58_eq]
      exact (final_g m c).symm
    · rw [Cert.PrePRefIdeal.Read.val_main_v59_eq]
      exact (final_last m c).symm

end Cert.PrePValue
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.ProjAb
public import proofs.«01_k».proof.Proof.Gen.ProjAb.Skeleton
public import proofs.«01_k».proof.Proof.Gen.ProjAb.Launch
public import proofs.«01_k».proof.Proof.Gen.ProjAb.Points
public import proofs.«01_k».proof.Proof.Gen.ProjAb.Frame
public import proofs.«01_k».proof.Proof.Gen.ProjAbIdeal
public import proofs.«01_k».proof.Proof.Gen.ProjAbIdeal.Skeleton
public import proofs.«01_k».proof.Proof.Gen.ProjAbIdeal.Launch
public import proofs.«01_k».proof.Proof.Gen.ProjAbIdeal.Points
public import proofs.«01_k».proof.Proof.Gen.ProjAbIdeal.Frame
public import proofs.«01_k».proof.Proof.Gen.ProjAbRefIdeal
public import proofs.«01_k».proof.Proof.Gen.ProjC
public import proofs.«01_k».proof.Proof.Gen.ProjC.Skeleton
public import proofs.«01_k».proof.Proof.Gen.ProjC.Launch
public import proofs.«01_k».proof.Proof.Gen.ProjC.Points
public import proofs.«01_k».proof.Proof.Gen.ProjC.Frame
public import proofs.«01_k».proof.Proof.Gen.ProjCIdeal
public import proofs.«01_k».proof.Proof.Gen.ProjCIdeal.Skeleton
public import proofs.«01_k».proof.Proof.Gen.ProjCIdeal.Launch
public import proofs.«01_k».proof.Proof.Gen.ProjCIdeal.Points
public import proofs.«01_k».proof.Proof.Gen.ProjCIdeal.Frame
public import proofs.«01_k».proof.Proof.Gen.ProjCRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.AttnIdeal.Value
public import proofs.«01_k».proof.Proof.Gen.AttnRefIdeal.Run
public import proofs.«01_k».proof.Proof.Gen.FfnIdeal.Value
public import proofs.«01_k».proof.Proof.Gen.FfnRefIdeal.Run
public import proofs.«01_k».proof.Proof.Gen.ProjAbIdeal.Value
public import proofs.«01_k».proof.Proof.Gen.ProjAbRefIdeal.Run
public import proofs.«01_k».proof.Proof.Gen.ProjCIdeal.Value
public import proofs.«01_k».proof.Proof.Gen.ProjCRefIdeal.Run
public import proofs.«01_k».proof.Proof.Gen.GateIdeal.Value
public import proofs.«01_k».proof.Proof.Gen.GateRefIdeal.Run
public import proofs.«01_k».proof.Proof.Gen.MergeIdeal.Value
public import proofs.«01_k».proof.Proof.Gen.MergeRefIdeal.Run
public import proofs.«01_k».proof.Proof.Gen.OutProjIdeal.Value
public import proofs.«01_k».proof.Proof.Gen.OutProjRefIdeal.Run
public import proofs.«01_k».proof.Proof.Gen.AttnRefIdeal.Read
public import proofs.«01_k».proof.Proof.Gen.FfnRefIdeal.Read
public import proofs.«01_k».proof.Proof.Gen.ProjAbRefIdeal.Read
public import proofs.«01_k».proof.Proof.Gen.ProjCRefIdeal.Read
public import proofs.«01_k».proof.Proof.Gen.GateRefIdeal.Read
public import proofs.«01_k».proof.Proof.Gen.MergeRefIdeal.Read
public import proofs.«01_k».proof.Proof.Gen.OutProjRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeIdeal.Value
public import proofs.«01_k».proof.Proof.Gen.RopeRefIdeal.Run
public import proofs.«01_k».proof.Proof.Gen.RopeRefIdeal.Read
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreRefIdeal
public import proofs.«01_k».proof.Proof.Gen.PreIdeal.Value
public import proofs.«01_k».proof.Proof.Gen.PreRefIdeal.Run
public import proofs.«01_k».proof.Proof.Gen.PreRefIdeal.Read
public import proofs.«01_k».proof.Proof.Gen.PreP
public import proofs.«01_k».proof.Proof.Gen.PreP.Skeleton
public import proofs.«01_k».proof.Proof.Gen.PreP.Launch
public import proofs.«01_k».proof.Proof.Gen.PreP.Points
public import proofs.«01_k».proof.Proof.Gen.PreP.Frame
public import proofs.«01_k».proof.Proof.Gen.PrePIdeal
public import proofs.«01_k».proof.Proof.Gen.PrePIdeal.Skeleton
public import proofs.«01_k».proof.Proof.Gen.PrePIdeal.Launch
public import proofs.«01_k».proof.Proof.Gen.PrePIdeal.Points
public import proofs.«01_k».proof.Proof.Gen.PrePIdeal.Frame
public import proofs.«01_k».proof.Proof.Gen.PrePRefIdeal
public import proofs.«01_k».proof.Proof.Gen.PrePIdeal.Value
public import proofs.«01_k».proof.Proof.Gen.PrePRefIdeal.Run
public import proofs.«01_k».proof.Proof.Gen.PrePRefIdeal.Read
public import proofs.«01_k».proof.Proof.Attn
public import proofs.«01_k».proof.Proof.Ffn
public import proofs.«01_k».proof.Proof.ProjAb
public import proofs.«01_k».proof.Proof.ProjC
public import proofs.«01_k».proof.Proof.Gate
public import proofs.«01_k».proof.Proof.Merge
public import proofs.«01_k».proof.Proof.OutProj
public import proofs.«01_k».proof.Proof.Rope
public import proofs.«01_k».proof.Proof.PreClaim
public import proofs.«01_k».proof.Proof.PrePClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The shapes that the precondition broadcasts to. -/
instance pre_facts : Cert.Pre_finite_inputs.Facts where
  bcast_S_S17408x2048 := by decide
  bcast_S_S17408x6144 := by decide
  bcast_S_S4x64 := by decide

/-- The reference of `Attn` runs, leaves its arguments unchanged and every counter at zero. -/
theorem frame_AttnRefIdeal : Cert.quiescent_AttnRefIdeal := by
  intro m g _
  exact θ_run_mono (Cert.AttnRefIdeal.Value.run m g) fun r h => ⟨fun c => (h c).2, sem_eq_zero_of_no_sems rfl _⟩

/-- The reference of `Ffn` runs, leaves its arguments unchanged and every counter at zero. -/
theorem frame_FfnRefIdeal : Cert.quiescent_FfnRefIdeal := by
  intro m g _
  exact θ_run_mono (Cert.FfnRefIdeal.Value.run m g) fun r h => ⟨fun c => (h c).2, sem_eq_zero_of_no_sems rfl _⟩

/-- The reference of `ProjAb` runs, leaves its arguments unchanged and every counter at zero. -/
theorem frame_ProjAbRefIdeal : Cert.quiescent_ProjAbRefIdeal := by
  intro m g _
  exact θ_run_mono (Cert.ProjAbRefIdeal.Value.run m g) fun r h => ⟨fun c => (h c).2, sem_eq_zero_of_no_sems rfl _⟩

/-- The reference of `ProjC` runs, leaves its arguments unchanged and every counter at zero. -/
theorem frame_ProjCRefIdeal : Cert.quiescent_ProjCRefIdeal := by
  intro m g _
  exact θ_run_mono (Cert.ProjCRefIdeal.Value.run m g) fun r h => ⟨fun c => (h c).2, sem_eq_zero_of_no_sems rfl _⟩

/-- The reference of `Gate` runs, leaves its arguments unchanged and every counter at zero. -/
theorem frame_GateRefIdeal : Cert.quiescent_GateRefIdeal := by
  intro m g _
  exact θ_run_mono (Cert.GateRefIdeal.Value.run m g) fun r h => ⟨fun c => (h c).2, sem_eq_zero_of_no_sems rfl _⟩

/-- The reference of `Merge` runs, leaves its arguments unchanged and every counter at zero. -/
theorem frame_MergeRefIdeal : Cert.quiescent_MergeRefIdeal := by
  intro m g _
  exact θ_run_mono (Cert.MergeRefIdeal.Value.run m g) fun r h => ⟨fun c => (h c).2, sem_eq_zero_of_no_sems rfl _⟩

/-- The reference of `OutProj` runs, leaves its arguments unchanged and every counter at zero. -/
theorem frame_OutProjRefIdeal : Cert.quiescent_OutProjRefIdeal := by
  intro m g _
  exact θ_run_mono (Cert.OutProjRefIdeal.Value.run m g) fun r h => ⟨fun c => (h c).2, sem_eq_zero_of_no_sems rfl _⟩

/-- The reference of `Rope` runs, leaves its arguments unchanged and every counter at zero. -/
theorem frame_RopeRefIdeal : Cert.quiescent_RopeRefIdeal := by
  intro m g _
  exact θ_run_mono (Cert.RopeRefIdeal.Value.run m g) fun r h => ⟨fun c => (h c).2.2, sem_eq_zero_of_no_sems rfl _⟩

/-- The reference of `Pre` runs, leaves its arguments unchanged and every counter at zero. -/
theorem frame_PreRefIdeal : Cert.quiescent_PreRefIdeal := by
  intro m g _
  exact θ_run_mono (Cert.PreRefIdeal.Value.run m g) fun r h => ⟨fun c => (h c).2.2.2.2.2.2, sem_eq_zero_of_no_sems rfl _⟩

/-- The reference of `PreP` runs, leaves its arguments unchanged and every counter at zero. -/
theorem frame_PrePRefIdeal : Cert.quiescent_PrePRefIdeal := by
  intro m g _
  exact θ_run_mono (Cert.PrePRefIdeal.Value.run m g) fun r h => ⟨fun c => (h c).2.2.2.2.2.2, sem_eq_zero_of_no_sems rfl _⟩

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.ProjAb.Gen.facts, Cert.ProjAbIdeal.Gen.facts, Cert.ProjAbRefIdeal.Gen.facts, Cert.ProjC.Gen.facts, Cert.ProjCIdeal.Gen.facts, Cert.ProjCRefIdeal.Gen.facts, Cert.Gate.Gen.facts, Cert.GateIdeal.Gen.facts, Cert.GateRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.Rope.Gen.facts, Cert.RopeIdeal.Gen.facts, Cert.RopeRefIdeal.Gen.facts, Cert.Pre.Gen.facts, Cert.PreIdeal.Gen.facts, Cert.PreRefIdeal.Gen.facts, Cert.PreP.Gen.facts, Cert.PrePIdeal.Gen.facts, Cert.PrePRefIdeal.Gen.facts, pre_facts,
  fun m g _ => Cert.Attn.Gen.frame m g,
  fun m g _ => Cert.AttnIdeal.Gen.frame m g,
  fun m g _ => Cert.AttnIdeal.Gen.frame m g,
  frame_AttnRefIdeal,
  fun m g _ => frame_AttnRefIdeal m g trivial,
  fun m g _ => Cert.Ffn.Gen.frame m g,
  fun m g _ => Cert.FfnIdeal.Gen.frame m g,
  frame_FfnRefIdeal,
  fun m g _ => Cert.ProjAb.Gen.frame m g,
  fun m g _ => Cert.ProjAbIdeal.Gen.frame m g,
  frame_ProjAbRefIdeal,
  fun m g _ => Cert.ProjC.Gen.frame m g,
  fun m g _ => Cert.ProjCIdeal.Gen.frame m g,
  frame_ProjCRefIdeal,
  fun m g _ => Cert.Gate.Gen.frame m g,
  fun m g _ => Cert.GateIdeal.Gen.frame m g,
  frame_GateRefIdeal,
  fun m g _ => Cert.Merge.Gen.frame m g,
  fun m g _ => Cert.MergeIdeal.Gen.frame m g,
  frame_MergeRefIdeal,
  fun m g _ => Cert.OutProj.Gen.frame m g,
  fun m g _ => Cert.OutProjIdeal.Gen.frame m g,
  frame_OutProjRefIdeal,
  fun m g _ => Cert.Rope.Gen.frame m g,
  fun m g _ => Cert.RopeIdeal.Gen.frame m g,
  frame_RopeRefIdeal,
  fun m g _ => Cert.Pre.Gen.frame m g,
  fun m g _ => Cert.PreIdeal.Gen.frame m g,
  frame_PreRefIdeal,
  fun m g _ => Cert.PreP.Gen.frame m g,
  fun m g _ => Cert.PrePIdeal.Gen.frame m g,
  frame_PrePRefIdeal,
  IdealRules.named_const.statement _ _ _ _ _ rfl,
  Cert.AttnValue.algebraic,
  trivial,
  Cert.FfnValue.algebraic,
  trivial,
  Cert.ProjAbValue.algebraic,
  trivial,
  Cert.ProjCValue.algebraic,
  trivial,
  Cert.GateValue.algebraic,
  trivial,
  Cert.MergeValue.algebraic,
  trivial,
  Cert.OutProjValue.algebraic,
  trivial,
  Cert.RopeValue.algebraic,
  trivial,
  Cert.PreValue.algebraic,
  trivial,
  Cert.PrePValue.algebraic⟩

end Cert.Proof

end
